-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v72_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)) (v3 : (c : Dev Cert.Kernel18Ideal.nD) → Buf (Elt Ideal) ((c.tc : Thread Cert.Kernel18Ideal.nD Cert.Kernel18Ideal.τ).loc Cert.Kernel18Ideal.main_v4_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_v4_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v31) = v0 c
          ∧ r.2.mem ((c.tc : Thread Cert.Reference18Ideal.nD Cert.Reference18Ideal.τ).loc Cert.Reference18Ideal.main_v32) = v1 c
          ∧ r.2.mem ((c.tc : Thread Cert.Reference18Ideal.nD Cert.Reference18Ideal.τ).loc Cert.Reference18Ideal.main_v33) = v2 c
          ∧ r.2.mem ((c.tc : Thread Cert.Reference18Ideal.nD Cert.Reference18Ideal.τ).loc Cert.Reference18Ideal.main_v34) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v17) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v13) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v3_0)) (v1 : (c : Dev Cert.Kernel21Ideal.nD) → Buf (Elt Ideal) ((c.tc : Thread Cert.Kernel21Ideal.nD Cert.Kernel21Ideal.τ).loc Cert.Kernel21Ideal.main_v3_1)) (v2 : (c : Dev Cert.Kernel21Ideal.nD) → Buf (Elt Ideal) ((c.tc : Thread Cert.Kernel21Ideal.nD Cert.Kernel21Ideal.τ).loc Cert.Kernel21Ideal.main_v3_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3_0) = v0 c
          ∧ r.2.mem ((c.tc : Thread Cert.Kernel21Ideal.nD Cert.Kernel21Ideal.τ).loc Cert.Kernel21Ideal.main_v3_1) = v1 c
          ∧ r.2.mem ((c.tc : Thread Cert.Kernel21Ideal.nD Cert.Kernel21Ideal.τ).loc Cert.Kernel21Ideal.main_v3_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v25) = v0 c
          ∧ r.2.mem ((c.tc : Thread Cert.Reference21Ideal.nD Cert.Reference21Ideal.τ).loc Cert.Reference21Ideal.main_v26) = v1 c
          ∧ r.2.mem ((c.tc : Thread Cert.Reference21Ideal.nD Cert.Reference21Ideal.τ).loc Cert.Reference21Ideal.main_v27) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v3) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v29) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v55) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v21) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S1x4096x8x128 : Shape := ⟨4, ![1, 4096, 8, 128]⟩
abbrev S1x4096x8 : Shape := ⟨3, ![1, 4096, 8]⟩
abbrev S1x8x64x128x128 : Shape := ⟨5, ![1, 8, 64, 128, 128]⟩
abbrev S_ : Shape := ⟨0, ![]⟩

class Facts : Prop where
  bcast_S_S1x4096x8x128 : S_.BroadcastsInDim S1x4096x8x128 (![] : Fin 0 → Fin S1x4096x8x128.rank)
  bcast_S_S1x4096x8 : S_.BroadcastsInDim S1x4096x8 (![] : Fin 0 → Fin S1x4096x8.rank)

variable [Facts]

def fn {F : FTy → Type} [FloatOps F] (main_arg0 : FVec F S1x4096x8x128 .f32) (main_arg1 : FVec F S1x4096x8x128 .f32) (main_arg2 : FVec F S1x4096x8x128 .f32) (main_arg3 : FVec F S1x4096x8 .f32) (main_arg4 : FVec F S1x4096x8 .f32) (main_arg5 : FVec F S1x8x64x128x128 .f32) (main_arg6 : FVec F S1x4096x8x128 .f32) : IVec S1x4096x8x128 1 × IVec S1x4096x8x128 1 × IVec S1x4096x8 1 × IVec S1x4096x8 1 × IVec S1x4096x8x128 1 :=
  let main_v0 : FVec F S1x4096x8x128 .f32 := Host.absf main_arg0
  let main_cst : FVec F S_ .f32 := constant S_ .f32 0x7F800000#32
  let main_v1 : FVec F S1x4096x8x128 .f32 := broadcastInDim S1x4096x8x128 ![] bcast_S_S1x4096x8x128 main_cst
  let main_v2 : IVec S1x4096x8x128 1 := cmpf .olt main_v0 main_v1
  let main_v3 : FVec F S1x4096x8x128 .f32 := Host.absf main_arg1
  let main_cst_0 : FVec F S_ .f32 := constant S_ .f32 0x7F800000#32
  let main_v4 : FVec F S1x4096x8x128 .f32 := broadcastInDim S1x4096x8x128 ![] bcast_S_S1x4096x8x128 main_cst_0
  let main_v5 : IVec S1x4096x8x128 1 := cmpf .olt main_v3 main_v4
  let main_v6 : FVec F S1x4096x8 .f32 := Host.absf main_arg3
  let main_cst_1 : FVec F S_ .f32 := constant S_ .f32 0x7F800000#32
  let main_v7 : FVec F S1x4096x8 .f32 := broadcastInDim S1x4096x8 ![] bcast_S_S1x4096x8 main_cst_1
  let main_v8 : IVec S1x4096x8 1 := cmpf .olt main_v6 main_v7
  let main_v9 : FVec F S1x4096x8 .f32 := Host.absf main_arg4
  let main_cst_2 : FVec F S_ .f32 := constant S_ .f32 0x7F800000#32
  let main_v10 : FVec F S1x4096x8 .f32 := broadcastInDim S1x4096x8 ![] bcast_S_S1x4096x8 main_cst_2
  let main_v11 : IVec S1x4096x8 1 := cmpf .olt main_v9 main_v10
  let main_v12 : FVec F S1x4096x8x128 .f32 := Host.absf main_arg6
  let main_cst_3 : FVec F S_ .f32 := constant S_ .f32 0x7F800000#32
  let main_v13 : FVec F S1x4096x8x128 .f32 := broadcastInDim S1x4096x8x128 ![] bcast_S_S1x4096x8x128 main_cst_3
  let main_v14 : IVec S1x4096x8x128 1 := cmpf .olt main_v12 main_v13
  (main_v2, main_v5, main_v8, main_v11, main_v14)
-- ==== Kernel.lean ====
abbrev S1x4096x8x128 : Shape := ⟨4, ![1, 4096, 8, 128]⟩
abbrev S1x4096x8 : Shape := ⟨3, ![1, 4096, 8]⟩
abbrev S1x8x64x128x128 : Shape := ⟨5, ![1, 8, 64, 128, 128]⟩
abbrev S8x64x128x128 : Shape := ⟨4, ![8, 64, 128, 128]⟩
abbrev S64x8x128x128 : Shape := ⟨4, ![64, 8, 128, 128]⟩
abbrev S64x2x512x128 : Shape := ⟨4, ![64, 2, 512, 128]⟩
abbrev S4096x1024 : Shape := ⟨2, ![4096, 1024]⟩
abbrev S4x4 : Shape := ⟨2, ![4, 4]⟩
abbrev S_ : Shape := ⟨0, ![]⟩
abbrev S1x1x4x1x4x1 : Shape := ⟨6, ![1, 1, 4, 1, 4, 1]⟩
abbrev S4096x3072 : Shape := ⟨2, ![4096, 3072]⟩
abbrev S4096x8 : Shape := ⟨2, ![4096, 8]⟩
abbrev S4096x112 : Shape := ⟨2, ![4096, 112]⟩
abbrev S4096x128 : Shape := ⟨2, ![4096, 128]⟩
abbrev S1x64x64x8x128 : Shape := ⟨5, ![1, 64, 64, 8, 128]⟩
abbrev S1x8x64x64x128 : Shape := ⟨5, ![1, 8, 64, 64, 128]⟩
abbrev S1x64x64x8 : Shape := ⟨4, ![1, 64, 64, 8]⟩
abbrev S1x8x64x64 : Shape := ⟨4, ![1, 8, 64, 64]⟩
abbrev S1x8x64x64x1 : Shape := ⟨5, ![1, 8, 64, 64, 1]⟩
abbrev S64x64 : Shape := ⟨2, ![64, 64]⟩
abbrev S1x8x64x1x64 : Shape := ⟨5, ![1, 8, 64, 1, 64]⟩
abbrev S1x8x64x64x64 : Shape := ⟨5, ![1, 8, 64, 64, 64]⟩
abbrev S1x1x1x64x64 : Shape := ⟨5, ![1, 1, 1, 64, 64]⟩
abbrev S8x64x64x64 : Shape := ⟨4, ![8, 64, 64, 64]⟩
abbrev S64x8x64x64 : Shape := ⟨4, ![64, 8, 64, 64]⟩
abbrev S64x2x4x64x1x64 : Shape := ⟨6, ![64, 2, 4, 64, 1, 64]⟩
abbrev S64x2x4x64x4x64 : Shape := ⟨6, ![64, 2, 4, 64, 4, 64]⟩
abbrev S64x2x256x256 : Shape := ⟨4, ![64, 2, 256, 256]⟩
abbrev S256x1024 : Shape := ⟨2, ![256, 1024]⟩
abbrev S256x128 : Shape := ⟨2, ![256, 128]⟩
abbrev S4x2x512x128 : Shape := ⟨4, ![4, 2, 512, 128]⟩
abbrev S4x2x256x256 : Shape := ⟨4, ![4, 2, 256, 256]⟩
abbrev S2x512x128 : Shape := ⟨3, ![2, 512, 128]⟩
abbrev S64x128 : Shape := ⟨2, ![64, 128]⟩
abbrev S256x1 : Shape := ⟨2, ![256, 1]⟩
abbrev S256x256 : Shape := ⟨2, ![256, 256]⟩
abbrev S256x512 : Shape := ⟨2, ![256, 512]⟩
abbrev S64x1 : Shape := ⟨2, ![64, 1]⟩
abbrev S1x1 : Shape := ⟨2, ![1, 1]⟩
abbrev S128x1 : Shape := ⟨2, ![128, 1]⟩
abbrev S512x1 : Shape := ⟨2, ![512, 1]⟩
abbrev S1x1x512x128 : Shape := ⟨4, ![1, 1, 512, 128]⟩
abbrev S512x128 : Shape := ⟨2, ![512, 128]⟩
abbrev S1x1x256x256 : Shape := ⟨4, ![1, 1, 256, 256]⟩
abbrev S1x512x128 : Shape := ⟨3, ![1, 512, 128]⟩
abbrev S512 : Shape := ⟨1, ![512]⟩
abbrev S256 : Shape := ⟨1, ![256]⟩

abbrev nBuf : Space → Nat
  | .hbm => 119
  | .vmem => 23
  | .smem => 0
  | _ => 0

abbrev bufTy : (tb : Table) → Fin (tcTables nBuf tb) → BufTy
  | .hbm, ⟨0, _⟩ => ⟨S1x4096x8x128, .f32⟩
  | .hbm, ⟨1, _⟩ => ⟨S1x4096x8x128, .f32⟩
  | .hbm, ⟨2, _⟩ => ⟨S1x4096x8x128, .f32⟩
  | .hbm, ⟨3, _⟩ => ⟨S1x4096x8, .f32⟩
  | .hbm, ⟨4, _⟩ => ⟨S1x4096x8, .f32⟩
  | .hbm, ⟨5, _⟩ => ⟨S1x8x64x128x128, .f32⟩
  | .hbm, ⟨6, _⟩ => ⟨S1x4096x8x128, .f32⟩
  | .hbm, ⟨7, _⟩ => ⟨S8x64x128x128, .f32⟩
  | .hbm, ⟨8, _⟩ => ⟨S64x8x128x128, .f32⟩
  | .hbm, ⟨9, _⟩ => ⟨S64x2x512x128, .f32⟩
  | .hbm, ⟨10, _⟩ => ⟨S4096x1024, .f32⟩
  | .hbm, ⟨11, _⟩ => ⟨S4x4, .i32⟩
  | .hbm, ⟨12, _⟩ => ⟨S4x4, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S1x1x4x1x4x1, .i1⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x3072, .f32⟩
  | .hbm, ⟨22, _⟩ => ⟨S4096x8, .f32⟩
  | .hbm, ⟨23, _⟩ => ⟨S4096x8, .f32⟩
  | .hbm, ⟨24, _⟩ => ⟨S_, .f32⟩
  | .hbm, ⟨25, _⟩ => ⟨S4096x112, .f32⟩
  | .hbm, ⟨26, _⟩ => ⟨S4096x128, .f32⟩
  | .hbm, ⟨27, _⟩ => ⟨S1x64x64x8x128, .f32⟩
  | .hbm, ⟨28, _⟩ => ⟨S1x8x64x64x128, .f32⟩
  | .hbm, ⟨29, _⟩ => ⟨S1x64x64x8, .f32⟩
  | .hbm, ⟨30, _⟩ => ⟨S1x8x64x64, .f32⟩
  | .hbm, ⟨31, _⟩ => ⟨S_, .f32⟩
  | .hbm, ⟨32, _⟩ => ⟨S_, .f32⟩
  | .hbm, ⟨33, _⟩ => ⟨S1x8x64x64, .f32⟩
  | .hbm, ⟨34, _⟩ => ⟨S1x64x64x8, .f32⟩
  | .hbm, ⟨35, _⟩ => ⟨S1x8x64x64, .f32⟩
  | .hbm, ⟨36, _⟩ => ⟨S1x8x64x64x1, .f32⟩
  | .hbm, ⟨37, _⟩ => ⟨S1x8x64x64x128, .f32⟩
  | .hbm, ⟨38, _⟩ => ⟨S1x8x64x64x128, .f32⟩
  | .hbm, ⟨39, _⟩ => ⟨S_, .i1⟩
  | .hbm, ⟨40, _⟩ => ⟨S64x64, .i1⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S64x64, .i32⟩
  | .hbm, ⟨46, _⟩ => ⟨S64x64, .i1⟩
  | .hbm, ⟨47, _⟩ => ⟨S_, .i1⟩
  | .hbm, ⟨48, _⟩ => ⟨S64x64, .i1⟩
  | .hbm, ⟨49, _⟩ => ⟨S64x64, .i1⟩
  | .hbm, ⟨50, _⟩ => ⟨S_, .i1⟩
  | .hbm, ⟨51, _⟩ => ⟨S64x64, .i1⟩
  | .hbm, ⟨52, _⟩ => ⟨S64x64, .i32⟩
  | .hbm, ⟨53, _⟩ => ⟨S_, .i32⟩
  | .hbm, ⟨54, _⟩ => ⟨S64x64, .i32⟩
  | .hbm, ⟨55, _⟩ => ⟨S64x64, .i32⟩
  | .hbm, ⟨56, _⟩ => ⟨S64x64, .i32⟩
  | .hbm, ⟨57, _⟩ => ⟨S64x64, .i1⟩
  | .hbm, ⟨58, _⟩ => ⟨S_, .i1⟩
  | .hbm, ⟨59, _⟩ => ⟨S64x64, .i1⟩
  | .hbm, ⟨60, _⟩ => ⟨S64x64, .i1⟩
  | .hbm, ⟨61, _⟩ => ⟨S1x8x64x64x1, .f32⟩
  | .hbm, ⟨62, _⟩ => ⟨S1x8x64x1x64, .f32⟩
  | .hbm, ⟨63, _⟩ => ⟨S1x8x64x64x64, .f32⟩
  | .hbm, ⟨64, _⟩ => ⟨S1x8x64x64x64, .f32⟩
  | .hbm, ⟨65, _⟩ => ⟨S1x8x64x64x64, .f32⟩
  | .hbm, ⟨66, _⟩ => ⟨S_, .f32⟩
  | .hbm, ⟨67, _⟩ => ⟨S_, .f32⟩
  | .hbm, ⟨68, _⟩ => ⟨S1x8x64x64x64, .i1⟩
  | .hbm, ⟨69, _⟩ => ⟨S1x8x64x64x64, .f32⟩
  | .hbm, ⟨70, _⟩ => ⟨S1x8x64x64x64, .f32⟩
  | .hbm, ⟨71, _⟩ => ⟨S1x8x64x64x64, .f32⟩
  | .hbm, ⟨72, _⟩ => ⟨S1x8x64x64x64, .f32⟩
  | .hbm, ⟨73, _⟩ => ⟨S1x8x64x64x64, .f32⟩
  | .hbm, ⟨74, _⟩ => ⟨S_, .f32⟩
  | .hbm, ⟨75, _⟩ => ⟨S_, .f32⟩
  | .hbm, ⟨76, _⟩ => ⟨S1x8x64x64x64, .i1⟩
  | .hbm, ⟨77, _⟩ => ⟨S1x8x64x64x64, .f32⟩
  | .hbm, ⟨78, _⟩ => ⟨S1x8x64x64x64, .f32⟩
  | .hbm, ⟨79, _⟩ => ⟨S64x64, .i32⟩
  | .hbm, ⟨80, _⟩ => ⟨S64x64, .i32⟩
  | .hbm, ⟨81, _⟩ => ⟨S_, .i32⟩
  | .hbm, ⟨82, _⟩ => ⟨S64x64, .i32⟩
  | .hbm, ⟨83, _⟩ => ⟨S64x64, .i32⟩
  | .hbm, ⟨84, _⟩ => ⟨S64x64, .i1⟩
  | .hbm, ⟨85, _⟩ => ⟨S64x64, .f32⟩
  | .hbm, ⟨86, _⟩ => ⟨S1x8x64x64x64, .f32⟩
  | .hbm, ⟨87, _⟩ => ⟨S1x1x1x64x64, .f32⟩
  | .hbm, ⟨88, _⟩ => ⟨S1x8x64x64x64, .f32⟩
  | .hbm, ⟨89, _⟩ => ⟨S1x8x64x64x64, .f32⟩
  | .hbm, ⟨90, _⟩ => ⟨S1x8x64x64x64, .f32⟩
  | .hbm, ⟨91, _⟩ => ⟨S1x8x64x64x64, .f32⟩
  | .hbm, ⟨92, _⟩ => ⟨S1x8x64x64x64, .f32⟩
  | .hbm, ⟨93, _⟩ => ⟨S1x8x64x64x64, .f32⟩
  | .hbm, ⟨94, _⟩ => ⟨S1x8x64x64x64, .f32⟩
  | .hbm, ⟨95, _⟩ => ⟨S1x8x64x64x64, .f32⟩
  | .hbm, ⟨96, _⟩ => ⟨S1x8x64x64x64, .f32⟩
  | .hbm, ⟨97, _⟩ => ⟨S1x8x64x64x64, .f32⟩
  | .hbm, ⟨98, _⟩ => ⟨S1x8x64x64x64, .f32⟩
  | .hbm, ⟨99, _⟩ => ⟨S1x8x64x64x64, .f32⟩
  | .hbm, ⟨100, _⟩ => ⟨S1x8x64x64x64, .f32⟩
  | .hbm, ⟨101, _⟩ => ⟨S1x8x64x64x64, .f32⟩
  | .hbm, ⟨102, _⟩ => ⟨S1x8x64x64x64, .f32⟩
  | .hbm, ⟨103, _⟩ => ⟨S1x8x64x64x64, .f32⟩
  | .hbm, ⟨104, _⟩ => ⟨S1x8x64x64x64, .f32⟩
  | .hbm, ⟨105, _⟩ => ⟨S8x64x64x64, .f32⟩
  | .hbm, ⟨106, _⟩ => ⟨S64x8x64x64, .f32⟩
  | .hbm, ⟨107, _⟩ => ⟨S64x2x4x64x1x64, .f32⟩
  | .hbm, ⟨108, _⟩ => ⟨S_, .f32⟩
  | .hbm, ⟨109, _⟩ => ⟨S_, .f32⟩
  | .hbm, ⟨110, _⟩ => ⟨S64x2x4x64x4x64, .i1⟩
  | .hbm, ⟨111, _⟩ => ⟨S64x2x4x64x4x64, .f32⟩
  | .hbm, ⟨112, _⟩ => ⟨S64x2x4x64x4x64, .f32⟩
  | .hbm, ⟨113, _⟩ => ⟨S64x2x4x64x4x64, .f32⟩
  | .hbm, ⟨114, _⟩ => ⟨S64x2x256x256, .f32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S4096x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S4x2x512x128, .f32⟩
  | .local _ .vmem, ⟨9, _⟩ => ⟨S4x2x512x128, .f32⟩
  | .local _ .vmem, ⟨10, _⟩ => ⟨S4x2x256x256, .f32⟩
  | .local _ .vmem, ⟨11, _⟩ => ⟨S4x2x256x256, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x128, .f32⟩
  | .local _ .vmem, ⟨21, _⟩ => ⟨S256x128, .f32⟩
  | .local _ .vmem, ⟨22, _⟩ => ⟨S2x512x128, .f32⟩
  | _, _ => ⟨S1x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_call0_cst : Ref sig .tc := ⟨.hbm, 31, rfl⟩
abbrev main_call0_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_0 : Ref sig .tc := ⟨.hbm, 39, rfl⟩
abbrev main_v28 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_0 : Ref sig .tc := ⟨.hbm, 47, rfl⟩
abbrev main_call1_v5 : Ref sig .tc := ⟨.hbm, 48, rfl⟩
abbrev main_v29 : Ref sig .tc := ⟨.hbm, 49, rfl⟩
abbrev main_c_1 : Ref sig .tc := ⟨.hbm, 50, rfl⟩
abbrev main_v30 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_0 : Ref sig .tc := ⟨.hbm, 58, rfl⟩
abbrev main_call2_v5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_2 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_3 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_c_4 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_5 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_v70 : Ref sig .tc := ⟨.hbm, 113, rfl⟩
abbrev main_v71 : Ref sig .tc := ⟨.hbm, 114, rfl⟩
abbrev main_v72_0 : Ref sig .tc := ⟨.hbm, 115, rfl⟩
abbrev main_v72_1 : Ref sig .tc := ⟨.hbm, 116, rfl⟩
abbrev main_v72_2 : Ref sig .tc := ⟨.hbm, 117, rfl⟩
abbrev main_v72_3 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x2x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1x4096x8x128 : Shape := ⟨4, ![1, 4096, 8, 128]⟩
abbrev S1x4096x8 : Shape := ⟨3, ![1, 4096, 8]⟩
abbrev S1x8x64x128x128 : Shape := ⟨5, ![1, 8, 64, 128, 128]⟩
abbrev S1x64x64x8x128 : Shape := ⟨5, ![1, 64, 64, 8, 128]⟩
abbrev S1x8x64x64x128 : Shape := ⟨5, ![1, 8, 64, 64, 128]⟩
abbrev S1x64x64x8 : Shape := ⟨4, ![1, 64, 64, 8]⟩
abbrev S1x8x64x64 : Shape := ⟨4, ![1, 8, 64, 64]⟩
abbrev S_ : Shape := ⟨0, ![]⟩
abbrev S1x8x64x64x1 : Shape := ⟨5, ![1, 8, 64, 64, 1]⟩
abbrev S64x64 : Shape := ⟨2, ![64, 64]⟩
abbrev S1x8x64x1x64 : Shape := ⟨5, ![1, 8, 64, 1, 64]⟩
abbrev S1x8x64x64x64 : Shape := ⟨5, ![1, 8, 64, 64, 64]⟩
abbrev S1x1x1x64x64 : Shape := ⟨5, ![1, 1, 1, 64, 64]⟩
abbrev S1x8x64x1 : Shape := ⟨4, ![1, 8, 64, 1]⟩
abbrev S1x8x64 : Shape := ⟨3, ![1, 8, 64]⟩
abbrev S1x8x64x1x1 : Shape := ⟨5, ![1, 8, 64, 1, 1]⟩
abbrev S64x1x8x64x128 : Shape := ⟨5, ![64, 1, 8, 64, 128]⟩
abbrev S64x1x8x64x64 : Shape := ⟨5, ![64, 1, 8, 64, 64]⟩
abbrev S64x1x8x1x1 : Shape := ⟨5, ![64, 1, 8, 1, 1]⟩
abbrev S1x8x128x128 : Shape := ⟨4, ![1, 8, 128, 128]⟩
abbrev S1x1x8x64x128 : Shape := ⟨5, ![1, 1, 8, 64, 128]⟩
abbrev S1x8x64x128 : Shape := ⟨4, ![1, 8, 64, 128]⟩
abbrev S1x1x8x1x1 : Shape := ⟨5, ![1, 1, 8, 1, 1]⟩
abbrev S1x8x1x1 : Shape := ⟨4, ![1, 8, 1, 1]⟩
abbrev S1x1x8x64x64 : Shape := ⟨5, ![1, 1, 8, 64, 64]⟩
abbrev S1x8x128x64 : Shape := ⟨4, ![1, 8, 128, 64]⟩
abbrev S1x8x64x128x64 : Shape := ⟨5, ![1, 8, 64, 128, 64]⟩
abbrev S4096x1024 : Shape := ⟨2, ![4096, 1024]⟩

abbrev nBuf : Space → Nat
  | .hbm => 215
  | .vmem => 0
  | .smem => 0
  | _ => 0

abbrev hbmTy0_0 (i : Nat) : BufTy := match i % 128 with
  | 0 => ⟨S1x4096x8x128, .f32⟩
  | 1 => ⟨S1x4096x8x128, .f32⟩
  | 2 => ⟨S1x4096x8x128, .f32⟩
  | 3 => ⟨S1x4096x8, .f32⟩
  | 4 => ⟨S1x4096x8, .f32⟩
  | 5 => ⟨S1x8x64x128x128, .f32⟩
  | 6 => ⟨S1x4096x8x128, .f32⟩
  | 7 => ⟨S1x64x64x8x128, .f32⟩
  | 8 => ⟨S1x8x64x64x128, .f32⟩
  | 9 => ⟨S1x64x64x8, .f32⟩
  | 10 => ⟨S1x8x64x64, .f32⟩
  | 11 => ⟨S_, .f32⟩
  | 12 => ⟨S_, .f32⟩
  | 13 => ⟨S1x8x64x64, .f32⟩
  | 14 => ⟨S1x64x64x8, .f32⟩
  | 15 => ⟨S1x8x64x64, .f32⟩
  | 16 => ⟨S1x8x64x64x1, .f32⟩
  | 17 => ⟨S1x8x64x64x128, .f32⟩
  | 18 => ⟨S1x8x64x64x128, .f32⟩
  | 19 => ⟨S_, .i1⟩
  | 20 => ⟨S64x64, .i1⟩
  | 21 => ⟨S64x64, .i32⟩
  | 22 => ⟨S_, .i32⟩
  | 23 => ⟨S64x64, .i32⟩
  | 24 => ⟨S64x64, .i32⟩
  | 25 => ⟨S64x64, .i32⟩
  | 26 => ⟨S64x64, .i1⟩
  | 27 => ⟨S_, .i1⟩
  | 28 => ⟨S64x64, .i1⟩
  | 29 => ⟨S64x64, .i1⟩
  | 30 => ⟨S_, .i1⟩
  | 31 => ⟨S64x64, .i1⟩
  | 32 => ⟨S64x64, .i32⟩
  | 33 => ⟨S_, .i32⟩
  | 34 => ⟨S64x64, .i32⟩
  | 35 => ⟨S64x64, .i32⟩
  | 36 => ⟨S64x64, .i32⟩
  | 37 => ⟨S64x64, .i1⟩
  | 38 => ⟨S_, .i1⟩
  | 39 => ⟨S64x64, .i1⟩
  | 40 => ⟨S64x64, .i1⟩
  | 41 => ⟨S1x8x64x64x1, .f32⟩
  | 42 => ⟨S1x8x64x1x64, .f32⟩
  | 43 => ⟨S1x8x64x64x64, .f32⟩
  | 44 => ⟨S1x8x64x64x64, .f32⟩
  | 45 => ⟨S1x8x64x64x64, .f32⟩
  | 46 => ⟨S_, .f32⟩
  | 47 => ⟨S_, .f32⟩
  | 48 => ⟨S1x8x64x64x64, .i1⟩
  | 49 => ⟨S1x8x64x64x64, .f32⟩
  | 50 => ⟨S1x8x64x64x64, .f32⟩
  | 51 => ⟨S1x8x64x64x64, .f32⟩
  | 52 => ⟨S1x8x64x64x64, .f32⟩
  | 53 => ⟨S1x8x64x64x64, .f32⟩
  | 54 => ⟨S_, .f32⟩
  | 55 => ⟨S_, .f32⟩
  | 56 => ⟨S1x8x64x64x64, .i1⟩
  | 57 => ⟨S1x8x64x64x64, .f32⟩
  | 58 => ⟨S1x8x64x64x64, .f32⟩
  | 59 => ⟨S64x64, .i32⟩
  | 60 => ⟨S64x64, .i32⟩
  | 61 => ⟨S_, .i32⟩
  | 62 => ⟨S64x64, .i32⟩
  | 63 => ⟨S64x64, .i32⟩
  | 64 => ⟨S64x64, .i1⟩
  | 65 => ⟨S64x64, .f32⟩
  | 66 => ⟨S1x8x64x64x64, .f32⟩
  | 67 => ⟨S1x1x1x64x64, .f32⟩
  | 68 => ⟨S1x8x64x64x64, .f32⟩
  | 69 => ⟨S1x8x64x64x64, .f32⟩
  | 70 => ⟨S1x8x64x64x64, .f32⟩
  | 71 => ⟨S1x8x64x64x64, .f32⟩
  | 72 => ⟨S1x8x64x64x64, .f32⟩
  | 73 => ⟨S1x8x64x64x64, .f32⟩
  | 74 => ⟨S1x8x64x64x64, .f32⟩
  | 75 => ⟨S1x8x64x64x64, .f32⟩
  | 76 => ⟨S1x8x64x64x64, .f32⟩
  | 77 => ⟨S1x8x64x64x64, .f32⟩
  | 78 => ⟨S1x8x64x64x64, .f32⟩
  | 79 => ⟨S1x8x64x64x64, .f32⟩
  | 80 => ⟨S1x8x64x64x64, .f32⟩
  | 81 => ⟨S1x8x64x64x64, .f32⟩
  | 82 => ⟨S1x8x64x64x64, .f32⟩
  | 83 => ⟨S1x8x64x64x64, .f32⟩
  | 84 => ⟨S1x8x64x64x64, .f32⟩
  | 85 => ⟨S1x64x64x8x128, .f32⟩
  | 86 => ⟨S1x8x64x64x128, .f32⟩
  | 87 => ⟨S_, .f32⟩
  | 88 => ⟨S1x8x64x64x128, .f32⟩
  | 89 => ⟨S1x8x64x64x128, .f32⟩
  | 90 => ⟨S1x64x64x8, .f32⟩
  | 91 => ⟨S1x8x64x64, .f32⟩
  | 92 => ⟨S1x8x64x64x1, .f32⟩
  | 93 => ⟨S1x8x64x64, .f32⟩
  | 94 => ⟨S1x8x64x64x1, .f32⟩
  | 95 => ⟨S1x8x64x64x128, .f32⟩
  | 96 => ⟨S1x8x64x64x128, .f32⟩
  | 97 => ⟨S1x8x64x64x128, .f32⟩
  | 98 => ⟨S1x8x64x64x64, .f32⟩
  | 99 => ⟨S1x8x64x64x64, .f32⟩
  | 100 => ⟨S_, .f32⟩
  | 101 => ⟨S_, .f32⟩
  | 102 => ⟨S1x8x64x64x64, .i1⟩
  | 103 => ⟨S1x8x64x64x64, .f32⟩
  | 104 => ⟨S1x8x64x64x64, .f32⟩
  | 105 => ⟨S1x8x64x64, .f32⟩
  | 106 => ⟨S1x8x64x64x1, .f32⟩
  | 107 => ⟨S1x8x64x64x128, .f32⟩
  | 108 => ⟨S1x8x64x64x128, .f32⟩
  | 109 => ⟨S1x8x64x1, .f32⟩
  | 110 => ⟨S1x8x64, .f32⟩
  | 111 => ⟨S1x8x64x1, .f32⟩
  | 112 => ⟨S1x8x64x64, .f32⟩
  | 113 => ⟨S1x8x64x64, .f32⟩
  | 114 => ⟨S1x8x64x64, .f32⟩
  | 115 => ⟨S1x8x64x64x1, .f32⟩
  | 116 => ⟨S1x8x64x64x128, .f32⟩
  | 117 => ⟨S1x8x64x64x128, .f32⟩
  | 118 => ⟨S1x8x64, .f32⟩
  | 119 => ⟨S1x8x64x1x1, .f32⟩
  | 120 => ⟨S64x1x8x64x128, .f32⟩
  | 121 => ⟨S64x1x8x64x64, .f32⟩
  | 122 => ⟨S64x1x8x64x128, .f32⟩
  | 123 => ⟨S64x1x8x64x128, .f32⟩
  | 124 => ⟨S64x1x8x1x1, .f32⟩
  | 125 => ⟨S_, .f32⟩
  | 126 => ⟨S1x8x128x128, .f32⟩
  | 127 => ⟨S1x64x64x8x128, .f32⟩
  | _ => ⟨S1x4096x8x128, .f32⟩

abbrev hbmTy0_1 (i : Nat) : BufTy := match i % 128 with
  | 0 => ⟨S64x1x8x64x128, .f32⟩
  | 1 => ⟨S_, .f32⟩
  | 2 => ⟨S1x8x128x128, .f32⟩
  | 3 => ⟨S_, .f32⟩
  | 4 => ⟨S64x1x8x64x128, .f32⟩
  | 5 => ⟨S_, .i32⟩
  | 6 => ⟨S64x1x8x64x128, .f32⟩
  | 7 => ⟨S64x1x8x1x1, .f32⟩
  | 8 => ⟨S64x1x8x64x128, .f32⟩
  | 9 => ⟨S64x1x8x64x128, .f32⟩
  | 10 => ⟨S64x1x8x64x128, .f32⟩
  | 11 => ⟨S64x1x8x64x64, .f32⟩
  | 12 => ⟨S_, .i32⟩
  | 13 => ⟨S1x8x128x128, .f32⟩
  | 14 => ⟨S64x1x8x64x128, .f32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S1x1x8x64x128, .f32⟩
  | 26 => ⟨S1x8x64x128, .f32⟩
  | 27 => ⟨S_, .i32⟩
  | 28 => ⟨S_, .i32⟩
  | 29 => ⟨S_, .i32⟩
  | 30 => ⟨S_, .i32⟩
  | 31 => ⟨S1x1x8x1x1, .f32⟩
  | 32 => ⟨S1x8x1x1, .f32⟩
  | 33 => ⟨S_, .i32⟩
  | 34 => ⟨S_, .i32⟩
  | 35 => ⟨S_, .i32⟩
  | 36 => ⟨S_, .i32⟩
  | 37 => ⟨S1x1x8x64x128, .f32⟩
  | 38 => ⟨S1x8x64x128, .f32⟩
  | 39 => ⟨S_, .i32⟩
  | 40 => ⟨S_, .i32⟩
  | 41 => ⟨S_, .i32⟩
  | 42 => ⟨S_, .i32⟩
  | 43 => ⟨S1x1x8x64x128, .f32⟩
  | 44 => ⟨S1x8x64x128, .f32⟩
  | 45 => ⟨S_, .i32⟩
  | 46 => ⟨S_, .i32⟩
  | 47 => ⟨S_, .i32⟩
  | 48 => ⟨S_, .i32⟩
  | 49 => ⟨S1x1x8x64x128, .f32⟩
  | 50 => ⟨S1x8x64x128, .f32⟩
  | 51 => ⟨S_, .i32⟩
  | 52 => ⟨S_, .i32⟩
  | 53 => ⟨S_, .i32⟩
  | 54 => ⟨S_, .i32⟩
  | 55 => ⟨S1x1x8x64x64, .f32⟩
  | 56 => ⟨S1x8x64x64, .f32⟩
  | 57 => ⟨S1x8x128x64, .f32⟩
  | 58 => ⟨S1x8x64x128, .f32⟩
  | 59 => ⟨S1x8x128x128, .f32⟩
  | 60 => ⟨S1x8x128x128, .f32⟩
  | 61 => ⟨S1x8x128x64, .f32⟩
  | 62 => ⟨S1x8x64x128, .f32⟩
  | 63 => ⟨S1x8x64x128, .f32⟩
  | 64 => ⟨S1x8x128x128, .f32⟩
  | 65 => ⟨S1x8x128x128, .f32⟩
  | 66 => ⟨S1x8x128x128, .f32⟩
  | 67 => ⟨S1x8x64x128, .f32⟩
  | 68 => ⟨S1x8x128x128, .f32⟩
  | 69 => ⟨S1x8x128x128, .f32⟩
  | 70 => ⟨S1x8x128x128, .f32⟩
  | 71 => ⟨S1x1x8x64x128, .f32⟩
  | 72 => ⟨S_, .i32⟩
  | 73 => ⟨S_, .i32⟩
  | 74 => ⟨S_, .i32⟩
  | 75 => ⟨S_, .i32⟩
  | 76 => ⟨S64x1x8x64x128, .f32⟩
  | 77 => ⟨S_, .i32⟩
  | 78 => ⟨S_, .i32⟩
  | 79 => ⟨S1x8x64x64x128, .f32⟩
  | 80 => ⟨S1x8x64x128x64, .f32⟩
  | 81 => ⟨S1x8x64x64x128, .f32⟩
  | 82 => ⟨S1x8x64x64x128, .f32⟩
  | 83 => ⟨S1x8x64x64x128, .f32⟩
  | 84 => ⟨S1x64x64x8x128, .f32⟩
  | 85 => ⟨S1x4096x8x128, .f32⟩
  | 86 => ⟨S4096x1024, .f32⟩
  | _ => ⟨S1x4096x8x128, .f32⟩

abbrev hbmTy (i : Nat) : BufTy := match i / 128 with
  | 0 => hbmTy0_0 i
  | 1 => hbmTy0_1 i
  | _ => ⟨S1x4096x8x128, .f32⟩

abbrev bufTy : (tb : Table) → Fin (tcTables nBuf tb) → BufTy
  | .hbm, ⟨i, _⟩ => hbmTy i
  | _, _ => ⟨S1x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_call0_cst : Ref sig .tc := ⟨.hbm, 11, rfl⟩
abbrev main_call0_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_c_0 : Ref sig .tc := ⟨.hbm, 27, rfl⟩
abbrev main_call1_v5 : Ref sig .tc := ⟨.hbm, 28, rfl⟩
abbrev main_v11 : Ref sig .tc := ⟨.hbm, 29, rfl⟩
abbrev main_c_0 : Ref sig .tc := ⟨.hbm, 30, rfl⟩
abbrev main_v12 : Ref sig .tc := ⟨.hbm, 31, rfl⟩
abbrev main_call2_v0 : Ref sig .tc := ⟨.hbm, 32, rfl⟩
abbrev main_call2_c : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_c_0 : Ref sig .tc := ⟨.hbm, 38, rfl⟩
abbrev main_call2_v5 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_1 : Ref sig .tc := ⟨.hbm, 54, rfl⟩
abbrev main_call4_v0 : Ref sig .tc := ⟨.hbm, 55, rfl⟩
abbrev main_call4_v1 : Ref sig .tc := ⟨.hbm, 56, rfl⟩
abbrev main_call4_v2 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c_2 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_3 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_4 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_5 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_6 : Ref sig .tc := ⟨.hbm, 129, rfl⟩
abbrev main_v87 : Ref sig .tc := ⟨.hbm, 130, rfl⟩
abbrev main_cst_7 : Ref sig .tc := ⟨.hbm, 131, rfl⟩
abbrev main_v88 : Ref sig .tc := ⟨.hbm, 132, rfl⟩
abbrev main_c_8 : Ref sig .tc := ⟨.hbm, 133, rfl⟩
abbrev main_v89_0 : Ref sig .tc := ⟨.hbm, 134, rfl⟩
abbrev main_v89_1 : Ref sig .tc := ⟨.hbm, 135, rfl⟩
abbrev main_v89_2 : Ref sig .tc := ⟨.hbm, 136, rfl⟩
abbrev main_v89_3 : Ref sig .tc := ⟨.hbm, 137, rfl⟩
abbrev main_v89_4 : Ref sig .tc := ⟨.hbm, 138, rfl⟩
abbrev main_v89_5 : Ref sig .tc := ⟨.hbm, 139, rfl⟩
abbrev main_v89_6 : Ref sig .tc := ⟨.hbm, 140, rfl⟩
abbrev main_v89_7 : Ref sig .tc := ⟨.hbm, 141, rfl⟩
abbrev main_v89_8 : Ref sig .tc := ⟨.hbm, 142, rfl⟩
abbrev main_while0c_c_17 : Ref sig .tc := ⟨.hbm, 143, rfl⟩
abbrev main_while0c_v98 : Ref sig .tc := ⟨.hbm, 144, rfl⟩
abbrev main_while0b_c_17 : Ref sig .tc := ⟨.hbm, 145, rfl⟩
abbrev main_while0b_v98 : Ref sig .tc := ⟨.hbm, 146, rfl⟩
abbrev main_while0b_c_18 : Ref sig .tc := ⟨.hbm, 147, rfl⟩
abbrev main_while0b_v99 : Ref sig .tc := ⟨.hbm, 148, rfl⟩
abbrev main_while0b_call6_c : Ref sig .tc := ⟨.hbm, 149, rfl⟩
abbrev main_while0b_call6_c_0 : Ref sig .tc := ⟨.hbm, 150, rfl⟩
abbrev main_while0b_call6_c_1 : Ref sig .tc := ⟨.hbm, 151, rfl⟩
abbrev main_while0b_call6_c_2 : Ref sig .tc := ⟨.hbm, 152, rfl⟩
abbrev main_while0b_call6_v0 : Ref sig .tc := ⟨.hbm, 153, rfl⟩
abbrev main_while0b_v100 : Ref sig .tc := ⟨.hbm, 154, rfl⟩
abbrev main_while0b_call7_c : Ref sig .tc := ⟨.hbm, 155, rfl⟩
abbrev main_while0b_call7_c_0 : Ref sig .tc := ⟨.hbm, 156, rfl⟩
abbrev main_while0b_call7_c_1 : Ref sig .tc := ⟨.hbm, 157, rfl⟩
abbrev main_while0b_call7_c_2 : Ref sig .tc := ⟨.hbm, 158, rfl⟩
abbrev main_while0b_call7_v0 : Ref sig .tc := ⟨.hbm, 159, rfl⟩
abbrev main_while0b_v101 : Ref sig .tc := ⟨.hbm, 160, rfl⟩
abbrev main_while0b_call8_c : Ref sig .tc := ⟨.hbm, 161, rfl⟩
abbrev main_while0b_call8_c_0 : Ref sig .tc := ⟨.hbm, 162, rfl⟩
abbrev main_while0b_call8_c_1 : Ref sig .tc := ⟨.hbm, 163, rfl⟩
abbrev main_while0b_call8_c_2 : Ref sig .tc := ⟨.hbm, 164, rfl⟩
abbrev main_while0b_call8_v0 : Ref sig .tc := ⟨.hbm, 165, rfl⟩
abbrev main_while0b_v102 : Ref sig .tc := ⟨.hbm, 166, rfl⟩
abbrev main_while0b_call9_c : Ref sig .tc := ⟨.hbm, 167, rfl⟩
abbrev main_while0b_call9_c_0 : Ref sig .tc := ⟨.hbm, 168, rfl⟩
abbrev main_while0b_call9_c_1 : Ref sig .tc := ⟨.hbm, 169, rfl⟩
abbrev main_while0b_call9_c_2 : Ref sig .tc := ⟨.hbm, 170, rfl⟩
abbrev main_while0b_call9_v0 : Ref sig .tc := ⟨.hbm, 171, rfl⟩
abbrev main_while0b_v103 : Ref sig .tc := ⟨.hbm, 172, rfl⟩
abbrev main_while0b_call10_c : Ref sig .tc := ⟨.hbm, 173, rfl⟩
abbrev main_while0b_call10_c_0 : Ref sig .tc := ⟨.hbm, 174, rfl⟩
abbrev main_while0b_call10_c_1 : Ref sig .tc := ⟨.hbm, 175, rfl⟩
abbrev main_while0b_call10_c_2 : Ref sig .tc := ⟨.hbm, 176, rfl⟩
abbrev main_while0b_call10_v0 : Ref sig .tc := ⟨.hbm, 177, rfl⟩
abbrev main_while0b_v104 : Ref sig .tc := ⟨.hbm, 178, rfl⟩
abbrev main_while0b_call11_c : Ref sig .tc := ⟨.hbm, 179, rfl⟩
abbrev main_while0b_call11_c_0 : Ref sig .tc := ⟨.hbm, 180, rfl⟩
abbrev main_while0b_call11_c_1 : Ref sig .tc := ⟨.hbm, 181, rfl⟩
abbrev main_while0b_call11_c_2 : Ref sig .tc := ⟨.hbm, 182, rfl⟩
abbrev main_while0b_call11_v0 : Ref sig .tc := ⟨.hbm, 183, rfl⟩
abbrev main_while0b_v105 : Ref sig .tc := ⟨.hbm, 184, rfl⟩
abbrev main_while0b_v106 : Ref sig .tc := ⟨.hbm, 185, rfl⟩
abbrev main_while0b_v107 : Ref sig .tc := ⟨.hbm, 186, rfl⟩
abbrev main_while0b_v108 : Ref sig .tc := ⟨.hbm, 187, rfl⟩
abbrev main_while0b_v109 : Ref sig .tc := ⟨.hbm, 188, rfl⟩
abbrev main_while0b_v110 : Ref sig .tc := ⟨.hbm, 189, rfl⟩
abbrev main_while0b_v111 : Ref sig .tc := ⟨.hbm, 190, rfl⟩
abbrev main_while0b_v112 : Ref sig .tc := ⟨.hbm, 191, rfl⟩
abbrev main_while0b_v113 : Ref sig .tc := ⟨.hbm, 192, rfl⟩
abbrev main_while0b_v114 : Ref sig .tc := ⟨.hbm, 193, rfl⟩
abbrev main_while0b_v115 : Ref sig .tc := ⟨.hbm, 194, rfl⟩
abbrev main_while0b_v116 : Ref sig .tc := ⟨.hbm, 195, rfl⟩
abbrev main_while0b_v117 : Ref sig .tc := ⟨.hbm, 196, rfl⟩
abbrev main_while0b_v118 : Ref sig .tc := ⟨.hbm, 197, rfl⟩
abbrev main_while0b_v119 : Ref sig .tc := ⟨.hbm, 198, rfl⟩
abbrev main_while0b_call12_v0 : Ref sig .tc := ⟨.hbm, 199, rfl⟩
abbrev main_while0b_call12_c : Ref sig .tc := ⟨.hbm, 200, rfl⟩
abbrev main_while0b_call12_c_0 : Ref sig .tc := ⟨.hbm, 201, rfl⟩
abbrev main_while0b_call12_c_1 : Ref sig .tc := ⟨.hbm, 202, rfl⟩
abbrev main_while0b_call12_c_2 : Ref sig .tc := ⟨.hbm, 203, rfl⟩
abbrev main_while0b_v120 : Ref sig .tc := ⟨.hbm, 204, rfl⟩
abbrev main_while0b_c_19 : Ref sig .tc := ⟨.hbm, 205, rfl⟩
abbrev main_while0b_v121 : Ref sig .tc := ⟨.hbm, 206, rfl⟩
abbrev main_v90 : Ref sig .tc := ⟨.hbm, 207, rfl⟩
abbrev main_v91 : Ref sig .tc := ⟨.hbm, 208, rfl⟩
abbrev main_v92 : Ref sig .tc := ⟨.hbm, 209, rfl⟩
abbrev main_v93 : Ref sig .tc := ⟨.hbm, 210, rfl⟩
abbrev main_v94 : Ref sig .tc := ⟨.hbm, 211, rfl⟩
abbrev main_v95 : Ref sig .tc := ⟨.hbm, 212, rfl⟩
abbrev main_v96 : Ref sig .tc := ⟨.hbm, 213, rfl⟩
abbrev main_v97 : Ref sig .tc := ⟨.hbm, 214, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x2048 : Shape := ⟨2, ![4096, 2048]⟩
abbrev S2048x5632 : Shape := ⟨2, ![2048, 5632]⟩
abbrev S4096x5632 : Shape := ⟨2, ![4096, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x5632, .f32⟩
  | .hbm, ⟨3, _⟩ => ⟨S4096x2048, .bf16⟩
  | .hbm, ⟨4, _⟩ => ⟨S4096x5632, .bf16⟩
  | .hbm, ⟨5, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S2048x5632 : Shape := ⟨2, ![2048, 5632]⟩
abbrev S4096x5632 : Shape := ⟨2, ![4096, 5632]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x5632, .f32⟩
  | .hbm, ⟨3, _⟩ => ⟨S4096x5632, .f32⟩
  | .hbm, ⟨4, _⟩ => ⟨S5632x2048, .f32⟩
  | .hbm, ⟨5, _⟩ => ⟨S2048x5632, .f32⟩
  | .hbm, ⟨6, _⟩ => ⟨S4096x2048, .f32⟩
  | .hbm, ⟨7, _⟩ => ⟨S2048x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x2048 : Shape := ⟨2, ![4096, 2048]⟩
abbrev S10368x2048 : Shape := ⟨2, ![10368, 2048]⟩
abbrev S4096x10368 : Shape := ⟨2, ![4096, 10368]⟩
abbrev S2048x1152 : Shape := ⟨2, ![2048, 1152]⟩
abbrev S2048x1024 : Shape := ⟨2, ![2048, 1024]⟩
abbrev S1152x1024 : Shape := ⟨2, ![1152, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S10368x2048, .f32⟩
  | .hbm, ⟨2, _⟩ => ⟨S4096x10368, .f32⟩
  | .hbm, ⟨3, _⟩ => ⟨S4096x10368, .bf16⟩
  | .hbm, ⟨4, _⟩ => ⟨S4096x2048, .bf16⟩
  | .hbm, ⟨5, _⟩ => ⟨S10368x2048, .bf16⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S10368x2048 : Shape := ⟨2, ![10368, 2048]⟩
abbrev S4096x10368 : Shape := ⟨2, ![4096, 10368]⟩
abbrev S2048x10368 : Shape := ⟨2, ![2048, 10368]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S10368x2048, .f32⟩
  | .hbm, ⟨2, _⟩ => ⟨S4096x10368, .f32⟩
  | .hbm, ⟨3, _⟩ => ⟨S2048x10368, .f32⟩
  | .hbm, ⟨4, _⟩ => ⟨S4096x10368, .f32⟩
  | .hbm, ⟨5, _⟩ => ⟨S10368x2048, .f32⟩
  | .hbm, ⟨6, _⟩ => ⟨S2048x10368, .f32⟩
  | .hbm, ⟨7, _⟩ => ⟨S4096x2048, .f32⟩
  | .hbm, ⟨8, _⟩ => ⟨S10368x2048, .f32⟩
  | .hbm, ⟨9, _⟩ => ⟨S10368x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2048 : Shape := ⟨2, ![4096, 2048]⟩
abbrev S10368x2048 : Shape := ⟨2, ![10368, 2048]⟩
abbrev S4096x10368 : Shape := ⟨2, ![4096, 10368]⟩
abbrev S1024x3456 : Shape := ⟨2, ![1024, 3456]⟩
abbrev S3456x1024 : Shape := ⟨2, ![3456, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S10368x2048, .f32⟩
  | .hbm, ⟨2, _⟩ => ⟨S4096x10368, .f32⟩
  | .hbm, ⟨3, _⟩ => ⟨S4096x10368, .bf16⟩
  | .hbm, ⟨4, _⟩ => ⟨S10368x2048, .bf16⟩
  | .hbm, ⟨5, _⟩ => ⟨S4096x2048, .f32⟩
  | .local _ .vmem, ⟨0, _⟩ => ⟨S1024x3456, .bf16⟩
  | .local _ .vmem, ⟨1, _⟩ => ⟨S1024x3456, .bf16⟩
  | .local _ .vmem, ⟨2, _⟩ => ⟨S3456x1024, .bf16⟩
  | .local _ .vmem, ⟨3, _⟩ => ⟨S3456x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3456x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S10368x2048 : Shape := ⟨2, ![10368, 2048]⟩
abbrev S4096x10368 : Shape := ⟨2, ![4096, 10368]⟩
abbrev S2048x10368 : Shape := ⟨2, ![2048, 10368]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S10368x2048, .f32⟩
  | .hbm, ⟨2, _⟩ => ⟨S4096x10368, .f32⟩
  | .hbm, ⟨3, _⟩ => ⟨S2048x10368, .f32⟩
  | .hbm, ⟨4, _⟩ => ⟨S4096x10368, .f32⟩
  | .hbm, ⟨5, _⟩ => ⟨S10368x2048, .f32⟩
  | .hbm, ⟨6, _⟩ => ⟨S2048x10368, .f32⟩
  | .hbm, ⟨7, _⟩ => ⟨S4096x2048, .f32⟩
  | .hbm, ⟨8, _⟩ => ⟨S10368x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x2048 : Shape := ⟨2, ![4096, 2048]⟩
abbrev S10368x2048 : Shape := ⟨2, ![10368, 2048]⟩
abbrev S4096x10368 : Shape := ⟨2, ![4096, 10368]⟩
abbrev S1024x2048 : Shape := ⟨2, ![1024, 2048]⟩
abbrev S1152x2048 : Shape := ⟨2, ![1152, 2048]⟩
abbrev S1024x1152 : Shape := ⟨2, ![1024, 1152]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S10368x2048, .f32⟩
  | .hbm, ⟨2, _⟩ => ⟨S4096x2048, .bf16⟩
  | .hbm, ⟨3, _⟩ => ⟨S10368x2048, .bf16⟩
  | .hbm, ⟨4, _⟩ => ⟨S4096x10368, .bf16⟩
  | .local _ .vmem, ⟨0, _⟩ => ⟨S1024x2048, .bf16⟩
  | .local _ .vmem, ⟨1, _⟩ => ⟨S1024x2048, .bf16⟩
  | .local _ .vmem, ⟨2, _⟩ => ⟨S1152x2048, .bf16⟩
  | .local _ .vmem, ⟨3, _⟩ => ⟨S1152x2048, .bf16⟩
  | .local _ .vmem, ⟨4, _⟩ => ⟨S1024x1152, .bf16⟩
  | .local _ .vmem, ⟨5, _⟩ => ⟨S1024x1152, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S10368x2048 : Shape := ⟨2, ![10368, 2048]⟩
abbrev S2048x10368 : Shape := ⟨2, ![2048, 10368]⟩
abbrev S4096x10368 : Shape := ⟨2, ![4096, 10368]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S10368x2048, .f32⟩
  | .hbm, ⟨2, _⟩ => ⟨S2048x10368, .f32⟩
  | .hbm, ⟨3, _⟩ => ⟨S4096x10368, .f32⟩
  | .hbm, ⟨4, _⟩ => ⟨S4096x10368, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S4096x2048 : Shape := ⟨2, ![4096, 2048]⟩
abbrev S2048x5632 : Shape := ⟨2, ![2048, 5632]⟩
abbrev S4096x5632 : Shape := ⟨2, ![4096, 5632]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x2048, .bf16⟩
  | .hbm, ⟨3, _⟩ => ⟨S2048x5632, .bf16⟩
  | .hbm, ⟨4, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x5632 : Shape := ⟨2, ![2048, 5632]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x5632, .f32⟩
  | .hbm, ⟨3, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S4096x2048 : Shape := ⟨2, ![4096, 2048]⟩
abbrev S2048x5632 : Shape := ⟨2, ![2048, 5632]⟩
abbrev S4096x5632 : Shape := ⟨2, ![4096, 5632]⟩
abbrev S1024x2816 : Shape := ⟨2, ![1024, 2816]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x5632, .f32⟩
  | .hbm, ⟨3, _⟩ => ⟨S4096x5632, .bf16⟩
  | .hbm, ⟨4, _⟩ => ⟨S2048x5632, .bf16⟩
  | .hbm, ⟨5, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x5632 : Shape := ⟨2, ![2048, 5632]⟩
abbrev S4096x5632 : Shape := ⟨2, ![4096, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x5632, .f32⟩
  | .hbm, ⟨3, _⟩ => ⟨S4096x5632, .f32⟩
  | .hbm, ⟨4, _⟩ => ⟨S5632x2048, .f32⟩
  | .hbm, ⟨5, _⟩ => ⟨S2048x5632, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S2048x5632 : Shape := ⟨2, ![2048, 5632]⟩
abbrev S4096x5632 : Shape := ⟨2, ![4096, 5632]⟩
abbrev S1024x2816 : Shape := ⟨2, ![1024, 2816]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x5632, .f32⟩
  | .hbm, ⟨3, _⟩ => ⟨S4096x2048, .f32⟩
  | .hbm, ⟨4, _⟩ => ⟨S4096x5632, .bf16⟩
  | .hbm, ⟨5, _⟩ => ⟨S2048x5632, .bf16⟩
  | .hbm, ⟨6, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x2048 : Shape := ⟨2, ![4096, 2048]⟩
abbrev S2048x5632 : Shape := ⟨2, ![2048, 5632]⟩
abbrev S4096x5632 : Shape := ⟨2, ![4096, 5632]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x5632, .f32⟩
  | .hbm, ⟨3, _⟩ => ⟨S4096x2048, .f32⟩
  | .hbm, ⟨4, _⟩ => ⟨S4096x5632, .f32⟩
  | .hbm, ⟨5, _⟩ => ⟨S5632x2048, .f32⟩
  | .hbm, ⟨6, _⟩ => ⟨S2048x5632, .f32⟩
  | .hbm, ⟨7, _⟩ => ⟨S4096x2048, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel9.lean ====
abbrev S4096x5632 : Shape := ⟨2, ![4096, 5632]⟩
abbrev S5632x2048 : Shape := ⟨2, ![5632, 2048]⟩
abbrev S4096x2048 : Shape := ⟨2, ![4096, 2048]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .bf16⟩
  | .hbm, ⟨4, _⟩ => ⟨S5632x2048, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x5632 : Shape := ⟨2, ![4096, 5632]⟩
abbrev S5632x2048 : Shape := ⟨2, ![5632, 2048]⟩
abbrev S4096x2048 : Shape := ⟨2, ![4096, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S2048x5632, .f32⟩
  | .hbm, ⟨5, _⟩ => ⟨S5632x2048, .f32⟩
  | .hbm, ⟨6, _⟩ => ⟨S4096x5632, .f32⟩
  | .hbm, ⟨7, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x5632 : Shape := ⟨2, ![4096, 5632]⟩
abbrev S5632x2048 : Shape := ⟨2, ![5632, 2048]⟩
abbrev S4096x2048 : Shape := ⟨2, ![4096, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x5632, .bf16⟩
  | .hbm, ⟨4, _⟩ => ⟨S4096x2048, .bf16⟩
  | .hbm, ⟨5, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x5632 : Shape := ⟨2, ![4096, 5632]⟩
abbrev S5632x2048 : Shape := ⟨2, ![5632, 2048]⟩
abbrev S4096x2048 : Shape := ⟨2, ![4096, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S2048x5632, .f32⟩
  | .hbm, ⟨5, _⟩ => ⟨S5632x2048, .f32⟩
  | .hbm, ⟨6, _⟩ => ⟨S4096x5632, .f32⟩
  | .hbm, ⟨7, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x5632, .bf16⟩
  | .hbm, ⟨4, _⟩ => ⟨S5632x2048, .bf16⟩
  | .hbm, ⟨5, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | .hbm, ⟨7, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .bf16⟩
  | .hbm, ⟨4, _⟩ => ⟨S1024x2048, .bf16⟩
  | .hbm, ⟨5, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .f32⟩
  | .hbm, ⟨4, _⟩ => ⟨S2048x1024, .f32⟩
  | .hbm, ⟨5, _⟩ => ⟨S1024x2048, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x1024, .bf16⟩
  | .hbm, ⟨4, _⟩ => ⟨S4096x2048, .bf16⟩
  | .hbm, ⟨5, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .f32⟩
  | .hbm, ⟨4, _⟩ => ⟨S2048x1024, .f32⟩
  | .hbm, ⟨5, _⟩ => ⟨S1024x2048, .f32⟩
  | .hbm, ⟨6, _⟩ => ⟨S4096x1024, .f32⟩
  | .hbm, ⟨7, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S4096x10368 : Shape := ⟨2, ![4096, 10368]⟩
abbrev S4096x2048 : Shape := ⟨2, ![4096, 2048]⟩
abbrev S256x2048 : Shape := ⟨2, ![256, 2048]⟩

abbrev nBuf : Space → Nat
  | .hbm => 12
  | .vmem => 18
  | .smem => 0
  | _ => 0

abbrev bufTy : (tb : Table) → Fin (tcTables nBuf tb) → BufTy
  | .hbm, ⟨0, _⟩ => ⟨S4096x10368, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x10368, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S4096x2048, .bf16⟩
  | .hbm, ⟨10, _⟩ => ⟨S4096x2048, .bf16⟩
  | .hbm, ⟨11, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S4096x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S4096x10368 : Shape := ⟨2, ![4096, 10368]⟩
abbrev S4096x2048 : Shape := ⟨2, ![4096, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x10368, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .bf16⟩
  | .hbm, ⟨42, _⟩ => ⟨S4096x2048, .bf16⟩
  | .hbm, ⟨43, _⟩ => ⟨S4096x2048, .bf16⟩
  | .hbm, ⟨44, _⟩ => ⟨S4096x2048, .bf16⟩
  | _, _ => ⟨S4096x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel19.lean ====
abbrev S4096x10368 : Shape := ⟨2, ![4096, 10368]⟩
abbrev S4096x2048 : Shape := ⟨2, ![4096, 2048]⟩
abbrev S256x2048 : Shape := ⟨2, ![256, 2048]⟩

abbrev nBuf : Space → Nat
  | .hbm => 7
  | .vmem => 10
  | .smem => 0
  | _ => 0

abbrev bufTy : (tb : Table) → Fin (tcTables nBuf tb) → BufTy
  | .hbm, ⟨0, _⟩ => ⟨S4096x10368, .f32⟩
  | .hbm, ⟨1, _⟩ => ⟨S4096x2048, .f32⟩
  | .hbm, ⟨2, _⟩ => ⟨S4096x2048, .f32⟩
  | .hbm, ⟨3, _⟩ => ⟨S4096x10368, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S4096x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S4096x10368 : Shape := ⟨2, ![4096, 10368]⟩
abbrev S4096x2048 : Shape := ⟨2, ![4096, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x10368, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | _, _ => ⟨S4096x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel20.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel21.lean ====
abbrev S2x2048x2564 : Shape := ⟨3, ![2, 2048, 2564]⟩
abbrev S2564x2x2048 : Shape := ⟨3, ![2564, 2, 2048]⟩
abbrev S641x2x256 : Shape := ⟨3, ![641, 2, 256]⟩

abbrev nBuf : Space → Nat
  | .hbm => 10
  | .vmem => 14
  | .smem => 0
  | _ => 0

abbrev bufTy : (tb : Table) → Fin (tcTables nBuf tb) → BufTy
  | .hbm, ⟨0, _⟩ => ⟨S2x2048x2564, .f32⟩
  | .hbm, ⟨1, _⟩ => ⟨S2564x2x2048, .f32⟩
  | .hbm, ⟨2, _⟩ => ⟨S2x2048x2564, .f32⟩
  | .hbm, ⟨3, _⟩ => ⟨S2x2048x2564, .f32⟩
  | .hbm, ⟨4, _⟩ => ⟨S2564x2x2048, .f32⟩
  | .hbm, ⟨5, _⟩ => ⟨S2564x2x2048, .f32⟩
  | .hbm, ⟨6, _⟩ => ⟨S2564x2x2048, .f32⟩
  | .hbm, ⟨7, _⟩ => ⟨S2564x2x2048, .f32⟩
  | .hbm, ⟨8, _⟩ => ⟨S2564x2x2048, .f32⟩
  | .hbm, ⟨9, _⟩ => ⟨S2564x2x2048, .f32⟩
  | .local _ .vmem, ⟨0, _⟩ => ⟨S641x2x256, .f32⟩
  | .local _ .vmem, ⟨1, _⟩ => ⟨S641x2x256, .f32⟩
  | .local _ .vmem, ⟨2, _⟩ => ⟨S641x2x256, .f32⟩
  | .local _ .vmem, ⟨3, _⟩ => ⟨S641x2x256, .f32⟩
  | .local _ .vmem, ⟨4, _⟩ => ⟨S641x2x256, .f32⟩
  | .local _ .vmem, ⟨5, _⟩ => ⟨S641x2x256, .f32⟩
  | .local _ .vmem, ⟨6, _⟩ => ⟨S641x2x256, .f32⟩
  | .local _ .vmem, ⟨7, _⟩ => ⟨S641x2x256, .f32⟩
  | .local _ .vmem, ⟨8, _⟩ => ⟨S641x2x256, .f32⟩
  | .local _ .vmem, ⟨9, _⟩ => ⟨S641x2x256, .f32⟩
  | .local _ .vmem, ⟨10, _⟩ => ⟨S641x2x256, .f32⟩
  | .local _ .vmem, ⟨11, _⟩ => ⟨S641x2x256, .f32⟩
  | .local _ .vmem, ⟨12, _⟩ => ⟨S641x2x256, .f32⟩
  | .local _ .vmem, ⟨13, _⟩ => ⟨S641x2x256, .f32⟩
  | _, _ => ⟨S2x2048x2564, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S641x2x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S641x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S641x2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S641x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S641x2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S641x2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S641x2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference21Ideal.lean ====
abbrev S2x2048x2564 : Shape := ⟨3, ![2, 2048, 2564]⟩
abbrev S2564x2x2048 : Shape := ⟨3, ![2564, 2, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x2564, .f32⟩
  | .hbm, ⟨1, _⟩ => ⟨S2564x2x2048, .f32⟩
  | .hbm, ⟨2, _⟩ => ⟨S2x2048x2564, .f32⟩
  | .hbm, ⟨3, _⟩ => ⟨S2x2048x2564, .f32⟩
  | .hbm, ⟨4, _⟩ => ⟨S2x2048x2564, .f32⟩
  | .hbm, ⟨5, _⟩ => ⟨S_, .f32⟩
  | .hbm, ⟨6, _⟩ => ⟨S2x2048x2564, .f32⟩
  | .hbm, ⟨7, _⟩ => ⟨S2x2048x2564, .f32⟩
  | .hbm, ⟨8, _⟩ => ⟨S_, .f32⟩
  | .hbm, ⟨9, _⟩ => ⟨S2x2048x2564, .f32⟩
  | .hbm, ⟨10, _⟩ => ⟨S2x2048x2564, .f32⟩
  | .hbm, ⟨11, _⟩ => ⟨S2x2048x2564, .f32⟩
  | .hbm, ⟨12, _⟩ => ⟨S_, .f32⟩
  | .hbm, ⟨13, _⟩ => ⟨S2x2048x2564, .f32⟩
  | .hbm, ⟨14, _⟩ => ⟨S2x2048x2564, .f32⟩
  | .hbm, ⟨15, _⟩ => ⟨S2x2048x2564, .f32⟩
  | .hbm, ⟨16, _⟩ => ⟨S_, .f32⟩
  | .hbm, ⟨17, _⟩ => ⟨S2x2048x2564, .f32⟩
  | .hbm, ⟨18, _⟩ => ⟨S2x2048x2564, .f32⟩
  | .hbm, ⟨19, _⟩ => ⟨S2x2048x2564, .f32⟩
  | .hbm, ⟨20, _⟩ => ⟨S_, .f32⟩
  | .hbm, ⟨21, _⟩ => ⟨S2x2048x2564, .f32⟩
  | .hbm, ⟨22, _⟩ => ⟨S2x2048x2564, .f32⟩
  | .hbm, ⟨23, _⟩ => ⟨S_, .f32⟩
  | .hbm, ⟨24, _⟩ => ⟨S2x2048x2564, .f32⟩
  | .hbm, ⟨25, _⟩ => ⟨S2x2048x2564, .f32⟩
  | .hbm, ⟨26, _⟩ => ⟨S2x2048x2564, .f32⟩
  | .hbm, ⟨27, _⟩ => ⟨S_, .f32⟩
  | .hbm, ⟨28, _⟩ => ⟨S2x2048x2564, .f32⟩
  | .hbm, ⟨29, _⟩ => ⟨S2x2048x2564, .f32⟩
  | .hbm, ⟨30, _⟩ => ⟨S2x2048x2564, .f32⟩
  | .hbm, ⟨31, _⟩ => ⟨S_, .f32⟩
  | .hbm, ⟨32, _⟩ => ⟨S2x2048x2564, .f32⟩
  | .hbm, ⟨33, _⟩ => ⟨S2x2048x2564, .f32⟩
  | .hbm, ⟨34, _⟩ => ⟨S2x2048x2564, .f32⟩
  | .hbm, ⟨35, _⟩ => ⟨S_, .f32⟩
  | .hbm, ⟨36, _⟩ => ⟨S2x2048x2564, .f32⟩
  | .hbm, ⟨37, _⟩ => ⟨S2x2048x2564, .f32⟩
  | .hbm, ⟨38, _⟩ => ⟨S2564x2x2048, .f32⟩
  | .hbm, ⟨39, _⟩ => ⟨S2564x2x2048, .f32⟩
  | .hbm, ⟨40, _⟩ => ⟨S2564x2x2048, .f32⟩
  | _, _ => ⟨S2x2048x2564, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel22.lean ====
abbrev S2x2048 : Shape := ⟨2, ![2, 2048]⟩
abbrev S1x2x2048 : Shape := ⟨3, ![1, 2, 2048]⟩

abbrev nBuf : Space → Nat
  | .hbm => 11
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S1x2x2048, .f32⟩
  | .hbm, ⟨5, _⟩ => ⟨S1x2x2048, .f32⟩
  | .hbm, ⟨6, _⟩ => ⟨S1x2x2048, .f32⟩
  | .hbm, ⟨7, _⟩ => ⟨S1x2x2048, .f32⟩
  | .hbm, ⟨8, _⟩ => ⟨S1x2x2048, .f32⟩
  | .hbm, ⟨9, _⟩ => ⟨S1x2x2048, .f32⟩
  | .hbm, ⟨10, _⟩ => ⟨S1x2x2048, .f32⟩
  | .local _ .vmem, ⟨0, _⟩ => ⟨S1x2x2048, .f32⟩
  | .local _ .vmem, ⟨1, _⟩ => ⟨S1x2x2048, .f32⟩
  | .local _ .vmem, ⟨2, _⟩ => ⟨S1x2x2048, .f32⟩
  | .local _ .vmem, ⟨3, _⟩ => ⟨S1x2x2048, .f32⟩
  | .local _ .vmem, ⟨4, _⟩ => ⟨S1x2x2048, .f32⟩
  | .local _ .vmem, ⟨5, _⟩ => ⟨S1x2x2048, .f32⟩
  | .local _ .vmem, ⟨6, _⟩ => ⟨S1x2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]
-- ==== Reference22Ideal.lean ====
abbrev S2x2048 : Shape := ⟨2, ![2, 2048]⟩
abbrev S_ : Shape := ⟨0, ![]⟩
abbrev S1x2x2048 : Shape := ⟨3, ![1, 2, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | .hbm, ⟨37, _⟩ => ⟨S1x2x2048, .f32⟩
  | .hbm, ⟨38, _⟩ => ⟨S1x2x2048, .f32⟩
  | .hbm, ⟨39, _⟩ => ⟨S1x2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S4096x5632 : Shape := ⟨2, ![4096, 5632]⟩
abbrev S3x5632 : Shape := ⟨2, ![3, 5632]⟩
abbrev S5632 : Shape := ⟨1, ![5632]⟩
abbrev S1x5632 : Shape := ⟨2, ![1, 5632]⟩
abbrev S4096x128 : Shape := ⟨2, ![4096, 128]⟩
abbrev S3x128 : Shape := ⟨2, ![3, 128]⟩
abbrev S1x128 : Shape := ⟨2, ![1, 128]⟩
abbrev S8x128 : Shape := ⟨2, ![8, 128]⟩
abbrev S4088x128 : Shape := ⟨2, ![4088, 128]⟩

abbrev nBuf : Space → Nat
  | .hbm => 8
  | .vmem => 10
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S3x5632, .f32⟩
  | .hbm, ⟨3, _⟩ => ⟨S5632, .f32⟩
  | .hbm, ⟨4, _⟩ => ⟨S4096x5632, .bf16⟩
  | .hbm, ⟨5, _⟩ => ⟨S4096x5632, .bf16⟩
  | .hbm, ⟨6, _⟩ => ⟨S1x5632, .f32⟩
  | .hbm, ⟨7, _⟩ => ⟨S4096x5632, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S3x128, .f32⟩
  | .local _ .vmem, ⟨5, _⟩ => ⟨S3x128, .f32⟩
  | .local _ .vmem, ⟨6, _⟩ => ⟨S1x128, .f32⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference23Ideal.lean ====
abbrev S4096x5632 : Shape := ⟨2, ![4096, 5632]⟩
abbrev S3x5632 : Shape := ⟨2, ![3, 5632]⟩
abbrev S5632 : Shape := ⟨1, ![5632]⟩
abbrev S1x4096x5632 : Shape := ⟨3, ![1, 4096, 5632]⟩
abbrev S_ : Shape := ⟨0, ![]⟩
abbrev S1x4098x5632 : Shape := ⟨3, ![1, 4098, 5632]⟩
abbrev S1x5632 : Shape := ⟨2, ![1, 5632]⟩
abbrev S1x1x5632 : Shape := ⟨3, ![1, 1, 5632]⟩

abbrev nBuf : Space → Nat
  | .hbm => 44
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S3x5632, .f32⟩
  | .hbm, ⟨3, _⟩ => ⟨S5632, .f32⟩
  | .hbm, ⟨4, _⟩ => ⟨S1x4096x5632, .f32⟩
  | .hbm, ⟨5, _⟩ => ⟨S_, .i32⟩
  | .hbm, ⟨6, _⟩ => ⟨S_, .f32⟩
  | .hbm, ⟨7, _⟩ => ⟨S1x4098x5632, .f32⟩
  | .hbm, ⟨8, _⟩ => ⟨S1x4096x5632, .f32⟩
  | .hbm, ⟨9, _⟩ => ⟨S1x5632, .f32⟩
  | .hbm, ⟨10, _⟩ => ⟨S5632, .f32⟩
  | .hbm, ⟨11, _⟩ => ⟨S1x1x5632, .f32⟩
  | .hbm, ⟨12, _⟩ => ⟨S1x4096x5632, .f32⟩
  | .hbm, ⟨13, _⟩ => ⟨S1x4096x5632, .f32⟩
  | .hbm, ⟨14, _⟩ => ⟨S1x4096x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S1x4096x5632, .f32⟩
  | .hbm, ⟨19, _⟩ => ⟨S1x4096x5632, .f32⟩
  | .hbm, ⟨20, _⟩ => ⟨S1x4096x5632, .f32⟩
  | .hbm, ⟨21, _⟩ => ⟨S1x4096x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S1x4096x5632, .f32⟩
  | .hbm, ⟨26, _⟩ => ⟨S1x4096x5632, .f32⟩
  | .hbm, ⟨27, _⟩ => ⟨S1x4096x5632, .f32⟩
  | .hbm, ⟨28, _⟩ => ⟨S1x1x5632, .f32⟩
  | .hbm, ⟨29, _⟩ => ⟨S1x4096x5632, .f32⟩
  | .hbm, ⟨30, _⟩ => ⟨S1x4096x5632, .f32⟩
  | .hbm, ⟨31, _⟩ => ⟨S1x4096x5632, .f32⟩
  | .hbm, ⟨32, _⟩ => ⟨S1x4096x5632, .f32⟩
  | .hbm, ⟨33, _⟩ => ⟨S_, .f32⟩
  | .hbm, ⟨34, _⟩ => ⟨S1x4096x5632, .f32⟩
  | .hbm, ⟨35, _⟩ => ⟨S1x4096x5632, .f32⟩
  | .hbm, ⟨36, _⟩ => ⟨S_, .f32⟩
  | .hbm, ⟨37, _⟩ => ⟨S1x4096x5632, .f32⟩
  | .hbm, ⟨38, _⟩ => ⟨S1x4096x5632, .f32⟩
  | .hbm, ⟨39, _⟩ => ⟨S1x4096x5632, .f32⟩
  | .hbm, ⟨40, _⟩ => ⟨S1x4096x5632, .f32⟩
  | .hbm, ⟨41, _⟩ => ⟨S1x4096x5632, .f32⟩
  | .hbm, ⟨42, _⟩ => ⟨S4096x5632, .f32⟩
  | .hbm, ⟨43, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel24.lean ====
abbrev S4096x10368 : Shape := ⟨2, ![4096, 10368]⟩
abbrev S4x3072 : Shape := ⟨2, ![4, 3072]⟩
abbrev S4096x3072 : Shape := ⟨2, ![4096, 3072]⟩
abbrev S4096x128 : Shape := ⟨2, ![4096, 128]⟩
abbrev S4x128 : Shape := ⟨2, ![4, 128]⟩
abbrev S1x128 : Shape := ⟨2, ![1, 128]⟩
abbrev S8x128 : Shape := ⟨2, ![8, 128]⟩
abbrev S4088x128 : Shape := ⟨2, ![4088, 128]⟩
abbrev S4096 : Shape := ⟨1, ![4096]⟩
abbrev S4096x1 : Shape := ⟨2, ![4096, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x10368, .f32⟩
  | .hbm, ⟨1, _⟩ => ⟨S4x3072, .f32⟩
  | .hbm, ⟨2, _⟩ => ⟨S4096x10368, .bf16⟩
  | .hbm, ⟨3, _⟩ => ⟨S4096x3072, .f32⟩
  | .local _ .vmem, ⟨0, _⟩ => ⟨S4096x128, .bf16⟩
  | .local _ .vmem, ⟨1, _⟩ => ⟨S4096x128, .bf16⟩
  | .local _ .vmem, ⟨2, _⟩ => ⟨S4x128, .f32⟩
  | .local _ .vmem, ⟨3, _⟩ => ⟨S4x128, .f32⟩
  | .local _ .vmem, ⟨4, _⟩ => ⟨S4096x128, .f32⟩
  | .local _ .vmem, ⟨5, _⟩ => ⟨S4096x128, .f32⟩
  | _, _ => ⟨S4096x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S4096x10368 : Shape := ⟨2, ![4096, 10368]⟩
abbrev S4x3072 : Shape := ⟨2, ![4, 3072]⟩
abbrev S4096x3072 : Shape := ⟨2, ![4096, 3072]⟩
abbrev S1x4096x3072 : Shape := ⟨3, ![1, 4096, 3072]⟩
abbrev S_ : Shape := ⟨0, ![]⟩
abbrev S1x4099x3072 : Shape := ⟨3, ![1, 4099, 3072]⟩
abbrev S1x3072 : Shape := ⟨2, ![1, 3072]⟩
abbrev S3072 : Shape := ⟨1, ![3072]⟩
abbrev S1x1x3072 : Shape := ⟨3, ![1, 1, 3072]⟩
abbrev S1x4096x1024 : Shape := ⟨3, ![1, 4096, 1024]⟩
abbrev S1x4096x8x128 : Shape := ⟨4, ![1, 4096, 8, 128]⟩
abbrev S1x4096x8 : Shape := ⟨3, ![1, 4096, 8]⟩
abbrev S1x4096x8x1 : Shape := ⟨4, ![1, 4096, 8, 1]⟩

abbrev nBuf : Space → Nat
  | .hbm => 72
  | .vmem => 0
  | .smem => 0
  | _ => 0

abbrev bufTy : (tb : Table) → Fin (tcTables nBuf tb) → BufTy
  | .hbm, ⟨0, _⟩ => ⟨S4096x10368, .f32⟩
  | .hbm, ⟨1, _⟩ => ⟨S4x3072, .f32⟩
  | .hbm, ⟨2, _⟩ => ⟨S4096x3072, .f32⟩
  | .hbm, ⟨3, _⟩ => ⟨S1x4096x3072, .f32⟩
  | .hbm, ⟨4, _⟩ => ⟨S_, .i32⟩
  | .hbm, ⟨5, _⟩ => ⟨S_, .f32⟩
  | .hbm, ⟨6, _⟩ => ⟨S1x4099x3072, .f32⟩
  | .hbm, ⟨7, _⟩ => ⟨S1x4096x3072, .f32⟩
  | .hbm, ⟨8, _⟩ => ⟨S1x3072, .f32⟩
  | .hbm, ⟨9, _⟩ => ⟨S3072, .f32⟩
  | .hbm, ⟨10, _⟩ => ⟨S1x1x3072, .f32⟩
  | .hbm, ⟨11, _⟩ => ⟨S1x4096x3072, .f32⟩
  | .hbm, ⟨12, _⟩ => ⟨S1x4096x3072, .f32⟩
  | .hbm, ⟨13, _⟩ => ⟨S1x4096x3072, .f32⟩
  | .hbm, ⟨14, _⟩ => ⟨S1x3072, .f32⟩
  | .hbm, ⟨15, _⟩ => ⟨S3072, .f32⟩
  | .hbm, ⟨16, _⟩ => ⟨S1x1x3072, .f32⟩
  | .hbm, ⟨17, _⟩ => ⟨S1x4096x3072, .f32⟩
  | .hbm, ⟨18, _⟩ => ⟨S1x4096x3072, .f32⟩
  | .hbm, ⟨19, _⟩ => ⟨S1x4096x3072, .f32⟩
  | .hbm, ⟨20, _⟩ => ⟨S1x4096x3072, .f32⟩
  | .hbm, ⟨21, _⟩ => ⟨S1x3072, .f32⟩
  | .hbm, ⟨22, _⟩ => ⟨S3072, .f32⟩
  | .hbm, ⟨23, _⟩ => ⟨S1x1x3072, .f32⟩
  | .hbm, ⟨24, _⟩ => ⟨S1x4096x3072, .f32⟩
  | .hbm, ⟨25, _⟩ => ⟨S1x4096x3072, .f32⟩
  | .hbm, ⟨26, _⟩ => ⟨S1x4096x3072, .f32⟩
  | .hbm, ⟨27, _⟩ => ⟨S1x4096x3072, .f32⟩
  | .hbm, ⟨28, _⟩ => ⟨S1x3072, .f32⟩
  | .hbm, ⟨29, _⟩ => ⟨S3072, .f32⟩
  | .hbm, ⟨30, _⟩ => ⟨S1x1x3072, .f32⟩
  | .hbm, ⟨31, _⟩ => ⟨S1x4096x3072, .f32⟩
  | .hbm, ⟨32, _⟩ => ⟨S1x4096x3072, .f32⟩
  | .hbm, ⟨33, _⟩ => ⟨S1x4096x3072, .f32⟩
  | .hbm, ⟨34, _⟩ => ⟨S1x4096x3072, .f32⟩
  | .hbm, ⟨35, _⟩ => ⟨S1x4096x3072, .f32⟩
  | .hbm, ⟨36, _⟩ => ⟨S_, .f32⟩
  | .hbm, ⟨37, _⟩ => ⟨S1x4096x3072, .f32⟩
  | .hbm, ⟨38, _⟩ => ⟨S1x4096x3072, .f32⟩
  | .hbm, ⟨39, _⟩ => ⟨S_, .f32⟩
  | .hbm, ⟨40, _⟩ => ⟨S1x4096x3072, .f32⟩
  | .hbm, ⟨41, _⟩ => ⟨S1x4096x3072, .f32⟩
  | .hbm, ⟨42, _⟩ => ⟨S1x4096x3072, .f32⟩
  | .hbm, ⟨43, _⟩ => ⟨S1x4096x1024, .f32⟩
  | .hbm, ⟨44, _⟩ => ⟨S1x4096x1024, .f32⟩
  | .hbm, ⟨45, _⟩ => ⟨S1x4096x1024, .f32⟩
  | .hbm, ⟨46, _⟩ => ⟨S1x4096x8x128, .f32⟩
  | .hbm, ⟨47, _⟩ => ⟨S1x4096x8x128, .f32⟩
  | .hbm, ⟨48, _⟩ => ⟨S_, .f32⟩
  | .hbm, ⟨49, _⟩ => ⟨S1x4096x8, .f32⟩
  | .hbm, ⟨50, _⟩ => ⟨S1x4096x8x1, .f32⟩
  | .hbm, ⟨51, _⟩ => ⟨S_, .f32⟩
  | .hbm, ⟨52, _⟩ => ⟨S1x4096x8x1, .f32⟩
  | .hbm, ⟨53, _⟩ => ⟨S1x4096x8x1, .f32⟩
  | .hbm, ⟨54, _⟩ => ⟨S1x4096x8x1, .f32⟩
  | .hbm, ⟨55, _⟩ => ⟨S1x4096x8x128, .f32⟩
  | .hbm, ⟨56, _⟩ => ⟨S1x4096x8x128, .f32⟩
  | .hbm, ⟨57, _⟩ => ⟨S1x4096x8x128, .f32⟩
  | .hbm, ⟨58, _⟩ => ⟨S1x4096x8x128, .f32⟩
  | .hbm, ⟨59, _⟩ => ⟨S_, .f32⟩
  | .hbm, ⟨60, _⟩ => ⟨S1x4096x8, .f32⟩
  | .hbm, ⟨61, _⟩ => ⟨S1x4096x8x1, .f32⟩
  | .hbm, ⟨62, _⟩ => ⟨S_, .f32⟩
  | .hbm, ⟨63, _⟩ => ⟨S1x4096x8x1, .f32⟩
  | .hbm, ⟨64, _⟩ => ⟨S1x4096x8x1, .f32⟩
  | .hbm, ⟨65, _⟩ => ⟨S1x4096x8x1, .f32⟩
  | .hbm, ⟨66, _⟩ => ⟨S1x4096x8x128, .f32⟩
  | .hbm, ⟨67, _⟩ => ⟨S1x4096x8x128, .f32⟩
  | .hbm, ⟨68, _⟩ => ⟨S1x4096x1024, .f32⟩
  | .hbm, ⟨69, _⟩ => ⟨S1x4096x1024, .f32⟩
  | .hbm, ⟨70, _⟩ => ⟨S1x4096x3072, .f32⟩
  | .hbm, ⟨71, _⟩ => ⟨S4096x3072, .f32⟩
  | _, _ => ⟨S4096x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst : Ref sig .tc := ⟨.hbm, 48, rfl⟩
abbrev main_v36 : Ref sig .tc := ⟨.hbm, 49, rfl⟩
abbrev main_v37 : Ref sig .tc := ⟨.hbm, 50, rfl⟩
abbrev main_cst_0 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_1 : Ref sig .tc := ⟨.hbm, 59, rfl⟩
abbrev main_v45 : Ref sig .tc := ⟨.hbm, 60, rfl⟩
abbrev main_v46 : Ref sig .tc := ⟨.hbm, 61, rfl⟩
abbrev main_cst_2 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Kernel25.lean ====
abbrev S4096x1024 : Shape := ⟨2, ![4096, 1024]⟩
abbrev S4096x10368 : Shape := ⟨2, ![4096, 10368]⟩
abbrev S128 : Shape := ⟨1, ![128]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x10368, .f32⟩
  | .hbm, ⟨2, _⟩ => ⟨S128, .f32⟩
  | .hbm, ⟨3, _⟩ => ⟨S4096x10368, .bf16⟩
  | .hbm, ⟨4, _⟩ => ⟨S1x128, .f32⟩
  | .hbm, ⟨5, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x128, .f32⟩
  | .local _ .vmem, ⟨5, _⟩ => ⟨S256x1024, .bf16⟩
  | .local _ .vmem, ⟨6, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference25Ideal.lean ====
abbrev S4096x1024 : Shape := ⟨2, ![4096, 1024]⟩
abbrev S4096x10368 : Shape := ⟨2, ![4096, 10368]⟩
abbrev S128 : Shape := ⟨1, ![128]⟩
abbrev S1x4096x1024 : Shape := ⟨3, ![1, 4096, 1024]⟩
abbrev S1x4096x8x128 : Shape := ⟨4, ![1, 4096, 8, 128]⟩
abbrev S_ : Shape := ⟨0, ![]⟩
abbrev S1x4096x8 : Shape := ⟨3, ![1, 4096, 8]⟩
abbrev S1x4096x8x1 : Shape := ⟨4, ![1, 4096, 8, 1]⟩
abbrev S1x1x1x128 : Shape := ⟨4, ![1, 1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x10368, .f32⟩
  | .hbm, ⟨2, _⟩ => ⟨S128, .f32⟩
  | .hbm, ⟨3, _⟩ => ⟨S4096x1024, .f32⟩
  | .hbm, ⟨4, _⟩ => ⟨S1x4096x1024, .f32⟩
  | .hbm, ⟨5, _⟩ => ⟨S1x4096x8x128, .f32⟩
  | .hbm, ⟨6, _⟩ => ⟨S1x4096x8x128, .f32⟩
  | .hbm, ⟨7, _⟩ => ⟨S_, .f32⟩
  | .hbm, ⟨8, _⟩ => ⟨S1x4096x8, .f32⟩
  | .hbm, ⟨9, _⟩ => ⟨S1x4096x8x1, .f32⟩
  | .hbm, ⟨10, _⟩ => ⟨S_, .f32⟩
  | .hbm, ⟨11, _⟩ => ⟨S1x4096x8x1, .f32⟩
  | .hbm, ⟨12, _⟩ => ⟨S1x4096x8x1, .f32⟩
  | .hbm, ⟨13, _⟩ => ⟨S_, .f32⟩
  | .hbm, ⟨14, _⟩ => ⟨S1x4096x8x1, .f32⟩
  | .hbm, ⟨15, _⟩ => ⟨S1x4096x8x1, .f32⟩
  | .hbm, ⟨16, _⟩ => ⟨S1x4096x8x1, .f32⟩
  | .hbm, ⟨17, _⟩ => ⟨S1x4096x8x128, .f32⟩
  | .hbm, ⟨18, _⟩ => ⟨S1x4096x8x128, .f32⟩
  | .hbm, ⟨19, _⟩ => ⟨S1x1x1x128, .f32⟩
  | .hbm, ⟨20, _⟩ => ⟨S1x4096x8x128, .f32⟩
  | .hbm, ⟨21, _⟩ => ⟨S1x4096x8x128, .f32⟩
  | .hbm, ⟨22, _⟩ => ⟨S1x4096x8x128, .f32⟩
  | .hbm, ⟨23, _⟩ => ⟨S1x4096x8x128, .f32⟩
  | .hbm, ⟨24, _⟩ => ⟨S1x4096x8x128, .f32⟩
  | .hbm, ⟨25, _⟩ => ⟨S_, .f32⟩
  | .hbm, ⟨26, _⟩ => ⟨S1x4096x8x128, .f32⟩
  | .hbm, ⟨27, _⟩ => ⟨S1x4096x8x128, .f32⟩
  | .hbm, ⟨28, _⟩ => ⟨S_, .f32⟩
  | .hbm, ⟨29, _⟩ => ⟨S1x4096x8x128, .f32⟩
  | .hbm, ⟨30, _⟩ => ⟨S1x4096x8x128, .f32⟩
  | .hbm, ⟨31, _⟩ => ⟨S1x4096x8x128, .f32⟩
  | .hbm, ⟨32, _⟩ => ⟨S1x4096x8x128, .f32⟩
  | .hbm, ⟨33, _⟩ => ⟨S1x4096x1024, .f32⟩
  | .hbm, ⟨34, _⟩ => ⟨S4096x1024, .f32⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== Proof.Masks.lean ====
/-
  The constant masks of the kernel's body read at an index: which rows and columns of a 256-row stack (four heads of 64
  positions each) belong to the same head, and which columns of a 512-wide stack (four heads of 128 coordinates each)
  belong to a row's head.
-/
module

public import proofs.«01_k».proof.Proof.Gen.KernelIdeal.Skeleton
public import Idealize.ShloMosaic.Lib.Pointwise
public import Idealize.ShloMosaic.Lib.WordCmp

@[expose] public section

noncomputable section

namespace Cert.Proof

open Idealize.ShloMosaic Cert.KernelIdeal Cert.KernelIdeal.Gen

/-- The row of the 256-row stack that holds position `i` of the stack's head `j`. -/
def row (j : Fin 4) (i : Fin 64) : Fin 256 := ⟨64 * j.val + i.val, by omega⟩

/-- The row of the 512-row stack that holds coordinate `d` of the stack's head `j`. -/
def wrow (j : Fin 4) (d : Fin 128) : Fin 512 := ⟨128 * j.val + d.val, by omega⟩

/-- "Same head", as the body computes it. -/
def blkM : IVec S256x256 1 := k0_pay6 (iota .tc S256x256 32 [1] iota_S256x256_d1_w32) k0_pay3 64#32 k0_pay4 k0_pay5
  (Scalar.extui (Scalar.cmpi .sgt 64#32 0#32)) (Scalar.extui (Scalar.cmpi .slt 64#32 0#32))
/-- "The column belongs to the row's head", as the body computes it. -/
def wideM : IVec S256x512 1 := k0_pay10 k0_pay7 (iota .tc S256x512 32 [1] iota_S256x512_d1_w32) 128#32 k0_pay8 k0_pay9 0#32
/-- "Same head and the column's position is not after the row's". -/
def causalM : IVec S256x256 1 := k0_pay11 (iota .tc S256x256 32 [0] iota_S256x256_d0_w32) (iota .tc S256x256 32 [1] iota_S256x256_d1_w32) blkM
/-- "The row is the column". -/
def eyeM : IVec S256x256 1 := k0_pay14 (iota .tc S256x256 32 [0] iota_S256x256_d0_w32) (iota .tc S256x256 32 [1] iota_S256x256_d1_w32)

/-- Division of a row or column number by `n`, rounded down, as the body spells it for signed words. -/
def floorDiv (n x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt n 0#32)) (Scalar.extui (Scalar.cmpi .slt n 0#32))))
      (IntOp.cmpi .ne (IntOp.remsi .vector x n) 0#32))
    (IntOp.subi (IntOp.divsi .vector x n) 1#32)
    (IntOp.divsi .vector x n)

theorem floorDiv_64 : ∀ a : Fin 256, floorDiv 64#32 (BitVec.ofNat 32 a.val) = BitVec.ofNat 32 (a.val / 64) := by
  decide +kernel
theorem floorDiv_128 : ∀ a : Fin 512, floorDiv 128#32 (BitVec.ofNat 32 a.val) = BitVec.ofNat 32 (a.val / 128) := by
  decide +kernel
theorem eq_word (a b : ℕ) (ha : a < 1024) (hb : b < 1024) :
    IntOp.cmpi .eq (BitVec.ofNat 32 a) (BitVec.ofNat 32 b) = if a = b then 1#1 else 0#1 := by
  rw [Idealize.ShloMosaic.WordCmp.cmpi_eq_ofNat (by omega) (by omega)]
  by_cases h : a = b <;> simp [h]
theorem ge_word (a b : ℕ) (ha : a < 1024) (hb : b < 1024) :
    IntOp.cmpi .sge (BitVec.ofNat 32 a) (BitVec.ofNat 32 b) = if b ≤ a then 1#1 else 0#1 := by
  rw [Idealize.ShloMosaic.WordCmp.cmpi_sge_ofNat (by omega) (by omega)]
  by_cases h : b ≤ a <;> simp [h]

theorem row_div (j : Fin 4) (i : Fin 64) : (row j i).val / 64 = j.val := by simp only [row]; omega
theorem wrow_div (j : Fin 4) (d : Fin 128) : (wrow j d).val / 128 = j.val := by simp only [wrow]; omega
theorem row_inj {j j' : Fin 4} {i i' : Fin 64} : row j i = row j' i' ↔ j = j' ∧ i = i' := by
  simp only [row, Fin.ext_iff]; omega

theorem blkM_row (j j' : Fin 4) (i i' : Fin 64) : blkM (ix2 (row j i) (row j' i')) = if j = j' then 1#1 else 0#1 := by
  pointwise [blkM, k0_pay6, k0_pay3, k0_pay4, k0_pay5]
  show IntOp.cmpi .eq (floorDiv 64#32 _) (floorDiv 64#32 _) = _
  rw [floorDiv_64, floorDiv_64, row_div, row_div, eq_word _ _ (by omega) (by omega)]; simp only [Fin.ext_iff]

theorem wideM_row (j j' : Fin 4) (i : Fin 64) (d : Fin 128) : wideM (ix2 (row j i) (wrow j' d)) = if j = j' then 1#1 else 0#1 := by
  pointwise [wideM, k0_pay10, k0_pay7, k0_pay8, k0_pay9]
  show IntOp.cmpi .eq (floorDiv 64#32 (BitVec.ofNat 32 (row j i).val)) (floorDiv 128#32 (BitVec.ofNat 32 (wrow j' d).val)) = _
  rw [floorDiv_64, floorDiv_128, row_div, wrow_div, eq_word _ _ (by omega) (by omega)]; simp only [Fin.ext_iff]

theorem causalM_row (j j' : Fin 4) (i i' : Fin 64) :
    causalM (ix2 (row j i) (row j' i')) = if j = j' ∧ i' ≤ i then 1#1 else 0#1 := by
  have h := blkM_row j j' i i'
  pointwise [causalM, k0_pay11]
  rw [h, ge_word _ _ (by omega) (by omega)]
  by_cases hj : j = j'
  · subst hj
    have : (row j i').val ≤ (row j i).val ↔ i' ≤ i := by simp only [row, Fin.le_def]; omega
    simp only [this, if_true, true_and]
    split <;> rfl
  · simp only [hj, if_false, false_and]
    split <;> rfl

theorem eyeM_row (a b : Fin 256) : eyeM (ix2 a b) = if a = b then 1#1 else 0#1 := by
  pointwise [eyeM, k0_pay14]
  rw [eq_word _ _ (by omega) (by omega)]; simp only [Fin.ext_iff]

end Cert.Proof

end
-- ==== Proof.Core.lean ====
/-
  One chunk of one group of heads, as the body computes it: the operations that lead to the gradient in `v` and to the
  gradient in the state before the chunk, and their values at an index. A group holds four heads, stacked along the
  rows: 64 positions each for the arrays of the chunk, 128 coordinates each for the state's gradient.
-/
module

public import proofs.«01_k».proof.Proof.Masks

@[expose] public section

noncomputable section

namespace Cert.Proof

open Idealize.ShloMosaic Cert.KernelIdeal Cert.KernelIdeal.Gen

/-! ## Sums over a stack -/

theorem sum_rows (f : Fin 256 → EReal) : ∑ a, f a = ∑ j, ∑ i, f (row j i) := by
  rw [← Fintype.sum_prod_type', ← (finProdFinEquiv (m := 4) (n := 64)).sum_comp]
  refine Finset.sum_congr rfl fun p _ => congrArg f (Fin.ext ?_)
  simp [finProdFinEquiv, row]; omega

theorem sum_wrows (f : Fin 512 → EReal) : ∑ a, f a = ∑ j, ∑ d, f (wrow j d) := by
  rw [← Fintype.sum_prod_type', ← (finProdFinEquiv (m := 4) (n := 128)).sum_comp]
  refine Finset.sum_congr rfl fun p _ => congrArg f (Fin.ext ?_)
  simp [finProdFinEquiv, wrow]; omega

/-- A sum over the rows of a stack whose terms vanish outside head `j`. -/
theorem sum_rows_of (f : Fin 256 → EReal) (j : Fin 4) (h : ∀ j' i, j' ≠ j → f (row j' i) = 0) : ∑ a, f a = ∑ i, f (row j i) := by
  rw [sum_rows, Finset.sum_eq_single j (fun j' _ hj => Finset.sum_eq_zero fun i _ => h j' i hj) (by simp)]

theorem sum_wrows_of (f : Fin 512 → EReal) (j : Fin 4) (h : ∀ j' d, j' ≠ j → f (wrow j' d) = 0) : ∑ a, f a = ∑ d, f (wrow j d) := by
  rw [sum_wrows, Finset.sum_eq_single j (fun j' _ hj => Finset.sum_eq_zero fun i _ => h j' i hj) (by simp)]

/-! ## The body's operations -/

abbrev V256 := FVec Ideal S256x128 .f32
abbrev Col := FVec Ideal S256x1 .f32
abbrev Sq := FVec Ideal S256x256 .f32
abbrev St := FVec Ideal S512x128 .f32

/-- The decay between two positions of one head, zero elsewhere. -/
def decV (g : Col) : Sq :=
  let x : Sq := select eyeM (broadcastTo S256x256 (shapeCast S256x1 g shapeCasts_S256x1_S256x1) broadcasts_S256x1_S256x256)
    (broadcast S256x256 (Scalar.ofBits .f32 0x00000000#32))
  let ones : FVec Ideal S256x256 .bf16 := truncf .bf16 (broadcast S256x256 (Scalar.ofBits .f32 0x3F800000#32)) bitsLt_bf16_f32
  let x1 : FVec Ideal S256x256 .bf16 := truncf .bf16 x bitsLt_bf16_f32
  let r1 : Sq := subf x (extf .f32 x1 bitsLt_bf16_f32)
  let x2 : FVec Ideal S256x256 .bf16 := truncf .bf16 r1 bitsLt_bf16_f32
  let x3 : FVec Ideal S256x256 .bf16 := truncf .bf16 (subf r1 (extf .f32 x2 bitsLt_bf16_f32)) bitsLt_bf16_f32
  let d := fun y => matmul dot_S256x256_S256x256_S256x256_1_0_0_1_n_n none ones y (constant S256x256 .f32 0x00000000#32)
  let grow : Sq := addf (addf (d x1) (d x2)) (d x3)
  let diff : Sq := select causalM (subf (broadcastTo S256x256 g broadcasts_S256x1_S256x256) grow)
    (broadcast S256x256 (Scalar.ofBits .f32 0x00000000#32))
  select causalM (exp diff) (broadcast S256x256 (Scalar.ofBits .f32 0x00000000#32))

/-- The decayed scores `P`. -/
def scoreV (q k : V256) (g : Col) : Sq :=
  select causalM
    (mulf (matmul dot_S256x128_S256x128_S256x256_1_1_0_0_n_n none (truncf .bf16 q bitsLt_bf16_f32) (truncf .bf16 k bitsLt_bf16_f32)
      (constant S256x256 .f32 0x00000000#32)) (decV g))
    (broadcast S256x256 (Scalar.ofBits .f32 0x00000000#32))

/-- A column times the rows of a stack. -/
def scaleV (x : V256) (c : Col) : V256 := mulf x (broadcastTo S256x128 c broadcasts_S256x1_S256x128)

/-- A stack laid out once per head, each head kept in its own columns. -/
def spreadV (x : V256) : FVec Ideal S256x512 .bf16 :=
  truncf .bf16 (select wideM
    (concatenate S256x512 1 [⟨S256x128, x⟩, ⟨S256x128, x⟩, ⟨S256x128, x⟩, ⟨S256x128, x⟩]
      concatenates_S256x128_S256x128_S256x128_S256x128_S256x512_d1)
    (broadcast S256x512 (Scalar.ofBits .f32 0x00000000#32))) bitsLt_bf16_f32

/-- The decayed keys `k · exp(g_last − g)`. -/
def kdecV (k : V256) (g gl : Col) : V256 := scaleV k (exp (subf gl g))

/-- The gradient in the new values: `Pᵀ·do + kd·dS`. -/
def dvnV (q k o : V256) (g gl : Col) (D : St) : V256 :=
  addf (matmul dot_S256x256_S256x128_S256x128_0_0_1_1_n_n none (truncf .bf16 (scoreV q k g) bitsLt_bf16_f32) (truncf .bf16 o bitsLt_bf16_f32)
      (constant S256x128 .f32 0x00000000#32))
    (matmul dot_S256x512_S512x128_S256x128_1_0_0_1_n_n none (spreadV (kdecV k g gl)) (truncf .bf16 D bitsLt_bf16_f32)
      (constant S256x128 .f32 0x00000000#32))

/-- `w = T·(k·beta·exp g)`. -/
def wV (k : V256) (b g : Col) (T : Sq) : V256 :=
  matmul dot_S256x256_S256x128_S256x128_1_0_0_1_n_n none (truncf .bf16 T bitsLt_bf16_f32)
    (truncf .bf16 (scaleV (scaleV k b) (exp g)) bitsLt_bf16_f32) (constant S256x128 .f32 0x00000000#32)

/-- The gradient in the state before the chunk. -/
def dsV (q k o : V256) (b g gl : Col) (es : FVec Ideal S512x1 .f32) (T : Sq) (D : St) : St :=
  subf
    (addf (mulf D (broadcastTo S512x128 es broadcasts_S512x1_S512x128))
      (matmul dot_S256x512_S256x128_S512x128_0_0_1_1_n_n none (spreadV (scaleV q (exp g))) (truncf .bf16 o bitsLt_bf16_f32)
        (constant S512x128 .f32 0x00000000#32)))
    (matmul dot_S256x512_S256x128_S512x128_0_0_1_1_n_n none (spreadV (wV k b g T)) (truncf .bf16 (dvnV q k o g gl D) bitsLt_bf16_f32)
      (constant S512x128 .f32 0x00000000#32))

/-- The gradient in `v`. -/
def dvV (q k o : V256) (b g gl : Col) (T : Sq) (D : St) : V256 :=
  scaleV (matmul dot_S256x256_S256x128_S256x128_0_0_1_1_n_n none (truncf .bf16 T bitsLt_bf16_f32)
    (truncf .bf16 (dvnV q k o g gl D) bitsLt_bf16_f32) (constant S256x128 .f32 0x00000000#32)) b

/-! ## One head's mathematics -/

namespace Head

variable (G : Fin 64 → EReal) (Q K O : Fin 64 → Fin 128 → EReal) (B : Fin 64 → EReal) (T : Fin 64 → Fin 64 → EReal)
  (D : Fin 128 → Fin 128 → EReal)

def dec (i r : Fin 64) : EReal := if r ≤ i then Ideal.exp (G i - G r) else 0
def score (i r : Fin 64) : EReal := if r ≤ i then (∑ d, Q i d * K r d) * dec G i r else 0
def kdec (i : Fin 64) (d : Fin 128) : EReal := K i d * Ideal.exp (G 63 - G i)
def qdec (i : Fin 64) (d : Fin 128) : EReal := Q i d * Ideal.exp (G i)
def w (i : Fin 64) (d : Fin 128) : EReal := ∑ r, T i r * (K r d * B r * Ideal.exp (G r))
def dvn (i : Fin 64) (e : Fin 128) : EReal := ∑ r, score G Q K r i * O r e + ∑ d, kdec G K i d * D d e
def ds (d e : Fin 128) : EReal :=
  D d e * Ideal.exp (G 63) + ∑ i, qdec G Q i d * O i e - ∑ i, w G K B T i d * dvn G Q K O D i e
def dv (i : Fin 64) (e : Fin 128) : EReal := (∑ r, T r i * dvn G Q K O D r e) * B i

end Head

/-! ## The operations at an index -/

/-- The columns and stacks a chunk of a group starts from, head by head. -/
structure Reads (q k o : V256) (b g gl : Col) (T : Sq) (D : St)
    (G : Fin 4 → Fin 64 → EReal) (Q K O : Fin 4 → Fin 64 → Fin 128 → EReal) (B : Fin 4 → Fin 64 → EReal)
    (Tm : Fin 4 → Fin 64 → Fin 64 → EReal) (Dm : Fin 4 → Fin 128 → Fin 128 → EReal) : Prop where
  q : ∀ j i d, q (ix2 (row j i) d) = Q j i d
  k : ∀ j i d, k (ix2 (row j i) d) = K j i d
  o : ∀ j i d, o (ix2 (row j i) d) = O j i d
  b : ∀ j i l, b (ix2 (row j i) l) = B j i
  g : ∀ j i l, g (ix2 (row j i) l) = G j i
  gl : ∀ j i l, gl (ix2 (row j i) l) = G j 63
  T : ∀ j j' i r, T (ix2 (row j i) (row j' r)) = if j = j' then Tm j i r else 0
  D : ∀ j d e, D (ix2 (wrow j d) e) = Dm j d e
  fin : ∀ j i, ∃ r : ℝ, G j i = r

theorem col_of {g : Col} {G : Fin 4 → Fin 64 → EReal} (h : ∀ j i l, g (ix2 (row j i) l) = G j i) (j : Fin 4) (i : Fin 64) :
    g (ix2 (row j i) 0) = G j i := h j i 0

theorem select_ite {α : Type} (p : Prop) [Decidable p] (x y : α) : Scalar.select (if p then 1#1 else 0#1) x y = if p then x else y := by
  by_cases h : p <;> simp [h, Scalar.select]

section

variable {g : Col} {G : Fin 4 → Fin 64 → EReal} (hg : ∀ j i l, g (ix2 (row j i) l) = G j i) (hf : ∀ j i, ∃ r : ℝ, G j i = r)
include hg hf

theorem decV_row (j j' : Fin 4) (i r : Fin 64) :
    decV g (ix2 (row j i) (row j' r)) = if j = j' then Head.dec (G j) i r else 0 := by
  have h0 : ∀ (j₂ : Fin 4) (i₂ : Fin 64), G j₂ i₂ - G j₂ i₂ = 0 := fun j₂ i₂ => by
    obtain ⟨x, hx⟩ := hf j₂ i₂
    rw [hx, ← EReal.coe_sub, sub_self, EReal.coe_zero]
  pointwise [decV]
  simp only [eyeM_row, causalM_row, select_ite]
  by_cases hc : j = j' ∧ r ≤ i
  · obtain ⟨rfl, hr⟩ := hc
    simp only [hr, true_and, if_true, Head.dec, hg]
    have e1 : ∀ x : Fin 256, (if x = row j r then g (ix2 x 0) else 0) - (if x = row j r then g (ix2 x 0) else 0) = 0 := by
      intro x
      by_cases hx : x = row j r
      · simp only [hx, if_true, hg, h0]
      · simp only [hx, if_false, sub_zero]
    simp only [e1, sub_zero, Finset.sum_const_zero, add_zero, Finset.sum_ite_eq', Finset.mem_univ, if_true, hg]
  · simp only [hc, if_false]
    by_cases hj : j = j'
    · subst hj
      have hr : ¬ r ≤ i := fun h => hc ⟨rfl, h⟩
      simp only [Head.dec, hr, if_false, if_true]
    · simp only [hj, if_false]

theorem scoreV_row {q k : V256} {Q K : Fin 4 → Fin 64 → Fin 128 → EReal} (hq : ∀ j i d, q (ix2 (row j i) d) = Q j i d)
    (hk : ∀ j i d, k (ix2 (row j i) d) = K j i d) (j j' : Fin 4) (i r : Fin 64) :
    scoreV q k g (ix2 (row j i) (row j' r)) = if j = j' then Head.score (G j) (Q j) (K j) i r else 0 := by
  pointwise [scoreV]
  simp only [causalM_row, select_ite, decV_row hg hf, hq, hk]
  by_cases hj : j = j'
  · subst hj
    simp only [true_and, if_true, Head.score]
  · simp only [hj, false_and, if_false]

end

theorem scaleV_row {x : V256} {c : Col} {X : Fin 4 → Fin 64 → Fin 128 → EReal} {C : Fin 4 → Fin 64 → EReal}
    (hx : ∀ j i d, x (ix2 (row j i) d) = X j i d) (hc : ∀ j i l, c (ix2 (row j i) l) = C j i) (j : Fin 4) (i : Fin 64) (d : Fin 128) :
    scaleV x c (ix2 (row j i) d) = X j i d * C j i := by
  pointwise [scaleV]
  rw [hx, hc]

theorem spreadV_row {x : V256} {X : Fin 4 → Fin 64 → Fin 128 → EReal} (hx : ∀ j i d, x (ix2 (row j i) d) = X j i d)
    (j j' : Fin 4) (i : Fin 64) (d : Fin 128) :
    spreadV x (ix2 (row j i) (wrow j' d)) = if j = j' then X j i d else 0 := by
  have key : ∀ (n : ℕ) (hn : n < 128), n = d.val → x (ix2 (row j i) ⟨n, hn⟩) = X j i d := by
    intro n hn h; subst h; exact hx j i d
  pointwise [spreadV]
  simp only [wideM_row, select_ite]
  by_cases hj : j = j'
  · subst hj
    simp only [if_true]
    have hv : (wrow j d).val = 128 * j.val + d.val := rfl
    split_ifs <;> exact key _ _ (by omega)
  · simp only [hj, if_false]

theorem exp_row {c : Col} {C : Fin 4 → Fin 64 → EReal} (hc : ∀ j i l, c (ix2 (row j i) l) = C j i) (j : Fin 4) (i : Fin 64) (l : Fin 1) :
    (exp c : Col) (ix2 (row j i) l) = Ideal.exp (C j i) := by
  rw [← hc j i l]; rfl

section

variable {q k o : V256} {b g gl : Col} {T : Sq} {D : St} {G : Fin 4 → Fin 64 → EReal} {Q K O : Fin 4 → Fin 64 → Fin 128 → EReal}
  {B : Fin 4 → Fin 64 → EReal} {Tm : Fin 4 → Fin 64 → Fin 64 → EReal} {Dm : Fin 4 → Fin 128 → Fin 128 → EReal}
  (h : Reads q k o b g gl T D G Q K O B Tm Dm)
include h

theorem kdecV_row (j : Fin 4) (i : Fin 64) (d : Fin 128) : kdecV k g gl (ix2 (row j i) d) = Head.kdec (G j) (K j) i d :=
  scaleV_row h.k (C := fun j i => Ideal.exp (G j 63 - G j i)) (exp_row fun j i l => by
    rw [← h.gl j i l, ← h.g j i l]; rfl) j i d

theorem dvnV_row (j : Fin 4) (i : Fin 64) (e : Fin 128) :
    dvnV q k o g gl D (ix2 (row j i) e) = Head.dvn (G j) (Q j) (K j) (O j) (Dm j) i e := by
  pointwise [dvnV]
  rw [sum_rows_of _ j, sum_wrows_of _ j]
  · simp only [scoreV_row h.g h.fin h.q h.k, spreadV_row (kdecV_row h), h.o, h.D, if_true, Head.dvn]
  · intro j' d hj
    rw [spreadV_row (kdecV_row h), if_neg (Ne.symm hj), zero_mul]
  · intro j' r hj
    rw [scoreV_row h.g h.fin h.q h.k, if_neg hj, zero_mul]

theorem wV_row (j : Fin 4) (i : Fin 64) (d : Fin 128) : wV k b g T (ix2 (row j i) d) = Head.w (G j) (K j) (B j) (Tm j) i d := by
  pointwise [wV]
  rw [sum_rows_of _ j]
  · simp only [h.T, scaleV_row (scaleV_row h.k h.b) (exp_row h.g), if_true, Head.w]
  · intro j' r hj
    rw [h.T, if_neg (Ne.symm hj), zero_mul]

theorem dsV_row {es : FVec Ideal S512x1 .f32} (hes : ∀ j d l, es (ix2 (wrow j d) l) = Ideal.exp (G j 63)) (j : Fin 4) (d e : Fin 128) :
    dsV q k o b g gl es T D (ix2 (wrow j d) e) = Head.ds (G j) (Q j) (K j) (O j) (B j) (Tm j) (Dm j) d e := by
  pointwise [dsV]
  rw [sum_rows_of _ j, sum_rows_of _ j]
  · simp only [spreadV_row (scaleV_row h.q (exp_row h.g)), spreadV_row (wV_row h), h.o, h.D, hes, dvnV_row h, if_true, Head.ds, Head.qdec]
  · intro j' i hj
    rw [spreadV_row (wV_row h), if_neg hj, zero_mul]
  · intro j' i hj
    rw [spreadV_row (scaleV_row h.q (exp_row h.g)), if_neg hj, zero_mul]

theorem dvV_row (j : Fin 4) (i : Fin 64) (e : Fin 128) :
    dvV q k o b g gl T D (ix2 (row j i) e) = Head.dv (G j) (Q j) (K j) (O j) (B j) (Tm j) (Dm j) i e := by
  rw [dvV, scaleV_row (X := fun j i e => ∑ r, Tm j r i * Head.dvn (G j) (Q j) (K j) (O j) (Dm j) r e) _ h.b, Head.dv]
  intro j i e
  pointwise []
  rw [sum_rows_of _ j]
  · simp only [h.T, dvnV_row h, if_true]
  · intro j' r hj
    rw [h.T, if_neg hj, zero_mul]

end

end Cert.Proof

end
-- ==== Proof.Chunk.lean ====
/-
  One chunk of one group of heads at one grid point: the blocks the body loads for it, the columns it cuts from them, and
  what it stores for it, for any chunk of the four and either group of heads.
-/
module

public import proofs.«01_k».proof.Proof.Core

@[expose] public section

noncomputable section

namespace Cert.Proof

open Idealize.ShloMosaic Cert.KernelIdeal Cert.KernelIdeal.Gen

abbrev Rows := Vec Ideal S256x1024 .f32
abbrev Lanes := Vec Ideal S256x128 .f32
abbrev Tile := FVec Ideal S64x128 .f32
abbrev Blocks := Vec Ideal S4x2x256x256 .f32
abbrev Carry := Vec Ideal S2x512x128 .f32
abbrev Slab := FVec Ideal S1x512x128 .f32

/-! ## Loads -/

theorem tile_in (n g j : ℕ) (hn : n < 4) (hg : g < 2) (hj : j < 4) :
    ∀ a, (![64 * n, 512 * g + 128 * j] : Fin 2 → Nat) a + S64x128.size a ≤ S256x1024.size a := by
  intro a
  match a with
  | ⟨0, _⟩ => show 64 * n + 64 ≤ 256; omega
  | ⟨1, _⟩ => show 512 * g + 128 * j + 128 ≤ 1024; omega
theorem lanes_in (n : ℕ) (hn : n < 4) : ∀ a, (![64 * n, 0] : Fin 2 → Nat) a + S64x128.size a ≤ S256x128.size a := by
  intro a
  match a with
  | ⟨0, _⟩ => show 64 * n + 64 ≤ 256; omega
  | ⟨1, _⟩ => show 0 + 128 ≤ 128; omega
theorem block_in (n g : ℕ) (hn : n < 4) (hg : g < 2) :
    ∀ a, (![n, g, 0, 0] : Fin 4 → Nat) a + S1x1x256x256.size a ≤ S4x2x256x256.size a := by
  intro a
  match a with
  | ⟨0, _⟩ => show n + 1 ≤ 4; omega
  | ⟨1, _⟩ => show g + 1 ≤ 2; omega
  | ⟨2, _⟩ => show 0 + 256 ≤ 256; omega
  | ⟨3, _⟩ => show 0 + 256 ≤ 256; omega
theorem slab_in (g : ℕ) (hg : g < 2) : ∀ a, (![g, 0, 0] : Fin 3 → Nat) a + S1x512x128.size a ≤ S2x512x128.size a := by
  intro a
  match a with
  | ⟨0, _⟩ => show g + 1 ≤ 2; omega
  | ⟨1, _⟩ => show 0 + 512 ≤ 512; omega
  | ⟨2, _⟩ => show 0 + 128 ≤ 128; omega
theorem lane_in (l : ℕ) (hl : l < 128) : S64x128.Slices ![0, l] S64x1 := by
  refine ⟨rfl, fun a => ?_⟩
  match a with
  | ⟨0, _⟩ => show 0 + 64 ≤ 64; omega
  | ⟨1, _⟩ => show l + 1 ≤ 128; omega
theorem last_in (l : ℕ) (hl : l < 128) : S64x128.Slices ![63, l] S1x1 := by
  refine ⟨rfl, fun a => ?_⟩
  match a with
  | ⟨0, _⟩ => show 63 + 1 ≤ 64; omega
  | ⟨1, _⟩ => show l + 1 ≤ 128; omega
theorem head_in (j : ℕ) (hj : j < 4) : S256x128.Slices ![64 * j, 0] S64x128 := by
  refine ⟨rfl, fun a => ?_⟩
  match a with
  | ⟨0, _⟩ => show 64 * j + 64 ≤ 256; omega
  | ⟨1, _⟩ => show 0 + 128 ≤ 128; omega

/-! ## Columns -/

/-- The running sums of a chunk's gates, lane by lane, in three parts. -/
def sumsV (x : Tile) : Tile :=
  let tri : FVec Ideal S64x64 .bf16 := truncf .bf16 (select (cmpi .sge (iota .tc S64x64 32 [0] iota_S64x64_d0_w32) (iota .tc S64x64 32 [1] iota_S64x64_d1_w32))
    (broadcast S64x64 (Scalar.ofBits .f32 0x3F800000#32)) (broadcast S64x64 (Scalar.ofBits .f32 0x00000000#32))) bitsLt_bf16_f32
  let x1 : FVec Ideal S64x128 .bf16 := truncf .bf16 x bitsLt_bf16_f32
  let r1 : Tile := subf x (extf .f32 x1 bitsLt_bf16_f32)
  let x2 : FVec Ideal S64x128 .bf16 := truncf .bf16 r1 bitsLt_bf16_f32
  let x3 : FVec Ideal S64x128 .bf16 := truncf .bf16 (subf r1 (extf .f32 x2 bitsLt_bf16_f32)) bitsLt_bf16_f32
  let d := fun y => matmul dot_S64x64_S64x128_S64x128_1_0_0_1_n_n none tri y (constant S64x128 .f32 0x00000000#32)
  addf (addf (d x1) (d x2)) (d x3)

/-- Lanes `l`, `l + 1`, `l + 2`, `l + 3` of a chunk, one below the other. -/
def columnOf (l : ℕ) (hl : l < 124) (x : Tile) : Col :=
  let lane := fun (j : ℕ) (hj : j < 4) => extractStridedSlice S64x1 ![0, l + j] x (lane_in (l + j) (by omega))
  concatenate S256x1 0 [⟨S64x1, lane 0 (by omega)⟩, ⟨S64x1, lane 1 (by omega)⟩, ⟨S64x1, lane 2 (by omega)⟩, ⟨S64x1, lane 3 (by omega)⟩]
    concatenates_S64x1_S64x1_S64x1_S64x1_S256x1_d0

/-- The last position of the same lanes, repeated over the chunk. -/
def lastOf (l : ℕ) (hl : l < 124) (x : Tile) : Col :=
  let lane := fun (j : ℕ) (hj : j < 4) =>
    broadcastTo S64x1 (shapeCast S1x1 (extractStridedSlice S1x1 ![63, l + j] x (last_in (l + j) (by omega))) shapeCasts_S1x1_S1x1) broadcasts_S1x1_S64x1
  concatenate S256x1 0 [⟨S64x1, lane 0 (by omega)⟩, ⟨S64x1, lane 1 (by omega)⟩, ⟨S64x1, lane 2 (by omega)⟩, ⟨S64x1, lane 3 (by omega)⟩]
    concatenates_S64x1_S64x1_S64x1_S64x1_S256x1_d0

/-- The exponentials of the last position, repeated over the state's rows. -/
def carryOf (l : ℕ) (hl : l < 124) (x : Tile) : FVec Ideal S512x1 .f32 :=
  let lane := fun (j : ℕ) (hj : j < 4) =>
    broadcastTo S128x1 (shapeCast S1x1 (exp (extractStridedSlice S1x1 ![63, l + j] x (last_in (l + j) (by omega)))) shapeCasts_S1x1_S1x1)
      broadcasts_S1x1_S128x1
  concatenate S512x1 0 [⟨S128x1, lane 0 (by omega)⟩, ⟨S128x1, lane 1 (by omega)⟩, ⟨S128x1, lane 2 (by omega)⟩, ⟨S128x1, lane 3 (by omega)⟩]
    concatenates_S128x1_S128x1_S128x1_S128x1_S512x1_d0

section

variable (n g : ℕ) (hn : n < 4) (hg : g < 2)

/-- The stack of the four heads of group `g` in chunk `n`. -/
def headsV (x : Rows) : V256 :=
  let tile := fun (j : ℕ) (hj : j < 4) => View.ld x (Rect.unit (s := S256x1024) ![64 * n, 512 * g + 128 * j] S64x128.size (tile_in n g j hn hg hj))
  let cast := fun (y : Vec Ideal S64x128 .f32) => shapeCast S64x128 y shapeCasts_S64x128_S64x128
  concatenate S256x128 0 [⟨S64x128, cast (tile 0 (by omega))⟩, ⟨S64x128, cast (tile 1 (by omega))⟩, ⟨S64x128, cast (tile 2 (by omega))⟩,
    ⟨S64x128, cast (tile 3 (by omega))⟩] concatenates_S64x128_S64x128_S64x128_S64x128_S256x128_d0

/-- The scaled queries. -/
def queriesV (x : Rows) : V256 := mulf (headsV n g hn hg x) (broadcast S256x128 (Scalar.ofBits .f32 0x3DB504F3#32))

/-- The rows of chunk `n` of the array that holds the gates. -/
def lanesV (x : Lanes) : Tile :=
  shapeCast S64x128 (View.ld x (Rect.unit (s := S256x128) ![64 * n, 0] S64x128.size (lanes_in n hn))) shapeCasts_S64x128_S64x128

/-- The block-diagonal inverse of group `g` in chunk `n`. -/
def inverseV (x : Blocks) : Sq :=
  shapeCast S256x256 (View.ld x (Rect.unit (s := S4x2x256x256) ![n, g, 0, 0] S1x1x256x256.size (block_in n g hn hg))) shapeCasts_S1x1x256x256_S256x256

variable (x0 x1 : Rows) (x3 : Lanes) (x5 : Blocks) (x6 : Rows) (D : Slab)

/-- What the body carries on after the chunk. -/
def nextSlab : Slab :=
  shapeCast S1x512x128 (dsV (queriesV n g hn hg x0) (headsV n g hn hg x1) (headsV n g hn hg x6) (columnOf (4 * g) (by omega) (lanesV n hn x3))
    (columnOf (8 + 4 * g) (by omega) (sumsV (lanesV n hn x3))) (lastOf (8 + 4 * g) (by omega) (sumsV (lanesV n hn x3)))
    (carryOf (8 + 4 * g) (by omega) (sumsV (lanesV n hn x3))) (inverseV n g hn hg x5)
    (shapeCast S512x128 D shapeCasts_S1x512x128_S512x128)) shapeCasts_S512x128_S1x512x128

/-- What it stores for the gradient in `v`: all four heads, stacked. -/
def gradV : V256 :=
  dvV (queriesV n g hn hg x0) (headsV n g hn hg x1) (headsV n g hn hg x6) (columnOf (4 * g) (by omega) (lanesV n hn x3))
    (columnOf (8 + 4 * g) (by omega) (sumsV (lanesV n hn x3))) (lastOf (8 + 4 * g) (by omega) (sumsV (lanesV n hn x3)))
    (inverseV n g hn hg x5) (shapeCast S512x128 D shapeCasts_S1x512x128_S512x128)

/-- The store of head `j`'s part of it. -/
def piece (j : ℕ) (hj : j < 4) : View.Piece (Elt Ideal) S256x1024 .f32 :=
  ⟨Rect.unit (s := S256x1024) ![64 * n, 512 * g + 128 * j] S64x128.size (tile_in n g j hn hg hj),
    extractStridedSlice S64x128 ![64 * j, 0] (gradV n g hn hg x0 x1 x3 x5 x6 D) (head_in j hj)⟩

end

/-- The carried part of group `g`. -/
def slabV (g : ℕ) (hg : g < 2) (x : Carry) : Slab := View.ld x (Rect.unit (s := S2x512x128) ![g, 0, 0] S1x512x128.size (slab_in g hg))

section

variable (x0 x1 : Rows) (x3 : Lanes) (x5 : Blocks) (x6 : Rows)

/-- What the body carries for group `g` after the first `k` of a point's four chunks, the last chunk first. -/
def slabAt (g : ℕ) (hg : g < 2) (D : Slab) : ℕ → Slab
  | 0 => D
  | k + 1 => nextSlab (3 - k) g (by omega) hg x0 x1 x3 x5 x6 (slabAt g hg D k)

end

end Cert.Proof

end
-- ==== Proof.Host.lean ====
/-
  The arrays that both programs compute from the arguments outside the kernel's call and outside the reference's loop:
  the running sums of the log decays and the chunks' inverses as whole arrays, and the arrays the reference's loop reads,
  at an index.
-/
module

public import proofs.«01_k».proof.Proof.Core
public import proofs.«01_k».proof.Proof.Gen.ReferenceIdeal
public import Idealize.ShloMosaic.Lib.Pointwise
public import Idealize.ShloMosaic.Lib.WordCmp

@[expose] public section

noncomputable section

namespace Cert.Proof

open Idealize.ShloMosaic Cert.ReferenceIdeal Cert.ReferenceIdeal.Gen

/-- The argument shapes. -/
abbrev Heads := FVec Ideal S1x4096x8x128 .f32
abbrev Gate := FVec Ideal S1x4096x8 .f32
abbrev Chunk := FVec Ideal S1x8x64x64x128 .f32
abbrev ChunkSq := FVec Ideal S1x8x64x64x64 .f32
abbrev ChunkG := FVec Ideal S1x8x64x64 .f32

/-! ## Whole arrays, in the programs' operations -/

def chunksV (x : Heads) : Chunk :=
  transpose S1x8x64x64x128 [0, 3, 1, 2, 4] (shapeCast S1x64x64x8x128 x shapeCasts_S1x4096x8x128_S1x64x64x8x128)
    transposes_S1x64x64x8x128_S1x8x64x64x128_0_3_1_2_4

def gatesV (x : Gate) : ChunkG :=
  transpose S1x8x64x64 [0, 3, 1, 2] (shapeCast S1x64x64x8 x shapeCasts_S1x4096x8_S1x64x64x8) transposes_S1x64x64x8_S1x8x64x64_0_3_1_2

/-- The running sums of the log decays in each chunk. -/
def cumV (g : Gate) : ChunkG :=
  Host.reduceWindowAdd ![1, 1, 1, 64] ![1, 1, 1, 1] ![0, 0, 0, 63] ![0, 0, 0, 0] (gatesV g)
    (broadcastInDim S_ ![] bcast_S_S_ (constant S_ .f32 0x00000000#32 : FVec Ideal S_ .f32))
    reduceWindows_S1x8x64x64_S1x8x64x64_w1s1p0_0_w1s1p0_0_w1s1p0_0_w64s1p63_0 h_S_

def columnV (b : ChunkG) : FVec Ideal S1x8x64x64x1 .f32 := broadcastInDim S1x8x64x64x1 ![0, 1, 2, 3] bcast_S1x8x64x64_S1x8x64x64x1_0_1_2_3 b

/-- A chunked array times one number per row. -/
def rowsV (x : Chunk) (b : ChunkG) : Chunk :=
  mulf x (broadcastInDim S1x8x64x64x128 ![0, 1, 2, 3, 4] bcast_S1x8x64x64x1_S1x8x64x64x128_0_1_2_3_4 (columnV b))

def lowerMask (z : BitVec 32) : IVec S64x64 1 :=
  select (cmpi .sge (addi (iotaInDim S64x64 32 0) (broadcastInDim S64x64 ![] bcast_S_S64x64 (constantI S_ 32 z))) (iotaInDim S64x64 32 1))
    (broadcastInDim S64x64 ![] bcast_S_S64x64 (constantI S_ 1 1#1)) (broadcastInDim S64x64 ![] bcast_S_S64x64 (constantI S_ 1 0#1))

def maskedV (z : BitVec 32) (x : ChunkSq) (c : BitVec 32) : ChunkSq :=
  select (broadcastInDim S1x8x64x64x64 ![3, 4] bcast_S64x64_S1x8x64x64x64_3_4 (lowerMask z)) x
    (broadcastInDim S1x8x64x64x64 ![] bcast_S_S1x8x64x64x64 (id (constant S_ .f32 c : FVec Ideal S_ .f32)))

def decayV (g : Gate) : ChunkSq :=
  Host.exp (maskedV 0#32
    (subf (broadcastInDim S1x8x64x64x64 ![0, 1, 2, 3, 4] bcast_S1x8x64x64x1_S1x8x64x64x64_0_1_2_3_4
        (broadcastInDim S1x8x64x64x1 ![0, 1, 2, 3] bcast_S1x8x64x64_S1x8x64x64x1_0_1_2_3 (cumV g)))
      (broadcastInDim S1x8x64x64x64 ![0, 1, 2, 3, 4] bcast_S1x8x64x1x64_S1x8x64x64x64_0_1_2_3_4
        (broadcastInDim S1x8x64x1x64 ![0, 1, 2, 4] bcast_S1x8x64x64_S1x8x64x1x64_0_1_2_4 (cumV g)))) 0xFF800000#32)

/-- The strictly lower part that is inverted. -/
def lowerV (k : Heads) (g b : Gate) : ChunkSq :=
  maskedV 4294967295#32
    (mulf (Host.dotGeneral dot_S1x8x64x64x128_S1x8x64x64x128_S1x8x64x64x64_4_4_3_3_012_012 none (rowsV (chunksV k) (gatesV b)) (chunksV k))
      (decayV g)) 0x00000000#32

abbrev mulV (x y : ChunkSq) : ChunkSq := Host.dotGeneral dot_S1x8x64x64x64_S1x8x64x64x64_S1x8x64x64x64_4_3_3_4_012_012 none x y

/-- One doubling: the power squared, the sum extended by the power times it. -/
def powV (M : ChunkSq) : ChunkSq := mulV M M
def sumV (M X : ChunkSq) : ChunkSq := addf X (mulV (powV M) X)

def idV : ChunkSq :=
  broadcastInDim S1x8x64x64x64 ![0, 1, 2, 3, 4] bcast_S1x1x1x64x64_S1x8x64x64x64_0_1_2_3_4
    (broadcastInDim S1x1x1x64x64 ![3, 4] bcast_S64x64_S1x1x1x64x64_3_4
      (uitofp .f32 (cmpi .eq (addi (iotaInDim S64x64 32 0) (broadcastInDim S64x64 ![] bcast_S_S64x64 (constantI S_ 32 0#32)))
        (iotaInDim S64x64 32 1))))

def invV (L : ChunkSq) : ChunkSq :=
  let M0 : ChunkSq := Host.negf L
  let X0 := addf idV M0
  let M1 := powV M0
  let X1 := sumV M0 X0
  let M2 := powV M1
  let X2 := sumV M1 X1
  let M3 := powV M2
  let X3 := sumV M2 X2
  let M4 := powV M3
  let X4 := sumV M3 X3
  sumV M4 X4

/-- The chunks' inverses. -/
def tV (k : Heads) (g b : Gate) : ChunkSq := invV (lowerV k g b)

/-! ### What the reference's loop reads -/

def scaledV (q : Heads) : Chunk :=
  mulf (chunksV q) (broadcastInDim S1x8x64x64x128 ![] bcast_S_S1x8x64x64x128 (constant S_ .f32 0x3DB504F3#32 : FVec Ideal S_ .f32))

def attnV (q k : Heads) (g : Gate) : ChunkSq :=
  maskedV 0#32 (mulf (Host.dotGeneral dot_S1x8x64x64x128_S1x8x64x64x128_S1x8x64x64x64_4_4_3_3_012_012 none (scaledV q) (chunksV k)) (decayV g)) 0x00000000#32

def qdecV (q : Heads) (g : Gate) : Chunk := rowsV (scaledV q) (Host.exp (cumV g))

def wrefV (k : Heads) (g b : Gate) : Chunk :=
  Host.dotGeneral dot_S1x8x64x64x64_S1x8x64x64x128_S1x8x64x64x128_4_3_3_4_012_012 none (tV k g b)
    (rowsV (rowsV (chunksV k) (gatesV b)) (Host.exp (cumV g)))

/-- The chunk's whole log decay. -/
def lastV (g : Gate) : FVec Ideal S1x8x64 .f32 :=
  shapeCast S1x8x64 (extractStridedSlice S1x8x64x1 ![0, 0, 0, 63] (cumV g) slices_S1x8x64x64_S1x8x64x1_0_0_0_63) shapeCasts_S1x8x64x1_S1x8x64

def krefV (k : Heads) (g : Gate) : Chunk :=
  rowsV (chunksV k) (Host.exp (subf (broadcastInDim S1x8x64x64 ![0, 1, 2, 3] bcast_S1x8x64x1_S1x8x64x64_0_1_2_3
    (broadcastInDim S1x8x64x1 ![0, 1, 2] bcast_S1x8x64_S1x8x64x1_0_1_2 (lastV g))) (cumV g)))

def eglV (g : Gate) : FVec Ideal S1x8x64x1x1 .f32 := broadcastInDim S1x8x64x1x1 ![0, 1, 2] bcast_S1x8x64_S1x8x64x1x1_0_1_2 (Host.exp (lastV g))

/-! ## Indices -/

/-- Position `i` of chunk `n`. -/
def pos (n i : Fin 64) : Fin 4096 := ⟨64 * n.val + i.val, by omega⟩

theorem chunksV_at (x : Heads) (h : Fin 8) (n i : Fin 64) (d : Fin 128) :
    chunksV x (ix5 (0 : Fin 1) h n i d) = x (ix4 (0 : Fin 1) (pos n i) h d) := by
  pointwise [chunksV]
  exact congrArg (fun p => x (ix4 (0 : Fin 1) p h d)) (Fin.ext (by show n.val * 64 + i.val = 64 * n.val + i.val; omega))

theorem gatesV_at (x : Gate) (h : Fin 8) (n i : Fin 64) :
    gatesV x (ix4 (0 : Fin 1) h n i) = x (ix3 (0 : Fin 1) (pos n i) h) := by
  pointwise [gatesV]
  exact congrArg (fun p => x (ix3 (0 : Fin 1) p h)) (Fin.ext (by show n.val * 64 + i.val = 64 * n.val + i.val; omega))

theorem foldl_add {n : ℕ} (f : Fin n → EReal) (v : EReal) (l : List (Fin n)) :
    l.foldl (fun r a => r + f a) v = v + (l.map f).sum := by
  induction l generalizing v with
  | nil => simp
  | cons a l ih => rw [List.foldl_cons, ih, List.map_cons, List.sum_cons, add_assoc]

theorem sum_window (f : Fin 64 → EReal) (i : Fin 64) :
    ∑ n : Fin 64, (if h : 63 ≤ i.val + n.val then f ⟨i.val + n.val - 63, by omega⟩ else 0) = ∑ r : Fin 64, if r ≤ i then f r else 0 := by
  have e : ∀ n : Fin 64, (if h : 63 ≤ i.val + n.val then f ⟨i.val + n.val - 63, by omega⟩ else 0)
      = (fun r : Fin 64 => if r ≤ i then f r else 0) (n + i + 1) := by
    intro n
    have hv : (n + i + 1 : Fin 64).val = (n.val + i.val + 1) % 64 := by simp [Fin.val_add]
    by_cases h : 63 ≤ i.val + n.val
    · have hn : (n + i + 1 : Fin 64) = ⟨i.val + n.val - 63, by omega⟩ := Fin.ext (by rw [hv]; simp only; omega)
      have hle : (n + i + 1 : Fin 64) ≤ i := by rw [Fin.le_def, hv]; omega
      simp only [h, dif_pos, hle, if_true]
      rw [hn]
    · have hle : ¬ (n + i + 1 : Fin 64) ≤ i := by rw [Fin.le_def, hv]; omega
      simp only [h, dif_neg, hle, if_false, not_false_eq_true]
  rw [Finset.sum_congr rfl fun n _ => e n]
  have := Equiv.sum_comp (Equiv.addRight (i + 1)) (fun r : Fin 64 => if r ≤ i then f r else 0)
  simpa [add_assoc] using this

/-- The running sum of one head's log decays in one chunk. -/
def gsum (g : Gate) (n : Fin 64) (h : Fin 8) (i : Fin 64) : EReal := ∑ r : Fin 64, if r ≤ i then g (ix3 (0 : Fin 1) (pos n r) h) else 0

theorem numel_window : (⟨4, ![1, 1, 1, 64]⟩ : Shape).numel = 64 := rfl

theorem symm_window (n : Fin (⟨4, ![1, 1, 1, 64]⟩ : Shape).numel) :
    (⟨4, ![1, 1, 1, 64]⟩ : Shape).rowMajor.symm n = ix4 (0 : Fin 1) (0 : Fin 1) (0 : Fin 1) (n.cast numel_window) := by
  rw [Equiv.symm_apply_eq]
  refine Fin.ext ?_
  rw [Shape.rowMajor_val_four]
  show n.val = ((0 * 1 + 0) * 1 + 0) * 64 + n.val
  omega

theorem cumV_at (g : Gate) (h : Fin 8) (n i : Fin 64) : cumV g (ix4 (0 : Fin 1) h n i) = gsum g n h i := by
  have hi := i.isLt
  have e : ∀ (w : Fin 64) (p : Fin 4 → ℕ) (hp : ∀ a, p a = ((ix4 (0 : Fin 1) h n i : S1x8x64x64.Idx) a).val * 1 + (ix4 (0 : Fin 1) (0 : Fin 1) (0 : Fin 1) w a).val)
      (D : Decidable (∀ a : Fin 4, (![0, 0, 0, 63] : Fin 4 → ℕ) a ≤ p a ∧ p a - (![0, 0, 0, 63] : Fin 4 → ℕ) a < S1x8x64x64.size a)),
      (@dite EReal _ D (fun hin => gatesV g (fun a => ⟨p a - (![0, 0, 0, 63] : Fin 4 → ℕ) a, (hin a).2⟩)) fun _ => (0 : EReal))
      = if hw : 63 ≤ i.val + w.val then g (ix3 (0 : Fin 1) (pos n ⟨i.val + w.val - 63, by omega⟩) h) else 0 := by
    intro w p hp D
    have hw' := w.isLt
    have p0 : p 0 = 0 := (hp 0).trans rfl
    have p1 : p 1 = h.val := (hp 1).trans (by show h.val * 1 + 0 = h.val; omega)
    have p2 : p 2 = n.val := (hp 2).trans (by show n.val * 1 + 0 = n.val; omega)
    have p3 : p 3 = i.val + w.val := (hp 3).trans (by show i.val * 1 + w.val = _; omega)
    by_cases hw : 63 ≤ i.val + w.val
    · have hin : ∀ a : Fin 4, (![0, 0, 0, 63] : Fin 4 → ℕ) a ≤ p a ∧ p a - (![0, 0, 0, 63] : Fin 4 → ℕ) a < S1x8x64x64.size a := fun a => by
        match a with
        | ⟨0, _⟩ => show 0 ≤ p 0 ∧ p 0 - 0 < 1; omega
        | ⟨1, _⟩ => show 0 ≤ p 1 ∧ p 1 - 0 < 8; omega
        | ⟨2, _⟩ => show 0 ≤ p 2 ∧ p 2 - 0 < 64; omega
        | ⟨3, _⟩ => show 63 ≤ p 3 ∧ p 3 - 63 < 64; omega
      rw [dif_pos hin, dif_pos hw, ← gatesV_at g h n ⟨i.val + w.val - 63, by omega⟩]
      refine congrArg (gatesV g) (funext fun a => Fin.ext ?_)
      match a with
      | ⟨0, _⟩ => show p 0 - 0 = 0; omega
      | ⟨1, _⟩ => show p 1 - 0 = h.val; omega
      | ⟨2, _⟩ => show p 2 - 0 = n.val; omega
      | ⟨3, _⟩ => show p 3 - 63 = i.val + w.val - 63; omega
    · rw [dif_neg hw, dif_neg]
      intro hin
      have := (hin 3).1
      rw [p3] at this
      exact hw this
  have z : ∀ j, (broadcastInDim S_ ![] bcast_S_S_ (constant S_ .f32 0x00000000#32 : FVec Ideal S_ .f32)) j = (0 : EReal) := fun j => by
    rw [ValueIdx.eq_ix0 j]
    pointwise []
  unfold cumV Host.reduceWindowAdd
  rw [z, Ideal.hostReduceWindowAdd_def]
  unfold Ideal.hostReduceWindowAdd Host.reduceWindow
  refine (foldl_add _ _ _).trans ?_
  rw [zero_add, ← List.ofFn_eq_map, List.sum_ofFn]
  refine (Finset.sum_congr rfl fun w _ => e (w.cast numel_window) _ (fun a => ?_) _).trans ?_
  · rw [symm_window]
    match a with
    | ⟨0, _⟩ => rfl
    | ⟨1, _⟩ => rfl
    | ⟨2, _⟩ => rfl
    | ⟨3, _⟩ => rfl
  · exact sum_window (fun r => g (ix3 (0 : Fin 1) (pos n r) h)) i

/-! ## The loop's arrays at an index -/

section At

variable (q k : Heads) (g b : Gate) (h : Fin 8) (n : Fin 64)

/-- One head's rows of a chunk. -/
def hd (x : Heads) (n : Fin 64) (h : Fin 8) (i : Fin 64) (d : Fin 128) : EReal := x (ix4 (0 : Fin 1) (pos n i) h d)
def hb (x : Gate) (n : Fin 64) (h : Fin 8) (i : Fin 64) : EReal := x (ix3 (0 : Fin 1) (pos n i) h)
/-- The queries with their scale. -/
def hq (x : Heads) (n : Fin 64) (h : Fin 8) (i : Fin 64) (d : Fin 128) : EReal := hd x n h i d * FloatOps.ofBits (F := Ideal) .f32 0x3DB504F3#32
/-- The chunk's inverse. -/
def ht (k : Heads) (g b : Gate) (n : Fin 64) (h : Fin 8) (i r : Fin 64) : EReal := tV k g b (ix5 (0 : Fin 1) h n i r)

theorem lowerMask_at (i r : Fin 64) : lowerMask 0#32 (ix2 i r) = if r ≤ i then 1#1 else 0#1 := by
  have hi := i.isLt
  have hr := r.isLt
  pointwise [lowerMask]
  rw [show IntOp.addi (BitVec.ofNat 32 i.val) 0#32 = BitVec.ofNat 32 i.val from BitVec.add_zero _,
    WordCmp.cmpi_sge_ofNat (by omega) (by omega)]
  by_cases h : r ≤ i
  · have : r.val ≤ i.val := h
    simp [h, this, Scalar.select]
  · have : ¬ r.val ≤ i.val := h
    simp [h, this, Scalar.select]

theorem rowsV_at (x : Chunk) (c : ChunkG) (i : Fin 64) (d : Fin 128) :
    rowsV x c (ix5 (0 : Fin 1) h n i d) = x (ix5 (0 : Fin 1) h n i d) * c (ix4 (0 : Fin 1) h n i) := by
  pointwise [rowsV, columnV]

theorem scaledV_at (i : Fin 64) (d : Fin 128) : scaledV q (ix5 (0 : Fin 1) h n i d) = hq q n h i d := by
  unfold scaledV
  pointwise []
  rw [chunksV_at]
  rfl

theorem decayV_at (i r : Fin 64) : decayV g (ix5 (0 : Fin 1) h n i r) = Head.dec (gsum g n h) i r := by
  pointwise [decayV, maskedV, id]
  rw [lowerMask_at, select_ite, cumV_at, cumV_at, Head.dec]
  split
  · rfl
  · rw [show Ideal.ofBits .f32 0xFF800000#32 = ⊥ by simp [Ideal.ofBits, Ideal.ieee], Ideal.exp_bot]

theorem attnV_at (i r : Fin 64) : attnV q k g (ix5 (0 : Fin 1) h n i r) = Head.score (gsum g n h) (hq q n h) (hd k n h) i r := by
  pointwise [attnV, maskedV, id]
  simp only [lowerMask_at, select_ite, scaledV_at, chunksV_at, decayV_at, Head.score]
  rfl

theorem qdecV_at (i : Fin 64) (d : Fin 128) : qdecV q g (ix5 (0 : Fin 1) h n i d) = Head.qdec (gsum g n h) (hq q n h) i d := by
  rw [qdecV, rowsV_at, scaledV_at]
  exact congrArg (fun y => hq q n h i d * Ideal.exp y) (cumV_at g h n i)

theorem wrefV_at (i : Fin 64) (d : Fin 128) :
    wrefV k g b (ix5 (0 : Fin 1) h n i d) = Head.w (gsum g n h) (hd k n h) (hb b n h) (ht k g b n h) i d := by
  pointwise [wrefV]
  refine Finset.sum_congr rfl fun r _ => ?_
  rw [rowsV_at, rowsV_at, chunksV_at, gatesV_at]
  exact congrArg (fun y => ht k g b n h i r * (hd k n h r d * hb b n h r * Ideal.exp y)) (cumV_at g h n r)

theorem lastV_at : lastV g (ix3 (0 : Fin 1) h n) = gsum g n h 63 := by
  rw [← cumV_at]
  pointwise [lastV]

theorem krefV_at (i : Fin 64) (d : Fin 128) : krefV k g (ix5 (0 : Fin 1) h n i d) = Head.kdec (gsum g n h) (hd k n h) i d := by
  rw [krefV, rowsV_at, chunksV_at]
  refine congrArg (fun y => hd k n h i d * Ideal.exp y) ?_
  pointwise []
  rw [lastV_at, cumV_at]

theorem eglV_at : eglV g (ix5 (0 : Fin 1) h n (0 : Fin 1) (0 : Fin 1)) = Ideal.exp (gsum g n h 63) := by
  rw [← lastV_at]
  pointwise [eglV]

end At

end Cert.Proof

end
-- ==== Proof.Finite.lean ====
/-
  Finiteness: with finite arguments every array of both programs is finite, and the chain of state gradients that the two
  programs compute, chunk by chunk from the last one.
-/
module

public import proofs.«01_k».proof.Proof.Host

@[expose] public section

noncomputable section

namespace Cert.Proof

open Idealize.ShloMosaic Cert.ReferenceIdeal Cert.ReferenceIdeal.Gen

/-- A value that is a real number. -/
def IsReal (x : EReal) : Prop := ∃ r : ℝ, x = r

theorem coe_sum {n : ℕ} (r : Fin n → ℝ) : ((∑ i, r i : ℝ) : EReal) = ∑ i, (r i : EReal) :=
  map_sum (⟨⟨Real.toEReal, EReal.coe_zero⟩, EReal.coe_add⟩ : ℝ →+ EReal) r Finset.univ

namespace IsReal

theorem zero : IsReal 0 := ⟨0, rfl⟩
theorem one : IsReal 1 := ⟨1, rfl⟩
theorem add {x y : EReal} : IsReal x → IsReal y → IsReal (x + y) := fun ⟨a, ha⟩ ⟨b, hb⟩ => ⟨a + b, by rw [ha, hb, EReal.coe_add]⟩
theorem mul {x y : EReal} : IsReal x → IsReal y → IsReal (x * y) := fun ⟨a, ha⟩ ⟨b, hb⟩ => ⟨a * b, by rw [ha, hb, EReal.coe_mul]⟩
theorem neg {x : EReal} : IsReal x → IsReal (-x) := fun ⟨a, ha⟩ => ⟨-a, by rw [ha, EReal.coe_neg]⟩
theorem sub {x y : EReal} : IsReal x → IsReal y → IsReal (x - y) := fun ⟨a, ha⟩ ⟨b, hb⟩ => ⟨a - b, by rw [ha, hb, EReal.coe_sub]⟩
theorem exp {x : EReal} : IsReal x → IsReal (Ideal.exp x) := fun ⟨a, ha⟩ => ⟨Real.exp a, by rw [ha]; rfl⟩
theorem ite {p : Prop} [Decidable p] {x y : EReal} (hx : IsReal x) (hy : IsReal y) : IsReal (if p then x else y) := by
  split
  · exact hx
  · exact hy
theorem sum {n : ℕ} {f : Fin n → EReal} (h : ∀ i, IsReal (f i)) : IsReal (∑ i, f i) := by
  choose r hr using h
  exact ⟨∑ i, r i, by rw [coe_sum]; exact Finset.sum_congr rfl fun i _ => hr i⟩

end IsReal

/-- A sum of products with one factor negated is the negated sum, at finite values. -/
theorem sum_neg_mul {n : ℕ} {f g : Fin n → EReal} (hf : ∀ i, IsReal (f i)) (hg : ∀ i, IsReal (g i)) :
    ∑ i, -f i * g i = -∑ i, g i * f i := by
  choose r hr using hf
  choose s hs using hg
  simp only [hr, hs, ← EReal.coe_neg, ← EReal.coe_mul, ← coe_sum]
  congr 1
  rw [← Finset.sum_neg_distrib]
  exact Finset.sum_congr rfl fun i _ => by ring

/-! ## One head of a chunk -/

namespace Head

variable {G B : Fin 64 → EReal} {Q K O : Fin 64 → Fin 128 → EReal} {T : Fin 64 → Fin 64 → EReal} {D : Fin 128 → Fin 128 → EReal}

theorem dec_real (hG : ∀ i, IsReal (G i)) (i r : Fin 64) : IsReal (dec G i r) := .ite (((hG i).sub (hG r)).exp) .zero

theorem score_real (hG : ∀ i, IsReal (G i)) (hQ : ∀ i d, IsReal (Q i d)) (hK : ∀ i d, IsReal (K i d)) (i r : Fin 64) :
    IsReal (score G Q K i r) := .ite ((IsReal.sum fun d => (hQ i d).mul (hK r d)).mul (dec_real hG i r)) .zero

theorem dvn_real (hG : ∀ i, IsReal (G i)) (hQ : ∀ i d, IsReal (Q i d)) (hK : ∀ i d, IsReal (K i d)) (hO : ∀ i d, IsReal (O i d))
    (hD : ∀ d e, IsReal (D d e)) (i : Fin 64) (e : Fin 128) : IsReal (dvn G Q K O D i e) :=
  (IsReal.sum fun r => (score_real hG hQ hK r i).mul (hO r e)).add
    (IsReal.sum fun d => ((hK i d).mul (((hG 63).sub (hG i)).exp)).mul (hD d e))

theorem w_real (hG : ∀ i, IsReal (G i)) (hK : ∀ i d, IsReal (K i d)) (hB : ∀ i, IsReal (B i)) (hT : ∀ i r, IsReal (T i r))
    (i : Fin 64) (d : Fin 128) : IsReal (w G K B T i d) :=
  IsReal.sum fun r => (hT i r).mul (((hK r d).mul (hB r)).mul (hG r).exp)

theorem ds_real (hG : ∀ i, IsReal (G i)) (hQ : ∀ i d, IsReal (Q i d)) (hK : ∀ i d, IsReal (K i d)) (hO : ∀ i d, IsReal (O i d))
    (hB : ∀ i, IsReal (B i)) (hT : ∀ i r, IsReal (T i r)) (hD : ∀ d e, IsReal (D d e)) (d e : Fin 128) : IsReal (ds G Q K O B T D d e) :=
  ((((hD d e).mul (hG 63).exp).add (IsReal.sum fun i => ((hQ i d).mul (hG i).exp).mul (hO i e))).sub
    (IsReal.sum fun i => (w_real hG hK hB hT i d).mul (dvn_real hG hQ hK hO hD i e)))

end Head

/-! ## The arguments and the chunks' inverses -/

/-- Finite arguments. -/
structure Real (q k : Heads) (g b : Gate) (o : Heads) : Prop where
  q : ∀ j, IsReal (q j)
  k : ∀ j, IsReal (k j)
  g : ∀ j, IsReal (g j)
  b : ∀ j, IsReal (b j)
  o : ∀ j, IsReal (o j)

theorem scale_real : IsReal (FloatOps.ofBits (F := Ideal) .f32 0x3DB504F3#32) := by
  have h : FloatOps.ofBits (F := Ideal) .f32 0x3DB504F3#32 = Ideal.ofBits .f32 0x3DB504F3#32 := rfl
  rw [h]
  simp only [Ideal.ofBits, Ideal.ieee]
  exact ⟨_, rfl⟩

/-- An array of real numbers. -/
def RealSq (x : ChunkSq) : Prop := ∀ h n i r, IsReal (x (ix5 (0 : Fin 1) h n i r))

theorem powV_real {x y : ChunkSq} (hx : RealSq x) (hy : RealSq y) : RealSq (mulV x y) := fun h n i r => by
  have e : mulV x y (ix5 (0 : Fin 1) h n i r) = ∑ a : Fin 64, x (ix5 (0 : Fin 1) h n i a) * y (ix5 (0 : Fin 1) h n a r) := by
    pointwise [mulV]
  rw [e]
  exact .sum fun a => (hx h n i a).mul (hy h n a r)

theorem addV_real {x y : ChunkSq} (hx : RealSq x) (hy : RealSq y) : RealSq (addf x y) := fun h n i r => (hx h n i r).add (hy h n i r)

theorem sumV_real {M X : ChunkSq} (hM : RealSq M) (hX : RealSq X) : RealSq (sumV M X) := addV_real hX (powV_real (powV_real hM hM) hX)

theorem idV_real : RealSq idV := fun h n i r => by
  have e : ∃ x : BitVec 1, idV (ix5 (0 : Fin 1) h n i r) = FloatOps.uitofp (F := Ideal) .f32 x := by
    unfold idV
    pointwise []
    exact ⟨_, rfl⟩
  obtain ⟨x, e⟩ := e
  rw [e]
  exact ⟨_, rfl⟩

theorem invV_real {L : ChunkSq} (hL : RealSq L) : RealSq (invV L) := by
  have h0 : RealSq (Host.negf L) := fun h n i r => (hL h n i r).neg
  have h1 := powV_real h0 h0
  have h2 := powV_real h1 h1
  have h3 := powV_real h2 h2
  have h4 := powV_real h3 h3
  exact sumV_real h4 (sumV_real h3 (sumV_real h2 (sumV_real h1 (sumV_real h0 (addV_real idV_real h0)))))

section

variable {q k : Heads} {g b : Gate} {o : Heads} (R : Real q k g b o)
include R

theorem gsum_real (n : Fin 64) (h : Fin 8) (i : Fin 64) : IsReal (gsum g n h i) := .sum fun _ => .ite (R.g _) .zero

theorem hq_real (n : Fin 64) (h : Fin 8) (i : Fin 64) (d : Fin 128) : IsReal (hq q n h i d) := (R.q _).mul scale_real

theorem ht_real (n : Fin 64) (h : Fin 8) (i r : Fin 64) : IsReal (ht k g b n h i r) := by
  refine invV_real (fun h n i r => ?_) h n i r
  have e : ∃ x : BitVec 1, lowerV k g b (ix5 (0 : Fin 1) h n i r) = Scalar.select x
      ((∑ d : Fin 128, rowsV (chunksV k) (gatesV b) (ix5 (0 : Fin 1) h n i d) * chunksV k (ix5 (0 : Fin 1) h n r d)) * decayV g (ix5 (0 : Fin 1) h n i r))
      (0 : EReal) := by
    pointwise [lowerV, maskedV, id]
    exact ⟨_, rfl⟩
  obtain ⟨x, e⟩ := e
  rw [e]
  unfold Scalar.select
  simp only [rowsV_at, chunksV_at, gatesV_at, decayV_at]
  exact .ite ((IsReal.sum fun d => ((R.k _).mul (R.b _)).mul (R.k _)).mul (Head.dec_real (gsum_real R n h) i r)) .zero

end

/-! ## The chain of state gradients -/

/-- The chunk handled at step `t`, from the last. -/
def back (t : ℕ) : Fin 64 := ⟨63 - t, by omega⟩

/-- One head's state gradient before step `t`: the chunks from the last to chunk `64 - t` taken in. -/
def DS (q k : Heads) (g b : Gate) (o : Heads) (h : Fin 8) : ℕ → Fin 128 → Fin 128 → EReal
  | 0 => fun _ _ => 0
  | t + 1 => Head.ds (gsum g (back t) h) (hq q (back t) h) (hd k (back t) h) (hd o (back t) h) (hb b (back t) h) (ht k g b (back t) h)
      (DS q k g b o h t)

/-- The gradient of the new values at step `t`. -/
def DN (q k : Heads) (g b : Gate) (o : Heads) (h : Fin 8) (t : ℕ) : Fin 64 → Fin 128 → EReal :=
  Head.dvn (gsum g (back t) h) (hq q (back t) h) (hd k (back t) h) (hd o (back t) h) (DS q k g b o h t)

/-- The values' gradient at step `t`. -/
def DV (q k : Heads) (g b : Gate) (o : Heads) (h : Fin 8) (t : ℕ) : Fin 64 → Fin 128 → EReal :=
  Head.dv (gsum g (back t) h) (hq q (back t) h) (hd k (back t) h) (hd o (back t) h) (hb b (back t) h) (ht k g b (back t) h)
    (DS q k g b o h t)

section

variable {q k : Heads} {g b : Gate} {o : Heads} (R : Real q k g b o)
include R

theorem DS_real (h : Fin 8) : ∀ (t : ℕ) (d e : Fin 128), IsReal (DS q k g b o h t d e)
  | 0, _, _ => .zero
  | t + 1, d, e => Head.ds_real (gsum_real R _ h) (hq_real R _ h) (fun _ _ => R.k _) (fun _ _ => R.o _) (fun _ => R.b _) (ht_real R _ h)
      (DS_real h t) d e

theorem DN_real (h : Fin 8) (t : ℕ) (i : Fin 64) (e : Fin 128) : IsReal (DN q k g b o h t i e) :=
  Head.dvn_real (gsum_real R _ h) (hq_real R _ h) (fun _ _ => R.k _) (fun _ _ => R.o _) (DS_real R h t) i e

/-- The step in the reference's form: the negated gradient of the new values times the states' weights added. -/
theorem DS_succ (h : Fin 8) (t : ℕ) (d e : Fin 128) :
    DS q k g b o h (t + 1) d e = DS q k g b o h t d e * Ideal.exp (gsum g (back t) h 63)
      + ∑ i, hd o (back t) h i e * Head.qdec (gsum g (back t) h) (hq q (back t) h) i d
      + ∑ i, -DN q k g b o h t i e * Head.w (gsum g (back t) h) (hd k (back t) h) (hb b (back t) h) (ht k g b (back t) h) i d := by
  have hw : ∀ i, IsReal (Head.w (gsum g (back t) h) (hd k (back t) h) (hb b (back t) h) (ht k g b (back t) h) i d) := fun i =>
    Head.w_real (gsum_real R _ h) (fun _ _ => R.k _) (fun _ => R.b _) (ht_real R _ h) i d
  rw [sum_neg_mul (DN_real R h t · e) hw, ← sub_eq_add_neg]
  simp only [mul_comm (hd o (back t) h _ e)]
  rfl

end

end Cert.Proof

end
-- ==== Proof.Readings.lean ====
/-
  The chunk's columns and stacks at an index, in terms of the blocks a grid point loads.
-/
module

public import proofs.«01_k».proof.Proof.Chunk
public import proofs.«01_k».proof.Proof.Finite
public import Idealize.ShloMosaic.Lib.Pipeline.ValueKit

@[expose] public section

noncomputable section

namespace Cert.Proof

open Idealize.ShloMosaic Cert.KernelIdeal Cert.KernelIdeal.Gen

/-- Position `i` of chunk `n` in a block of four chunks. -/
def at4 (n : ℕ) (hn : n < 4) (i : Fin 64) : Fin 256 := ⟨64 * n + i.val, by omega⟩
/-- Coordinate `d` of head `j` of group `g`. -/
def coord (g : ℕ) (hg : g < 2) (j : Fin 4) (d : Fin 128) : Fin 1024 := ⟨512 * g + 128 * j.val + d.val, by omega⟩

theorem tile_at (x : Rows) (n g j : ℕ) (hn : n < 4) (hg : g < 2) (hj : j < 4) (i : Fin 64) (d : Fin 128) :
    (View.ld x (Rect.unit (s := S256x1024) ![64 * n, 512 * g + 128 * j] S64x128.size (tile_in n g j hn hg hj)) : Vec Ideal S64x128 .f32) (ix2 i d)
      = x (ix2 (at4 n hn i) (coord g hg ⟨j, hj⟩ d)) :=
  View.ld_unit_apply_of _ _ _ _ _ _ fun a => by
    match a with
    | ⟨0, _⟩ => rfl
    | ⟨1, _⟩ => rfl

theorem stack_at (y : Fin 4 → FVec Ideal S64x128 .f32) (j : Fin 4) (i : Fin 64) (d : Fin 128) :
    concatenate S256x128 0 [⟨S64x128, y 0⟩, ⟨S64x128, y 1⟩, ⟨S64x128, y 2⟩, ⟨S64x128, y 3⟩]
      concatenates_S64x128_S64x128_S64x128_S64x128_S256x128_d0 (ix2 (row j i) d) = y j (ix2 i d) := by
  have hv : (row j i).val = 64 * j.val + i.val := rfl
  have key : ∀ (j' : Fin 4) (p : ℕ) (hp : p < 64), j'.val = j.val → p = i.val → y j' (ix2 ⟨p, hp⟩ d) = y j (ix2 i d) := by
    intro j' p hp h h'; subst h'; rw [Fin.ext h]
  pointwise []
  split_ifs
  · exact key 0 _ _ (by show 0 = j.val; omega) (by omega)
  · exact key 0 _ _ (by show 0 = j.val; omega) (by omega)
  · exact key 1 _ _ (by show 1 = j.val; omega) (by omega)
  · exact key 1 _ _ (by show 1 = j.val; omega) (by omega)
  · exact key 2 _ _ (by show 2 = j.val; omega) (by omega)
  · exact key 2 _ _ (by show 2 = j.val; omega) (by omega)
  · exact key 3 _ _ (by show 3 = j.val; omega) (by omega)
  · exact key 3 _ _ (by show 3 = j.val; omega) (by omega)

theorem column_at (y : Fin 4 → FVec Ideal S64x1 .f32) (j : Fin 4) (i : Fin 64) (l : Fin 1) :
    concatenate S256x1 0 [⟨S64x1, y 0⟩, ⟨S64x1, y 1⟩, ⟨S64x1, y 2⟩, ⟨S64x1, y 3⟩]
      concatenates_S64x1_S64x1_S64x1_S64x1_S256x1_d0 (ix2 (row j i) l) = y j (ix2 i l) := by
  obtain rfl : l = 0 := Subsingleton.elim _ _
  have hv : (row j i).val = 64 * j.val + i.val := rfl
  have key : ∀ (j' : Fin 4) (p : ℕ) (hp : p < 64), j'.val = j.val → p = i.val → y j' (ix2 ⟨p, hp⟩ (0 : Fin 1)) = y j (ix2 i (0 : Fin 1)) := by
    intro j' p hp h h'; subst h'; rw [Fin.ext h]
  pointwise []
  split_ifs
  · exact key 0 _ _ (by show 0 = j.val; omega) (by omega)
  · exact key 0 _ _ (by show 0 = j.val; omega) (by omega)
  · exact key 1 _ _ (by show 1 = j.val; omega) (by omega)
  · exact key 1 _ _ (by show 1 = j.val; omega) (by omega)
  · exact key 2 _ _ (by show 2 = j.val; omega) (by omega)
  · exact key 2 _ _ (by show 2 = j.val; omega) (by omega)
  · exact key 3 _ _ (by show 3 = j.val; omega) (by omega)
  · exact key 3 _ _ (by show 3 = j.val; omega) (by omega)

theorem wcolumn_at (y : Fin 4 → FVec Ideal S128x1 .f32) (j : Fin 4) (i : Fin 128) (l : Fin 1) :
    concatenate S512x1 0 [⟨S128x1, y 0⟩, ⟨S128x1, y 1⟩, ⟨S128x1, y 2⟩, ⟨S128x1, y 3⟩]
      concatenates_S128x1_S128x1_S128x1_S128x1_S512x1_d0 (ix2 (wrow j i) l) = y j (ix2 i l) := by
  obtain rfl : l = 0 := Subsingleton.elim _ _
  have hv : (wrow j i).val = 128 * j.val + i.val := rfl
  have key : ∀ (j' : Fin 4) (p : ℕ) (hp : p < 128), j'.val = j.val → p = i.val → y j' (ix2 ⟨p, hp⟩ (0 : Fin 1)) = y j (ix2 i (0 : Fin 1)) := by
    intro j' p hp h h'; subst h'; rw [Fin.ext h]
  pointwise []
  split_ifs
  · exact key 0 _ _ (by show 0 = j.val; omega) (by omega)
  · exact key 0 _ _ (by show 0 = j.val; omega) (by omega)
  · exact key 1 _ _ (by show 1 = j.val; omega) (by omega)
  · exact key 1 _ _ (by show 1 = j.val; omega) (by omega)
  · exact key 2 _ _ (by show 2 = j.val; omega) (by omega)
  · exact key 2 _ _ (by show 2 = j.val; omega) (by omega)
  · exact key 3 _ _ (by show 3 = j.val; omega) (by omega)
  · exact key 3 _ _ (by show 3 = j.val; omega) (by omega)

theorem headsV_at (x : Rows) (n g : ℕ) (hn : n < 4) (hg : g < 2) (j : Fin 4) (i : Fin 64) (d : Fin 128) :
    headsV n g hn hg x (ix2 (row j i) d) = x (ix2 (at4 n hn i) (coord g hg j d)) := by
  refine (stack_at (fun j => shapeCast S64x128 (View.ld x (Rect.unit (s := S256x1024) ![64 * n, 512 * g + 128 * j.val] S64x128.size
    (tile_in n g j.val hn hg j.isLt))) shapeCasts_S64x128_S64x128) j i d).trans ?_
  rw [← tile_at x n g j.val hn hg j.isLt]
  generalize View.ld x _ = y
  pointwise []

theorem queriesV_at (x : Rows) (n g : ℕ) (hn : n < 4) (hg : g < 2) (j : Fin 4) (i : Fin 64) (d : Fin 128) :
    queriesV n g hn hg x (ix2 (row j i) d) = x (ix2 (at4 n hn i) (coord g hg j d)) * FloatOps.ofBits (F := Ideal) .f32 0x3DB504F3#32 := by
  rw [← headsV_at x n g hn hg]
  pointwise [queriesV]

theorem lanesV_at (x : Lanes) (n : ℕ) (hn : n < 4) (i : Fin 64) (l : Fin 128) : lanesV n hn x (ix2 i l) = x (ix2 (at4 n hn i) l) := by
  have e : (View.ld x (Rect.unit (s := S256x128) ![64 * n, 0] S64x128.size (lanes_in n hn)) : Vec Ideal S64x128 .f32) (ix2 i l)
      = x (ix2 (at4 n hn i) l) :=
    View.ld_unit_apply_of _ _ _ _ _ _ fun a => by
      match a with
      | ⟨0, _⟩ => rfl
      | ⟨1, _⟩ => show l.val = 0 + l.val; omega
  rw [← e]
  unfold lanesV
  generalize View.ld x _ = y
  pointwise []

theorem block_cast (y : Vec Ideal S1x1x256x256 .f32) (a b : Fin 256) :
    (shapeCast S256x256 y shapeCasts_S1x1x256x256_S256x256 : Sq) (ix2 a b) = y (ix4 (0 : Fin 1) (0 : Fin 1) a b) := by
  pointwise []

theorem inverseV_at (x : Blocks) (n g : ℕ) (hn : n < 4) (hg : g < 2) (a b : Fin 256) :
    inverseV n g hn hg x (ix2 a b) = x (ix4 (⟨n, hn⟩ : Fin 4) (⟨g, hg⟩ : Fin 2) a b) := by
  refine (block_cast _ a b).trans (View.ld_unit_apply_of _ _ _ _ _ _ fun ax => ?_)
  match ax with
  | ⟨0, _⟩ => show n = n + 0; omega
  | ⟨1, _⟩ => show g = g + 0; omega
  | ⟨2, _⟩ => show a.val = 0 + a.val; omega
  | ⟨3, _⟩ => show b.val = 0 + b.val; omega

/-- Lane `l + j`. -/
def lane (l : ℕ) (hl : l < 124) (j : Fin 4) : Fin 128 := ⟨l + j.val, by omega⟩

theorem columnOf_at (l : ℕ) (hl : l < 124) (x : Tile) (j : Fin 4) (i : Fin 64) (z : Fin 1) :
    columnOf l hl x (ix2 (row j i) z) = x (ix2 i (lane l hl j)) := by
  refine (column_at (fun j => extractStridedSlice S64x1 ![0, l + j.val] x (lane_in (l + j.val) (by omega))) j i z).trans ?_
  refine congrArg x (funext fun a => ?_)
  match a with
  | ⟨0, _⟩ => exact Fin.ext (by show 0 + i.val = i.val; omega)
  | ⟨1, _⟩ => exact Fin.ext (by show l + j.val + z.val = l + j.val; omega)

theorem lastOf_at (l : ℕ) (hl : l < 124) (x : Tile) (j : Fin 4) (i : Fin 64) (z : Fin 1) :
    lastOf l hl x (ix2 (row j i) z) = x (ix2 (63 : Fin 64) (lane l hl j)) := by
  refine (column_at (fun j => broadcastTo S64x1 (shapeCast S1x1 (extractStridedSlice S1x1 ![63, l + j.val] x (last_in (l + j.val) (by omega)))
    shapeCasts_S1x1_S1x1) broadcasts_S1x1_S64x1) j i z).trans ?_
  have e : extractStridedSlice S1x1 ![63, l + j.val] x (last_in (l + j.val) (by omega)) (ix2 (0 : Fin 1) (0 : Fin 1))
      = x (ix2 (63 : Fin 64) (lane l hl j)) := by
    refine congrArg x (funext fun a => ?_)
    match a with
    | ⟨0, _⟩ => rfl
    | ⟨1, _⟩ => rfl
  rw [← e]
  generalize extractStridedSlice S1x1 ![63, l + j.val] x (last_in (l + j.val) (by omega)) = y
  pointwise []

theorem carryOf_at (l : ℕ) (hl : l < 124) (x : Tile) (j : Fin 4) (i : Fin 128) (z : Fin 1) :
    carryOf l hl x (ix2 (wrow j i) z) = Ideal.exp (x (ix2 (63 : Fin 64) (lane l hl j))) := by
  refine (wcolumn_at (fun j => broadcastTo S128x1 (shapeCast S1x1 (exp (extractStridedSlice S1x1 ![63, l + j.val] x (last_in (l + j.val) (by omega))))
    shapeCasts_S1x1_S1x1) broadcasts_S1x1_S128x1) j i z).trans ?_
  have e : extractStridedSlice S1x1 ![63, l + j.val] x (last_in (l + j.val) (by omega)) (ix2 (0 : Fin 1) (0 : Fin 1))
      = x (ix2 (63 : Fin 64) (lane l hl j)) := by
    refine congrArg x (funext fun a => ?_)
    match a with
    | ⟨0, _⟩ => rfl
    | ⟨1, _⟩ => rfl
  rw [← e]
  generalize extractStridedSlice S1x1 ![63, l + j.val] x (last_in (l + j.val) (by omega)) = y
  pointwise []

theorem sumsV_at (x : Tile) (hx : ∀ i l, IsReal (x (ix2 i l))) (i : Fin 64) (l : Fin 128) :
    sumsV x (ix2 i l) = ∑ r : Fin 64, if r ≤ i then x (ix2 r l) else 0 := by
  have h0 : ∀ r : Fin 64, x (ix2 r l) - x (ix2 r l) = 0 := fun r => by
    obtain ⟨a, ha⟩ := hx r l
    rw [ha, ← EReal.coe_sub, sub_self, EReal.coe_zero]
  have hc : ∀ (i r : Fin 64) (a b : EReal), Scalar.select (IntOp.cmpi .sge (BitVec.ofNat 32 i.val) (BitVec.ofNat 32 r.val)) a b
      = if r ≤ i then a else b := fun i r a b => by
    rw [WordCmp.cmpi_sge_ofNat (by omega) (by omega)]
    by_cases h : r ≤ i
    · have : r.val ≤ i.val := h
      simp [h, this, Scalar.select]
    · have : ¬ r.val ≤ i.val := h
      simp [h, this, Scalar.select]
  pointwise [sumsV]
  simp only [hc, h0, sub_zero, mul_zero, Finset.sum_const_zero, add_zero, ite_mul, one_mul, zero_mul, ite_self]

theorem slab_at (D : FVec Ideal S512x128 .f32) (a : Fin 512) (e : Fin 128) :
    (shapeCast S1x512x128 D shapeCasts_S512x128_S1x512x128 : Slab) (ix3 (0 : Fin 1) a e) = D (ix2 a e) := by
  pointwise []

theorem unslab_at (D : Slab) (a : Fin 512) (e : Fin 128) :
    (shapeCast S512x128 D shapeCasts_S1x512x128_S512x128 : FVec Ideal S512x128 .f32) (ix2 a e) = D (ix3 (0 : Fin 1) a e) := by
  pointwise []

end Cert.Proof

end
-- ==== Proof.Entry.lean ====
/-
  The arrays the kernel's call reads, as the host operations before it leave them, and their entries in terms of the
  arguments.
-/
module

public import proofs.«01_k».proof.Proof.Finite
public import proofs.«01_k».proof.Proof.Gen.KernelIdeal.Value
public import Idealize.ShloMosaic.Lib.ValueIdxRank6
public import Idealize.ShloMosaic.Lib.StableHlo.RunLoop
public import Idealize.ShloMosaic.Lib.StableHlo.RunRead

@[expose] public section

noncomputable section

namespace Cert.Proof.Entry

open Idealize.ShloMosaic Idealize.ShloMosaic.TcCoe Idealize.ShloMosaic.StableHlo Cert.KernelIdeal Cert.KernelIdeal.Gen

abbrev KerVal := Valuation τ sig (Elt Ideal)

/-! ## The stretches -/

/-- The contents before the strictly lower part is masked. -/
def start (V : KerVal) : KerVal :=
  after hostOps0_8 (after hostOps0_7 (after hostOps0_6 (after hostOps0_5 (after hostOps0_4 (after hostOps0_3
    (after hostOps0_2 (after hostOps0_1 (after hostOps0 V))))))))

/-- The contents before the inverses are taken. -/
def mid (V : KerVal) : KerVal := after hostOps0_9 (start V)

/-- The contents when the kernel is called. -/
def entry (V : KerVal) : KerVal := after hostOps0_12 (after hostOps0_11 (after hostOps0_10 (mid V)))

theorem V_eq (m : (ℓ : Loc nD τ sig) → Buf (Elt Ideal) ℓ) (c : Dev nD) (r : Ref sig .tc) :
    Gen.V m c r = entry (fun b => m (c, b)) (Proc.devRef .tc r) := by
  have e : ∀ (L : List (List (HloOp τ sig (Elt Ideal)))) (X : KerVal), after L.flatten X = afterL L X :=
    fun L X => (afterL_eq_after_flatten L X).symm
  unfold Gen.V
  rw [e]
  rfl

/-- The stretch that builds a lower mask, its shift a parameter. -/
abbrev strictOps (z : BitVec 32) : List (HloOp τ sig (Elt Ideal)) :=
  [ TRef.nullary (.of main_call2_v0 : TRef sig ⟨S64x64, .i32⟩) (iotaInDim S64x64 32 0),
    TRef.nullary (.of main_call2_c : TRef sig ⟨S_, .i32⟩) (constantI S_ 32 z),
    TRef.unary (.of main_call2_c : TRef sig ⟨S_, .i32⟩) (.of main_call2_v1 : TRef sig ⟨S64x64, .i32⟩) (broadcastInDim S64x64 ![] bcast_S_S64x64),
    TRef.binary (.of main_call2_v0 : TRef sig ⟨S64x64, .i32⟩) (.of main_call2_v1 : TRef sig ⟨S64x64, .i32⟩) (.of main_call2_v2 : TRef sig ⟨S64x64, .i32⟩) addi,
    TRef.nullary (.of main_call2_v3 : TRef sig ⟨S64x64, .i32⟩) (iotaInDim S64x64 32 1),
    TRef.binary (.of main_call2_v2 : TRef sig ⟨S64x64, .i32⟩) (.of main_call2_v3 : TRef sig ⟨S64x64, .i32⟩) (.of main_call2_v4 : TRef sig ⟨S64x64, .i1⟩) (cmpi .sge),
    TRef.nullary (.of main_call2_c_0 : TRef sig ⟨S_, .i1⟩) (constantI S_ 1 0#1),
    TRef.unary (.of main_call2_c_0 : TRef sig ⟨S_, .i1⟩) (.of main_call2_v5 : TRef sig ⟨S64x64, .i1⟩) (broadcastInDim S64x64 ![] bcast_S_S64x64),
    TRef.ternary (.of main_call2_v4 : TRef sig ⟨S64x64, .i1⟩) (.of main_v30 : TRef sig ⟨S64x64, .i1⟩) (.of main_call2_v5 : TRef sig ⟨S64x64, .i1⟩) (.of main_v31 : TRef sig ⟨S64x64, .i1⟩) select ]

theorem strictOps_eq : (hostOps0_5 : List (HloOp τ sig (Elt Ideal))) = strictOps 4294967295#32 := rfl

theorem strict_v31 (z : BitVec 32) (X : KerVal) : after (strictOps z) X (Proc.devRef .tc main_v31)
    = select (cmpi .sge (addi (iotaInDim S64x64 32 0) (broadcastInDim S64x64 ![] bcast_S_S64x64 (constantI S_ 32 z))) (iotaInDim S64x64 32 1))
      (X (Proc.devRef .tc main_v30) : IVec S64x64 1) (broadcastInDim S64x64 ![] bcast_S_S64x64 (constantI S_ 1 0#1)) := by
  after_reads_simp
  rfl

theorem lowerMask_eq (z : BitVec 32) :
    select (cmpi .sge (addi (iotaInDim S64x64 32 0) (broadcastInDim S64x64 ![] bcast_S_S64x64 (constantI S_ 32 z))) (iotaInDim S64x64 32 1))
      (broadcastInDim S64x64 ![] bcast_S_S64x64 (constantI S_ 1 1#1)) (broadcastInDim S64x64 ![] bcast_S_S64x64 (constantI S_ 1 0#1))
    = lowerMask z := rfl

theorem ones_v30 (X : KerVal) : after hostOps0_4 X (Proc.devRef .tc main_v30)
    = (broadcastInDim S64x64 ![] bcast_S_S64x64 (constantI S_ 1 1#1) : IVec S64x64 1) := by
  after_reads_simp

theorem keep6_v31 (X : KerVal) : after hostOps0_6 X (Proc.devRef .tc main_v31) = X (Proc.devRef .tc main_v31) := by
  after_reads_simp
theorem keep7_v31 (X : KerVal) : after hostOps0_7 X (Proc.devRef .tc main_v31) = X (Proc.devRef .tc main_v31) := by
  after_reads_simp
theorem keep8_v31 (X : KerVal) : after hostOps0_8 X (Proc.devRef .tc main_v31) = X (Proc.devRef .tc main_v31) := by
  after_reads_simp

abbrev selectV (c : IVec S64x64 1) (x : ChunkSq) (z : FVec Ideal S_ .f32) : ChunkSq :=
  select (broadcastInDim S1x8x64x64x64 ![3, 4] bcast_S64x64_S1x8x64x64x64_3_4 c) x (broadcastInDim S1x8x64x64x64 ![] bcast_S_S1x8x64x64x64 (id z))
abbrev dotV (x y : Chunk) : ChunkSq := Host.dotGeneral (F := Ideal) (φ₁ := .f32) (φ₂ := .f32) dot_S1x8x64x64x128_S1x8x64x64x128_S1x8x64x64x64_4_4_3_3_012_012 none x y

theorem masked_v41 (X : KerVal) : after hostOps0_9 X (Proc.devRef .tc main_v41)
    = selectV (X (Proc.devRef .tc main_v31)) (X (Proc.devRef .tc main_v40)) (X (Proc.devRef .tc main_cst_3)) := by
  after_reads_simp
  rfl

/-- Which of four heads two positions in a stack belong to: ones on the diagonal. -/
def ownV : IVec S1x1x4x1x4x1 1 :=
  shapeCast S1x1x4x1x4x1 (cmpi .eq (addi (iotaInDim S4x4 32 0) (broadcastInDim S4x4 ![] bcast_S_S4x4 (constantI S_ 32 0#32))) (iotaInDim S4x4 32 1))
    shapeCasts_S4x4_S1x1x4x1x4x1

/-- The chunks' inverses with the chunk axis in front and the heads in two groups. -/
def groupedV (x : ChunkSq) : FVec Ideal S64x2x4x64x1x64 .f32 :=
  shapeCast S64x2x4x64x1x64 (transpose S64x8x64x64 [1, 0, 2, 3] (shapeCast S8x64x64x64 x shapeCasts_S1x8x64x64x64_S8x64x64x64)
    transposes_S8x64x64x64_S64x8x64x64_1_0_2_3) shapeCasts_S64x8x64x64_S64x2x4x64x1x64

/-- The groups' inverses, block-diagonal. -/
def spreadInvV (own : IVec S1x1x4x1x4x1 1) (x : FVec Ideal S64x2x4x64x1x64 .f32) (z : FVec Ideal S_ .f32) : FVec Ideal S64x2x4x64x4x64 .f32 :=
  select (broadcastInDim S64x2x4x64x4x64 ![0, 1, 2, 3, 4, 5] bcast_S1x1x4x1x4x1_S64x2x4x64x4x64_0_1_2_3_4_5 own)
    (broadcastInDim S64x2x4x64x4x64 ![0, 1, 2, 3, 4, 5] bcast_S64x2x4x64x1x64_S64x2x4x64x4x64_0_1_2_3_4_5 x)
    (broadcastInDim S64x2x4x64x4x64 ![] bcast_S_S64x2x4x64x4x64 (id z))

/-- The heads side by side. -/
def flatV (x : Heads) : FVec Ideal S4096x1024 .f32 := shapeCast S4096x1024 x shapeCasts_S1x4096x8x128_S4096x1024
def flatG (x : Gate) : FVec Ideal S4096x8 .f32 := shapeCast S4096x8 x shapeCasts_S1x4096x8_S4096x8
/-- Queries, keys and values side by side. -/
def besideV (q k v : Heads) : FVec Ideal S4096x3072 .f32 :=
  concatenate S4096x3072 1 [⟨S4096x1024, flatV q⟩, ⟨S4096x1024, flatV k⟩, ⟨S4096x1024, flatV v⟩] concatenates_S4096x1024_S4096x1024_S4096x1024_S4096x3072_d1
/-- The two gates side by side, zeros behind them. -/
def besideG (b g : Gate) : FVec Ideal S4096x128 .f32 :=
  concatenate S4096x128 1 [⟨S4096x8, flatG b⟩, ⟨S4096x8, flatG g⟩,
    ⟨S4096x112, broadcastInDim S4096x112 ![] bcast_S_S4096x112 (constant S_ .f32 0x00000000#32 : FVec Ideal S_ .f32)⟩]
    concatenates_S4096x8_S4096x8_S4096x112_S4096x128_d1

section

variable (V : KerVal)

abbrev argq : Heads := V (Proc.devRef .tc main_arg0)
abbrev argk : Heads := V (Proc.devRef .tc main_arg1)
abbrev argv : Heads := V (Proc.devRef .tc main_arg2)
abbrev argg : Gate := V (Proc.devRef .tc main_arg3)
abbrev argb : Gate := V (Proc.devRef .tc main_arg4)
abbrev argo : Heads := V (Proc.devRef .tc main_arg6)

theorem entry_v13 : entry V (Proc.devRef .tc main_v13) = besideV (argq V) (argk V) (argv V) := by
  unfold entry mid start
  after_reads_simp
  rfl
theorem entry_v17 : entry V (Proc.devRef .tc main_v17) = besideG (argb V) (argg V) := by
  unfold entry mid start
  after_reads_simp
  rfl
theorem entry_v3 : entry V (Proc.devRef .tc main_v3) = flatV (argo V) := by
  unfold entry mid start
  after_reads_simp
  rfl

theorem start_v31 : start V (Proc.devRef .tc main_v31) = lowerMask 4294967295#32 := by
  unfold start
  rw [keep8_v31, keep7_v31, keep6_v31, strictOps_eq, strict_v31, ones_v30]
  exact lowerMask_eq _
theorem start_cst : start V (Proc.devRef .tc main_cst_3) = (constant S_ .f32 0x00000000#32 : FVec Ideal S_ .f32) := by
  unfold start
  after_reads_simp
theorem start_v40 : start V (Proc.devRef .tc main_v40)
    = mulf (dotV (rowsV (chunksV (argk V)) (gatesV (argb V))) (chunksV (argk V))) (decayV (argg V)) := by
  unfold start
  after_reads_simp
  rfl
theorem mid_v9 : mid V (Proc.devRef .tc main_v9) = ownV := by
  unfold mid start
  after_reads_simp
  rfl
theorem mid_v41 : mid V (Proc.devRef .tc main_v41) = lowerV (argk V) (argg V) (argb V) := by
  unfold mid
  rw [masked_v41, start_v31, start_v40, start_cst]
  rfl

theorem inv_v69 (W : KerVal) : after hostOps0_10 W (Proc.devRef .tc main_v69) = groupedV (invV (W (Proc.devRef .tc main_v41))) := by
  after_reads_simp
  rfl
theorem inv_v9 (W : KerVal) : after hostOps0_10 W (Proc.devRef .tc main_v9) = W (Proc.devRef .tc main_v9) := by
  after_reads_simp
theorem inv_cst (W : KerVal) : after hostOps0_10 W (Proc.devRef .tc main_cst_5) = (constant S_ .f32 0x00000000#32 : FVec Ideal S_ .f32) := by
  after_reads_simp
theorem spread_v70 (W : KerVal) : after hostOps0_11 W (Proc.devRef .tc main_v70)
    = spreadInvV (W (Proc.devRef .tc main_v9)) (W (Proc.devRef .tc main_v69)) (W (Proc.devRef .tc main_cst_5)) := by
  after_reads_simp
  rfl
theorem last_v71 (W : KerVal) : after hostOps0_12 W (Proc.devRef .tc main_v71)
    = (shapeCast S64x2x256x256 (W (Proc.devRef .tc main_v70)) shapeCasts_S64x2x4x64x4x64_S64x2x256x256 : FVec Ideal S64x2x256x256 .f32) := by
  after_reads_simp
  rfl

/-- The block-diagonal inverses as the call reads them. -/
def inversesV (k : Heads) (g b : Gate) : FVec Ideal S64x2x256x256 .f32 :=
  shapeCast S64x2x256x256 (spreadInvV ownV (groupedV (tV k g b)) (constant S_ .f32 0x00000000#32)) shapeCasts_S64x2x4x64x4x64_S64x2x256x256

theorem entry_v71 : entry V (Proc.devRef .tc main_v71) = inversesV (argk V) (argg V) (argb V) := by
  unfold entry
  rw [last_v71, spread_v70, inv_v69, inv_v9, inv_cst, mid_v9, mid_v41]
  rfl

end

end Cert.Proof.Entry

end
-- ==== Proof.EntryAt.lean ====
/-
  The arrays the kernel's call reads, at an index, in terms of the arguments.
-/
module

public import proofs.«01_k».proof.Proof.Entry
public import Idealize.ShloMosaic.Lib.Pipeline.ValueKit

@[expose] public section

noncomputable section

namespace Cert.Proof.Entry

open Idealize.ShloMosaic Cert.KernelIdeal Cert.KernelIdeal.Gen

/-- Head `j` of group `g`. -/
def head (g : Fin 2) (j : Fin 4) : Fin 8 := ⟨4 * g.val + j.val, by omega⟩
/-- Coordinate `d` of head `h`. -/
def col (h : Fin 8) (d : Fin 128) : Fin 1024 := ⟨128 * h.val + d.val, by omega⟩

theorem flatV_at (x : Heads) (n : Fin 64) (h : Fin 8) (i : Fin 64) (d : Fin 128) : flatV x (ix2 (pos n i) (col h d)) = hd x n h i d := by
  refine shapeCast_apply x _ _ (ix4 (0 : Fin 1) (pos n i) h d) ?_
  rw [Shape.rowMajor_val_four, Shape.rowMajor_val_two]
  show ((0 * 4096 + (pos n i).val) * 8 + h.val) * 128 + d.val = (pos n i).val * 1024 + (128 * h.val + d.val)
  omega

theorem flatG_at (x : Gate) (n : Fin 64) (h : Fin 8) (i : Fin 64) : flatG x (ix2 (pos n i) h) = hb x n h i := by
  refine shapeCast_apply x _ _ (ix3 (0 : Fin 1) (pos n i) h) ?_
  rw [Shape.rowMajor_val_three, Shape.rowMajor_val_two]
  show (0 * 4096 + (pos n i).val) * 8 + h.val = (pos n i).val * 8 + h.val
  omega

theorem besideV_q (q k v : Heads) (p : Fin 4096) (c : Fin 1024) :
    besideV q k v (ix2 p (⟨c.val, by omega⟩ : Fin 3072)) = flatV q (ix2 p c) := by
  unfold besideV
  generalize flatV q = a, flatV k = b, flatV v = d
  pointwise []

theorem besideV_k (q k v : Heads) (p : Fin 4096) (c : Fin 1024) :
    besideV q k v (ix2 p (⟨1024 + c.val, by omega⟩ : Fin 3072)) = flatV k (ix2 p c) := by
  unfold besideV
  generalize flatV q = a, flatV k = b, flatV v = d
  pointwise []

theorem besideG_at (b g : Gate) (p : Fin 4096) (l : Fin 128) :
    besideG b g (ix2 p l) = if h : l.val < 8 then flatG b (ix2 p ⟨l.val, h⟩) else if h' : l.val < 16 then flatG g (ix2 p ⟨l.val - 8, by omega⟩) else 0 := by
  unfold besideG
  generalize flatG b = x, flatG g = y
  pointwise []
  split_ifs with h1 h2 h3 h4 h5
  · rfl
  · rfl
  · rw [dif_pos (by omega)]
  · rw [dif_pos (by omega)]
  · omega
  · rfl

theorem ownV_at (j j' : Fin 4) :
    ownV (ix6 (0 : Fin 1) (0 : Fin 1) j (0 : Fin 1) j' (0 : Fin 1)) = if j = j' then 1#1 else 0#1 := by
  refine (shapeCast_apply _ _ _ (ix2 j j') ?_).trans ?_
  · rw [Shape.rowMajor_val_six, Shape.rowMajor_val_two]
    show j.val * 4 + j'.val = ((((0 * 1 + 0) * 4 + j.val) * 1 + 0) * 4 + j'.val) * 1 + 0
    omega
  · revert j j'
    decide

theorem groupedV_at (x : ChunkSq) (n : Fin 64) (g : Fin 2) (j : Fin 4) (i r : Fin 64) :
    groupedV x (ix6 n g j i (0 : Fin 1) r) = x (ix5 (0 : Fin 1) (head g j) n i r) := by
  refine (shapeCast_apply _ _ _ (ix4 n (head g j) i r) ?_).trans ?_
  · rw [Shape.rowMajor_val_six, Shape.rowMajor_val_four]
    show ((n.val * 8 + (4 * g.val + j.val)) * 64 + i.val) * 64 + r.val = ((((n.val * 2 + g.val) * 4 + j.val) * 64 + i.val) * 1 + 0) * 64 + r.val
    omega
  · pointwise []

theorem spreadInvV_at (own : IVec S1x1x4x1x4x1 1) (x : FVec Ideal S64x2x4x64x1x64 .f32) (z : FVec Ideal S_ .f32)
    (n : Fin 64) (g : Fin 2) (j : Fin 4) (i : Fin 64) (j' : Fin 4) (r : Fin 64) :
    spreadInvV own x z (ix6 n g j i j' r)
      = Scalar.select (own (ix6 (0 : Fin 1) (0 : Fin 1) j (0 : Fin 1) j' (0 : Fin 1))) (x (ix6 n g j i (0 : Fin 1) r)) (z ix0) := by
  pointwise [spreadInvV, id]

theorem inversesV_at (k : Heads) (g b : Gate) (n : Fin 64) (g' : Fin 2) (j j' : Fin 4) (i r : Fin 64) :
    inversesV k g b (ix4 n g' (row j i) (row j' r)) = if j = j' then ht k g b n (head g' j) i r else 0 := by
  refine (shapeCast_apply _ _ _ (ix6 n g' j i j' r) ?_).trans ?_
  · rw [Shape.rowMajor_val_six, Shape.rowMajor_val_four]
    show ((((n.val * 2 + g'.val) * 4 + j.val) * 64 + i.val) * 4 + j'.val) * 64 + r.val
      = ((n.val * 2 + g'.val) * 256 + (64 * j.val + i.val)) * 256 + (64 * j'.val + r.val)
    omega
  · rw [spreadInvV_at, ownV_at, groupedV_at, select_ite]
    have hz : (constant S_ .f32 0x00000000#32 : FVec Ideal S_ .f32) ix0 = 0 := by pointwise []
    rw [hz]
    rfl

end Cert.Proof.Entry

end
-- ==== Proof.Step.lean ====
/-
  One grid point of the kernel: with the blocks of four chunks loaded, the carried parts run through the chain of state
  gradients and the stored rows are the values' gradient.
-/
module

public import proofs.«01_k».proof.Proof.Readings
public import proofs.«01_k».proof.Proof.EntryAt

@[expose] public section

noncomputable section

namespace Cert.Proof

open Idealize.ShloMosaic Cert.KernelIdeal Cert.KernelIdeal.Gen Cert.Proof.Entry

/-- The step at which chunk `n` of point `t` is handled: the chunks of a point run from the last. -/
def step (t n : ℕ) : ℕ := 4 * t + (3 - n)

/-- What the blocks of point `t` hold. -/
structure Loads (q k : Heads) (g b : Gate) (o : Heads) (t : ℕ) (x0 x1 : Rows) (x3 : Lanes) (x5 : Blocks) (x6 : Rows) : Prop where
  T : ∀ n hn g' hg j j' i r, x5 (ix4 (⟨n, hn⟩ : Fin 4) (⟨g', hg⟩ : Fin 2) (row j i) (row j' r))
    = if j = j' then ht k g b (back (step t n)) (head ⟨g', hg⟩ j) i r else 0
  q : ∀ n hn g' hg j i d, x0 (ix2 (at4 n hn i) (coord g' hg j d)) = hd q (back (step t n)) (head ⟨g', hg⟩ j) i d
  k : ∀ n hn g' hg j i d, x1 (ix2 (at4 n hn i) (coord g' hg j d)) = hd k (back (step t n)) (head ⟨g', hg⟩ j) i d
  o : ∀ n hn g' hg j i d, x6 (ix2 (at4 n hn i) (coord g' hg j d)) = hd o (back (step t n)) (head ⟨g', hg⟩ j) i d
  b : ∀ n hn g' (hg : g' < 2) j i, x3 (ix2 (at4 n hn i) (lane (4 * g') (by omega) j)) = hb b (back (step t n)) (head ⟨g', hg⟩ j) i
  g : ∀ n hn g' (hg : g' < 2) j i, x3 (ix2 (at4 n hn i) (lane (8 + 4 * g') (by omega) j)) = hb g (back (step t n)) (head ⟨g', hg⟩ j) i
  real : ∀ i l, IsReal (x3 (ix2 i l))

section

variable {q k : Heads} {g b : Gate} {o : Heads} {t : ℕ} {x0 x1 : Rows} {x3 : Lanes} {x5 : Blocks} {x6 : Rows}
variable (R : Real q k g b o) (H : Loads q k g b o t x0 x1 x3 x5 x6)
include R H

theorem sums_at (n : ℕ) (hn : n < 4) (g' : ℕ) (hg : g' < 2) (j : Fin 4) (i : Fin 64) :
    sumsV (lanesV n hn x3) (ix2 i (lane (8 + 4 * g') (by omega) j)) = gsum g (back (step t n)) (head ⟨g', hg⟩ j) i := by
  rw [sumsV_at _ fun i l => by rw [lanesV_at]; exact H.real _ _]
  refine Finset.sum_congr rfl fun r _ => ?_
  rw [lanesV_at, H.g]
  rfl

/-- A slab that holds the state gradients of step `s`. -/
abbrev Holds (q k : Heads) (g b : Gate) (o : Heads) (g' : ℕ) (hg : g' < 2) (s : ℕ) (D : Slab) : Prop :=
  ∀ (j : Fin 4) (d e : Fin 128), D (ix3 (0 : Fin 1) (wrow j d) e) = DS q k g b o (head ⟨g', hg⟩ j) s d e

theorem reads_of (n : ℕ) (hn : n < 4) (g' : ℕ) (hg : g' < 2) (D : Slab) (hD : Holds q k g b o g' hg (step t n) D) :
    Reads (queriesV n g' hn hg x0) (headsV n g' hn hg x1) (headsV n g' hn hg x6) (columnOf (4 * g') (by omega) (lanesV n hn x3))
      (columnOf (8 + 4 * g') (by omega) (sumsV (lanesV n hn x3))) (lastOf (8 + 4 * g') (by omega) (sumsV (lanesV n hn x3)))
      (inverseV n g' hn hg x5) (shapeCast S512x128 D shapeCasts_S1x512x128_S512x128)
      (fun j => gsum g (back (step t n)) (head ⟨g', hg⟩ j)) (fun j => hq q (back (step t n)) (head ⟨g', hg⟩ j))
      (fun j => hd k (back (step t n)) (head ⟨g', hg⟩ j)) (fun j => hd o (back (step t n)) (head ⟨g', hg⟩ j))
      (fun j => hb b (back (step t n)) (head ⟨g', hg⟩ j)) (fun j => ht k g b (back (step t n)) (head ⟨g', hg⟩ j))
      (fun j => DS q k g b o (head ⟨g', hg⟩ j) (step t n)) where
  q j i d := by rw [queriesV_at, H.q]; rfl
  k j i d := by rw [headsV_at, H.k]
  o j i d := by rw [headsV_at, H.o]
  b j i l := by rw [columnOf_at, lanesV_at, H.b]
  g j i l := by rw [columnOf_at]; exact sums_at R H n hn g' hg j i
  gl j i l := by rw [lastOf_at]; exact sums_at R H n hn g' hg j 63
  T j j' i r := by rw [inverseV_at, H.T]
  D j d e := by rw [unslab_at, hD]
  fin j i := gsum_real R _ _ i

theorem nextSlab_holds (n : ℕ) (hn : n < 4) (g' : ℕ) (hg : g' < 2) (D : Slab) (hD : Holds q k g b o g' hg (step t n) D) :
    Holds q k g b o g' hg (step t n + 1) (nextSlab n g' hn hg x0 x1 x3 x5 x6 D) := fun j d e => by
  rw [nextSlab, slab_at, dsV_row (reads_of R H n hn g' hg D hD)]
  · rfl
  · intro j d l
    rw [carryOf_at, sums_at R H n hn g' hg j 63]

theorem gradV_holds (n : ℕ) (hn : n < 4) (g' : ℕ) (hg : g' < 2) (D : Slab) (hD : Holds q k g b o g' hg (step t n) D)
    (j : Fin 4) (i : Fin 64) (e : Fin 128) :
    gradV n g' hn hg x0 x1 x3 x5 x6 D (ix2 (row j i) e) = DV q k g b o (head ⟨g', hg⟩ j) (step t n) i e := by
  rw [gradV, dvV_row (reads_of R H n hn g' hg D hD)]
  rfl

/-- The carried part after the first `s` of the point's four chunks. -/
theorem slabAt_holds (g' : ℕ) (hg : g' < 2) (D : Slab) (hD : Holds q k g b o g' hg (4 * t) D) :
    ∀ s ≤ 4, Holds q k g b o g' hg (4 * t + s) (slabAt x0 x1 x3 x5 x6 g' hg D s)
  | 0, _ => hD
  | s + 1, hs => by
    have e : step t (3 - s) = 4 * t + s := by unfold step; omega
    have := nextSlab_holds R H (3 - s) (by omega) g' hg (slabAt x0 x1 x3 x5 x6 g' hg D s)
      (by rw [e]; exact slabAt_holds g' hg D hD s (by omega))
    rw [e] at this
    exact this

/-- The stored rows: the values' gradient of the chunk's step. -/
theorem grad_holds (n : ℕ) (hn : n < 4) (g' : ℕ) (hg : g' < 2) (D : Slab) (hD : Holds q k g b o g' hg (4 * t) D)
    (j : Fin 4) (i : Fin 64) (e : Fin 128) :
    gradV n g' hn hg x0 x1 x3 x5 x6 (slabAt x0 x1 x3 x5 x6 g' hg D (3 - n)) (ix2 (row j i) e)
      = DV q k g b o (head ⟨g', hg⟩ j) (step t n) i e :=
  gradV_holds R H n hn g' hg _ (slabAt_holds R H g' hg D hD (3 - n) (by omega)) j i e

end

end Cert.Proof

end
-- ==== Proof.Blocks.lean ====
/-
  The blocks of a grid point, read off the arrays: point `t` takes the chunks `60 - 4 t` to `63 - 4 t`.
-/
module

public import proofs.«01_k».proof.Proof.Step

@[expose] public section

set_option maxRecDepth 16384

noncomputable section

namespace Cert.Proof

open Idealize.ShloMosaic Idealize.ShloMosaic.TcCoe Idealize.ShloMosaic.Tactic Cert.KernelIdeal Cert.KernelIdeal.Gen Cert.Proof.Entry

theorem idx : ∀ t : Fin cfg0.N, win0_0.index t = ![15 - t.val, 0] ∧ win0_1.index t = ![15 - t.val, 1] ∧ win0_3.index t = ![15 - t.val, 0]
    ∧ win0_5.index t = ![15 - t.val, 0, 0, 0] ∧ win0_6.index t = ![15 - t.val, 0] ∧ win0_9.index t = ![15 - t.val, 0] :=
  (by decide +kernel : ∀ t : Fin grid0.N, _)

variable (m : (ℓ : Loc nD τ sig) → Buf (Elt Ideal) ℓ) (c : Dev nD) (t : Fin cfg0.N)

theorem lt16 : t.val < 16 := t.isLt

/-- A block's row in the whole array. -/
def srow (s : ℕ) (p : Fin 256) : Fin 4096 := ⟨256 * (15 - s) + p.val, by omega⟩
/-- A block's chunk in the whole array. -/
def schunk (s : ℕ) (n : Fin 4) : Fin 64 := ⟨4 * (15 - s) + n.val, by omega⟩

theorem blk0 (p : Fin 256) (d : Fin 1024) :
    (iblk m c 0 t : Rows) (ix2 p d) = (V m c main_v13 : FVec Ideal S4096x3072 .f32) (ix2 (srow t p) (⟨d.val, by omega⟩ : Fin 3072)) := by
  blk_ext [iblk, idx t, srow]
theorem blk1 (p : Fin 256) (d : Fin 1024) :
    (iblk m c 1 t : Rows) (ix2 p d) = (V m c main_v13 : FVec Ideal S4096x3072 .f32) (ix2 (srow t p) (⟨1024 + d.val, by omega⟩ : Fin 3072)) := by
  blk_ext [iblk, idx t, srow]
theorem blk3 (p : Fin 256) (d : Fin 128) :
    (iblk m c 3 t : Lanes) (ix2 p d) = (V m c main_v17 : FVec Ideal S4096x128 .f32) (ix2 (srow t p) d) := by
  blk_ext [iblk, idx t, srow]
theorem emb5 (n : Fin 4) (g : Fin 2) (x y : Fin 256) :
    ((win0_5.blk t).view.emb (ix4 n g x y) : S64x2x256x256.Idx) = ix4 (schunk t n) g x y := by
  funext a
  refine Fin.ext ?_
  match a with
  | ⟨0, _⟩ =>
    blk_simp [idx t]
    show (15 - t.val) * 4 + n.val = 4 * (15 - t.val) + n.val
    omega
  | ⟨1, _⟩ => blk_simp [idx t]
  | ⟨2, _⟩ => blk_simp [idx t]
  | ⟨3, _⟩ => blk_simp [idx t]
theorem blk5 (n : Fin 4) (g : Fin 2) (x y : Fin 256) :
    (iblk m c 5 t : Blocks) (ix4 n g x y)
      = (V m c main_v71 : FVec Ideal S64x2x256x256 .f32) (ix4 (schunk t n) g x y) := by
  rw [← emb5]
  blk_simp [iblk]
theorem blk6 (p : Fin 256) (d : Fin 1024) :
    (iblk m c 6 t : Rows) (ix2 p d) = (V m c main_v3 : FVec Ideal S4096x1024 .f32) (ix2 (srow t p) d) := by
  blk_ext [iblk, idx t, srow]

/-! ## The chunks of a point -/

theorem srow_at4 (n : ℕ) (hn : n < 4) (i : Fin 64) : srow t (at4 n hn i) = pos (back (step t n)) i := by
  have := lt16 t
  refine Fin.ext ?_
  show 256 * (15 - t.val) + (64 * n + i.val) = 64 * (63 - (4 * t.val + (3 - n))) + i.val
  omega
theorem coord_col (g : ℕ) (hg : g < 2) (j : Fin 4) (d : Fin 128) : coord g hg j d = col (head ⟨g, hg⟩ j) d :=
  Fin.ext (by show 512 * g + 128 * j.val + d.val = 128 * (4 * g + j.val) + d.val; omega)

variable {q k : Heads} {g b : Gate} {o : Heads}

/-- The blocks of point `t` hold the chunks' parts of the arguments. -/
theorem loads (R : Real q k g b o)
    (hq : m (c, Proc.devRef .tc main_arg0) = q) (hk : m (c, Proc.devRef .tc main_arg1) = k)
    (hg : m (c, Proc.devRef .tc main_arg3) = g) (hb : m (c, Proc.devRef .tc main_arg4) = b)
    (ho : m (c, Proc.devRef .tc main_arg6) = o) :
    Loads q k g b o t (iblk m c 0 t) (iblk m c 1 t) (iblk m c 3 t) (iblk m c 5 t) (iblk m c 6 t) where
  T n hn g' hg' j j' i r := by
    have := lt16 t
    have e : schunk t ⟨n, hn⟩ = back (step t n) :=
      Fin.ext (by show 4 * (15 - t.val) + n = 63 - (4 * t.val + (3 - n)); omega)
    rw [blk5, V_eq, entry_v71, ← inversesV_at, ← e]
    subst hk hg hb
    rfl
  q n hn g' hg' j i d := by
    rw [blk0, V_eq, entry_v13, besideV_q, srow_at4, coord_col, flatV_at]
    subst hq
    rfl
  k n hn g' hg' j i d := by
    rw [blk1, V_eq, entry_v13, besideV_k, srow_at4, coord_col, flatV_at]
    subst hk
    rfl
  o n hn g' hg' j i d := by
    rw [blk6, V_eq, entry_v3, srow_at4, coord_col, flatV_at]
    subst ho
    rfl
  b n hn g' hg' j i := by
    have h8 : (lane (4 * g') (by omega) j).val < 8 := by show 4 * g' + j.val < 8; omega
    rw [blk3, V_eq, entry_v17, besideG_at, dif_pos h8, srow_at4]
    subst hb
    exact flatG_at _ _ (head ⟨g', hg'⟩ j) _
  g n hn g' hg' j i := by
    have h8 : ¬ (lane (8 + 4 * g') (by omega) j).val < 8 := by show ¬ 8 + 4 * g' + j.val < 8; omega
    have h16 : (lane (8 + 4 * g') (by omega) j).val < 16 := by show 8 + 4 * g' + j.val < 16; omega
    rw [blk3, V_eq, entry_v17, besideG_at, dif_neg h8, dif_pos h16, srow_at4]
    subst hg
    have e : (⟨(lane (8 + 4 * g') (by omega) j).val - 8, by omega⟩ : Fin 8) = head ⟨g', hg'⟩ j :=
      Fin.ext (by show 8 + 4 * g' + j.val - 8 = 4 * g' + j.val; omega)
    rw [e]
    exact flatG_at _ _ _ _
  real i l := by
    rw [blk3, V_eq, entry_v17, besideG_at]
    subst hg hb
    split
    · exact R.b _
    · split
      · exact R.g _
      · exact .zero

end Cert.Proof

end
-- ==== Proof.Carried.lean ====
/-
  What a grid point leaves in the carried buffer: the part of each group after the point's four chunks.
-/
module

public import proofs.«01_k».proof.Proof.Chunk
public import proofs.«01_k».proof.Proof.Gen.KernelIdeal.Value
public import Idealize.ShloMosaic.Lib.Pipeline.ReadBack
public import Idealize.ShloMosaic.Lib.Pipeline.ValueKit

@[expose] public section

set_option maxHeartbeats 4000000

noncomputable section

namespace Cert.Proof

open Idealize.ShloMosaic Idealize.ShloMosaic.TcCoe Idealize.ShloMosaic.Tactic Cert.KernelIdeal Cert.KernelIdeal.Gen

section

variable (x0 x1 : Rows) (x3 : Lanes) (x5 : Blocks) (x6 : Rows) (X : Carry)

/-- The store of group `g`'s part after `k` chunks. -/
def carried (g : ℕ) (hg : g < 2) (k : ℕ) : View.Piece (Elt Ideal) S2x512x128 .f32 :=
  ⟨Rect.unit (s := S2x512x128) ![g, 0, 0] S1x512x128.size (slab_in g hg), slabAt x0 x1 x3 x5 x6 g hg (slabV g hg X) k⟩

/-- The two stores of a point's last chunk, the later first. -/
def lastPieces : List (View.Piece (Elt Ideal) S2x512x128 .f32) :=
  [carried x0 x1 x3 x5 x6 X 1 (by decide) 4, carried x0 x1 x3 x5 x6 X 0 (by decide) 4]

/-- Those of the chunks before. -/
def firstPieces : List (View.Piece (Elt Ideal) S2x512x128 .f32) :=
  [carried x0 x1 x3 x5 x6 X 1 (by decide) 3, carried x0 x1 x3 x5 x6 X 0 (by decide) 3,
    carried x0 x1 x3 x5 x6 X 1 (by decide) 2, carried x0 x1 x3 x5 x6 X 0 (by decide) 2,
    carried x0 x1 x3 x5 x6 X 1 (by decide) 1, carried x0 x1 x3 x5 x6 X 0 (by decide) 1]

end

theorem sout_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x2x512x128 .f32) (harg5 : arg5.IsWhole) (arg6 : Memref sig .tc .vmem S4x2x256x256 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S2x512x128 .f32) (harg12 : arg12.IsWhole) (hc0 : ¬cond0_0 i)
    (x0 x1 x2 : Rows) (x3 : Lanes) (x4 : Vec Ideal S4x2x512x128 .f32) (x5 : Blocks) (x6 : Rows) (X : Carry) :
    sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 X
      = View.canon (lastPieces x0 x1 x3 x5 x6 X ++ firstPieces x0 x1 x3 x5 x6 X) := by
  frame_open
  simp (disch := decide) only [↓ View.readCov_skip, ↓ View.readCov_cons_toLoadRect, ↓ View.readCov_fill]
  frame_out
  rfl

/-- The first point starts from zeros. -/
abbrev zeros : Carry := k0_pay2 (F := Ideal)

theorem sout_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x2x512x128 .f32) (harg5 : arg5.IsWhole) (arg6 : Memref sig .tc .vmem S4x2x256x256 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S2x512x128 .f32) (harg12 : arg12.IsWhole) (hc0 : cond0_0 i)
    (x0 x1 x2 : Rows) (x3 : Lanes) (x4 : Vec Ideal S4x2x512x128 .f32) (x5 : Blocks) (x6 : Rows) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6
      = View.canon (lastPieces x0 x1 x3 x5 x6 zeros ++ (firstPieces x0 x1 x3 x5 x6 zeros
        ++ [⟨Rect.unit (s := S2x512x128) ![0, 0, 0] S2x512x128.size (by decide), zeros⟩])) := by
  frame_open
  simp (disch := decide) only [↓ View.readCov_skip, ↓ View.readCov_cons_toLoadRect, ↓ View.readCov_fill]
  frame_out
  rfl

/-- Group `g`'s part of the buffer that a point's stores fill: the last of them. -/
theorem slabV_canon (x0 x1 : Rows) (x3 : Lanes) (x5 : Blocks) (x6 : Rows) (X : Carry) (L : List (View.Piece (Elt Ideal) S2x512x128 .f32))
    (g : ℕ) (hg : g < 2) :
    slabV g hg (View.canon (lastPieces x0 x1 x3 x5 x6 X ++ L)) = slabAt x0 x1 x3 x5 x6 g hg (slabV g hg X) 4 := by
  have key : ∀ (a : Fin 2) (ha : a.val = g) (b : Fin 512) (d : Fin 128),
      slabAt x0 x1 x3 x5 x6 a.val a.isLt (slabV a.val a.isLt X) 4 (ix3 (0 : Fin 1) b d)
        = slabAt x0 x1 x3 x5 x6 g hg (slabV g hg X) 4 (ix3 (0 : Fin 1) b d) := by
    rintro a rfl b d; rfl
  let G : Carry := fun y => slabAt x0 x1 x3 x5 x6 (y 0).val (y 0).isLt (slabV (y 0).val (y 0).isLt X) 4 (ix3 (0 : Fin 1) (y 1) (y 2))
  have hG : ∀ (g' : ℕ) (hg' : g' < 2) (x : (Rect.unit (s := S2x512x128) ![g', 0, 0] S1x512x128.size (slab_in g' hg')).shape.Idx),
      (carried x0 x1 x3 x5 x6 X g' hg' 4).2 x = G ((carried x0 x1 x3 x5 x6 X g' hg' 4).1.emb x) := by
    intro g' hg' x
    have h : ∀ (g₁ : ℕ) (h₁ : g₁ < 2) (b : Fin 512) (d : Fin 128), g₁ = g' → b.val = (x 1).val → d.val = (x 2).val →
        slabAt x0 x1 x3 x5 x6 g' hg' (slabV g' hg' X) 4 x
          = slabAt x0 x1 x3 x5 x6 g₁ h₁ (slabV g₁ h₁ X) 4 (ix3 (0 : Fin 1) b d) := by
      intro g₁ h₁ b d e hb hd
      subst e
      refine congrArg _ (funext fun a => ?_)
      match a with
      | ⟨0, _⟩ => exact Fin.ext (by have := (x 0).isLt; show (x 0).val = 0; change (x 0).val < 1 at this; omega)
      | ⟨1, _⟩ => exact Fin.ext hb.symm
      | ⟨2, _⟩ => exact Fin.ext hd.symm
    refine h _ _ _ _ ?_ ?_ ?_
    · show g' + 1 * (x 0).val = g'
      have := (x 0).isLt; change (x 0).val < 1 at this; omega
    · show 0 + 1 * (x 1).val = _; omega
    · show 0 + 1 * (x 2).val = _; omega
  funext x
  rw [slabV, View.ld_apply, View.canon_append_of_piecesOf G L (lastPieces x0 x1 x3 x5 x6 X) ⟨hG 1 (by decide), hG 0 (by decide), trivial⟩]
  · exact (hG g hg x).symm
  · exact View.cover_of_tiledL (lastPieces x0 x1 x3 x5 x6 X) S1x512x128.size (by sl_kernel_rfl) _

end Cert.Proof

end
-- ==== Proof.Stored.lean ====
/-
  What a grid point stores for the gradient in `v`: 32 blocks, one for each of its four chunks and eight heads.
-/
module

public import proofs.«01_k».proof.Proof.Carried
public import proofs.«01_k».proof.Proof.Gen.KernelIdeal.Value
public import Idealize.ShloMosaic.Lib.Pipeline.ReadBack
public import Idealize.ShloMosaic.Lib.Pipeline.ValueKit

@[expose] public section

set_option maxHeartbeats 4000000

noncomputable section

namespace Cert.Proof

open Idealize.ShloMosaic Idealize.ShloMosaic.TcCoe Idealize.ShloMosaic.Tactic Cert.KernelIdeal Cert.KernelIdeal.Gen

section

variable (x0 x1 : Rows) (x3 : Lanes) (x5 : Blocks) (x6 : Rows) (X : Carry)

/-- The store for head `j` of group `g` in chunk `n`. -/
def stored (n g j : ℕ) (hn : n < 4) (hg : g < 2) (hj : j < 4) : View.Piece (Elt Ideal) S256x1024 .f32 :=
  piece n g hn hg x0 x1 x3 x5 x6 (slabAt x0 x1 x3 x5 x6 g hg (slabV g hg X) (3 - n)) j hj

/-- A point's stores, the last first. -/
def storedPieces : List (View.Piece (Elt Ideal) S256x1024 .f32) :=
  [stored x0 x1 x3 x5 x6 X 0 1 3 (by decide) (by decide) (by decide), stored x0 x1 x3 x5 x6 X 0 1 2 (by decide) (by decide) (by decide), stored x0 x1 x3 x5 x6 X 0 1 1 (by decide) (by decide) (by decide), stored x0 x1 x3 x5 x6 X 0 1 0 (by decide) (by decide) (by decide),
    stored x0 x1 x3 x5 x6 X 0 0 3 (by decide) (by decide) (by decide), stored x0 x1 x3 x5 x6 X 0 0 2 (by decide) (by decide) (by decide), stored x0 x1 x3 x5 x6 X 0 0 1 (by decide) (by decide) (by decide), stored x0 x1 x3 x5 x6 X 0 0 0 (by decide) (by decide) (by decide),
    stored x0 x1 x3 x5 x6 X 1 1 3 (by decide) (by decide) (by decide), stored x0 x1 x3 x5 x6 X 1 1 2 (by decide) (by decide) (by decide), stored x0 x1 x3 x5 x6 X 1 1 1 (by decide) (by decide) (by decide), stored x0 x1 x3 x5 x6 X 1 1 0 (by decide) (by decide) (by decide),
    stored x0 x1 x3 x5 x6 X 1 0 3 (by decide) (by decide) (by decide), stored x0 x1 x3 x5 x6 X 1 0 2 (by decide) (by decide) (by decide), stored x0 x1 x3 x5 x6 X 1 0 1 (by decide) (by decide) (by decide), stored x0 x1 x3 x5 x6 X 1 0 0 (by decide) (by decide) (by decide),
    stored x0 x1 x3 x5 x6 X 2 1 3 (by decide) (by decide) (by decide), stored x0 x1 x3 x5 x6 X 2 1 2 (by decide) (by decide) (by decide), stored x0 x1 x3 x5 x6 X 2 1 1 (by decide) (by decide) (by decide), stored x0 x1 x3 x5 x6 X 2 1 0 (by decide) (by decide) (by decide),
    stored x0 x1 x3 x5 x6 X 2 0 3 (by decide) (by decide) (by decide), stored x0 x1 x3 x5 x6 X 2 0 2 (by decide) (by decide) (by decide), stored x0 x1 x3 x5 x6 X 2 0 1 (by decide) (by decide) (by decide), stored x0 x1 x3 x5 x6 X 2 0 0 (by decide) (by decide) (by decide),
    stored x0 x1 x3 x5 x6 X 3 1 3 (by decide) (by decide) (by decide), stored x0 x1 x3 x5 x6 X 3 1 2 (by decide) (by decide) (by decide), stored x0 x1 x3 x5 x6 X 3 1 1 (by decide) (by decide) (by decide), stored x0 x1 x3 x5 x6 X 3 1 0 (by decide) (by decide) (by decide),
    stored x0 x1 x3 x5 x6 X 3 0 3 (by decide) (by decide) (by decide), stored x0 x1 x3 x5 x6 X 3 0 2 (by decide) (by decide) (by decide), stored x0 x1 x3 x5 x6 X 3 0 1 (by decide) (by decide) (by decide), stored x0 x1 x3 x5 x6 X 3 0 0 (by decide) (by decide) (by decide)]

end

theorem out_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x2x512x128 .f32) (harg5 : arg5.IsWhole) (arg6 : Memref sig .tc .vmem S4x2x256x256 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S2x512x128 .f32) (harg12 : arg12.IsWhole) (hc0 : ¬cond0_0 i)
    (x0 x1 x2 : Rows) (x3 : Lanes) (x4 : Vec Ideal S4x2x512x128 .f32) (x5 : Blocks) (x6 : Rows) (X : Carry) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 X
      = View.canon (storedPieces x0 x1 x3 x5 x6 X) := by
  frame_open
  simp (disch := decide) only [↓ View.readCov_skip, ↓ View.readCov_cons_toLoadRect, ↓ View.readCov_fill]
  frame_out
  rfl

theorem out_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S4x2x512x128 .f32) (harg5 : arg5.IsWhole) (arg6 : Memref sig .tc .vmem S4x2x256x256 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x128 .f32) (harg11 : arg11.IsWhole) (arg12 : Memref sig .tc .vmem S2x512x128 .f32) (harg12 : arg12.IsWhole) (hc0 : cond0_0 i)
    (x0 x1 x2 : Rows) (x3 : Lanes) (x4 : Vec Ideal S4x2x512x128 .f32) (x5 : Blocks) (x6 : Rows) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6
      = View.canon (storedPieces x0 x1 x3 x5 x6 zeros) := by
  frame_open
  simp (disch := decide) only [↓ View.readCov_skip, ↓ View.readCov_cons_toLoadRect, ↓ View.readCov_fill]
  frame_out
  rfl

section

variable (x0 x1 : Rows) (x3 : Lanes) (x5 : Blocks) (x6 : Rows) (X : Carry)

/-- The stored gradient of head `j` of group `g` in chunk `n`. -/
def gradAt (n g j : ℕ) (hn : n < 4) (hg : g < 2) (hj : j < 4) (i : Fin 64) (e : Fin 128) : EReal :=
  gradV n g hn hg x0 x1 x3 x5 x6 (slabAt x0 x1 x3 x5 x6 g hg (slabV g hg X) (3 - n)) (ix2 (row ⟨j, hj⟩ i) e)

/-- The block a point leaves. -/
def gradBlock : Rows := fun y =>
  have h0 : (y 0).val < 256 := (y 0).isLt
  have h1 : (y 1).val < 1024 := (y 1).isLt
  gradAt x0 x1 x3 x5 x6 X ((y 0).val / 64) ((y 1).val / 512) ((y 1).val % 512 / 128) (by omega) (by omega) (by omega)
    ⟨(y 0).val % 64, by omega⟩ ⟨(y 1).val % 128, by omega⟩

/-- One head's part of four stacked heads. -/
theorem slice_at (D : V256) (j : ℕ) (hj : j < 4) (x : S64x128.Idx) (i : Fin 64) (e : Fin 128) (hi : i.val = (x 0).val) (he : e.val = (x 1).val) :
    extractStridedSlice S64x128 ![64 * j, 0] D (head_in j hj) x = D (ix2 (row ⟨j, hj⟩ i) e) := by
  refine congrArg D (funext fun a => ?_)
  match a with
  | ⟨0, _⟩ => exact Fin.ext (by show 64 * j + (x 0).val = 64 * j + i.val; omega)
  | ⟨1, _⟩ => exact Fin.ext (by show 0 + (x 1).val = e.val; omega)

theorem stored_value (n g j : ℕ) (hn : n < 4) (hg : g < 2) (hj : j < 4) (x : S64x128.Idx) (n' g' j' : ℕ) (hn' : n' < 4) (hg' : g' < 2)
    (hj' : j' < 4) (i : Fin 64) (e : Fin 128) (e1 : n' = n) (e2 : g' = g) (e3 : j' = j) (hi : i.val = (x 0).val) (he : e.val = (x 1).val) :
    (stored x0 x1 x3 x5 x6 X n g j hn hg hj).2 x = gradAt x0 x1 x3 x5 x6 X n' g' j' hn' hg' hj' i e := by
  subst e1 e2 e3
  exact slice_at (gradV n' g' hn hg x0 x1 x3 x5 x6 (slabAt x0 x1 x3 x5 x6 g' hg (slabV g' hg X) (3 - n'))) j' hj x i e hi he

theorem tile_row (n g j : ℕ) (hn : n < 4) (hg : g < 2) (hj : j < 4) (x : S64x128.Idx) :
    (((Rect.unit (s := S256x1024) ![64 * n, 512 * g + 128 * j] S64x128.size (tile_in n g j hn hg hj)).emb x) 0).val = 64 * n + (x 0).val := by
  show 64 * n + 1 * (x 0).val = _
  omega

theorem tile_col (n g j : ℕ) (hn : n < 4) (hg : g < 2) (hj : j < 4) (x : S64x128.Idx) :
    (((Rect.unit (s := S256x1024) ![64 * n, 512 * g + 128 * j] S64x128.size (tile_in n g j hn hg hj)).emb x) 1).val
      = 512 * g + 128 * j + (x 1).val := by
  show 512 * g + 128 * j + 1 * (x 1).val = _
  omega

theorem stored_at (n g j : ℕ) (hn : n < 4) (hg : g < 2) (hj : j < 4) (x : S64x128.Idx) :
    (stored x0 x1 x3 x5 x6 X n g j hn hg hj).2 x
      = gradBlock x0 x1 x3 x5 x6 X ((Rect.unit (s := S256x1024) ![64 * n, 512 * g + 128 * j] S64x128.size (tile_in n g j hn hg hj)).emb x) := by
  have b0 : (x 0).val < 64 := (x 0).isLt
  have b1 : (x 1).val < 128 := (x 1).isLt
  have r0 := tile_row n g j hn hg hj x
  have r1 := tile_col n g j hn hg hj x
  generalize (Rect.unit (s := S256x1024) ![64 * n, 512 * g + 128 * j] S64x128.size (tile_in n g j hn hg hj)).emb x = y at r0 r1 ⊢
  unfold gradBlock
  apply stored_value
  · omega
  · omega
  · omega
  · show (y 0).val % 64 = _; omega
  · show (y 1).val % 128 = _; omega

theorem storedPieces_of : View.PiecesOf (gradBlock x0 x1 x3 x5 x6 X) (storedPieces x0 x1 x3 x5 x6 X) := by
  unfold storedPieces
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals exact stored_at x0 x1 x3 x5 x6 X _ _ _ _ _ _

theorem storedPieces_eq : View.canon (storedPieces x0 x1 x3 x5 x6 X) = gradBlock x0 x1 x3 x5 x6 X :=
  funext fun y => View.canon_apply_of_pieces _ _ (storedPieces_of x0 x1 x3 x5 x6 X).mem y
    (View.cover_of_tiledL (storedPieces x0 x1 x3 x5 x6 X) S64x128.size (by sl_kernel_rfl) y)

end

end Cert.Proof

end
-- ==== Proof.Chain.lean ====
/-
  The kernel's result: along the grid the carried buffer holds the chain of state gradients, and every point leaves its
  block of the values' gradient.
-/
module

public import proofs.«01_k».proof.Proof.Blocks
public import proofs.«01_k».proof.Proof.Stored

@[expose] public section

set_option maxRecDepth 16384

noncomputable section

namespace Cert.Proof

open Idealize.ShloMosaic Idealize.ShloMosaic.TcCoe Idealize.ShloMosaic.Tactic Cert.KernelIdeal Cert.KernelIdeal.Gen Cert.Proof.Entry

variable (m : (ℓ : Loc nD τ sig) → Buf (Elt Ideal) ℓ) (c : Dev nD)

section

variable {q k : Heads} {g b : Gate} {o : Heads}

theorem zeros_at (a : Fin 2) (r : Fin 512) (e : Fin 128) : zeros (ix3 a r e) = 0 := by
  unfold zeros k0_pay2
  pointwise []

theorem zeros_hold (g' : ℕ) (hg : g' < 2) : Holds q k g b o g' hg 0 (slabV g' hg zeros) := fun j d e => by
  have key : ∀ x : S2x512x128.Idx, zeros x = 0 := fun x => by
    rw [show x = ix3 (x 0) (x 1) (x 2) from by funext a; match a with | ⟨0, _⟩ => rfl | ⟨1, _⟩ => rfl | ⟨2, _⟩ => rfl]
    exact zeros_at _ _ _
  exact key _

variable (R : Real q k g b o)
  (hq : m (c, Proc.devRef .tc main_arg0) = q) (hk : m (c, Proc.devRef .tc main_arg1) = k)
  (hg : m (c, Proc.devRef .tc main_arg3) = g) (hb : m (c, Proc.devRef .tc main_arg4) = b)
  (ho : m (c, Proc.devRef .tc main_arg6) = o)
include R hq hk hg hb ho

/-- After point `t` the carried buffer holds the state gradients of step `4 (t + 1)`. -/
theorem carried_holds (g' : ℕ) (hg' : g' < 2) : ∀ (t : ℕ) (ht : t < cfg0.N),
    Holds q k g b o g' hg' (4 * t + 4) (slabV g' hg' (outsAt0 m c t ht).2.2.2.2)
  | 0, ht => by
    rw [outsAt0_A m c ⟨0, ht⟩ rfl]
    dsimp only
    rw [sout_A, slabV_canon]
    exact slabAt_holds R (loads m c ⟨0, ht⟩ R hq hk hg hb ho) g' hg' _ (zeros_hold g' hg') 4 le_rfl
  | t + 1, ht => by
    have h16 : t + 1 < 16 := ht
    rw [outsAt0_B m c ⟨t + 1, ht⟩ (by show ¬ (t + 1) % 16 = 0; omega)]
    dsimp only
    rw [sout_B, slabV_canon]
    exact slabAt_holds R (loads m c ⟨t + 1, ht⟩ R hq hk hg hb ho) g' hg' _ (carried_holds g' hg' t (by omega)) 4 le_rfl

/-- What point `t` writes back: its chunks' values' gradients. -/
theorem block_at (t : Fin cfg0.N) :
    ∃ X : Carry, (outsAt0 m c t.val t.isLt).2.2.1 = gradBlock (iblk m c 0 t) (iblk m c 1 t) (iblk m c 3 t) (iblk m c 5 t) (iblk m c 6 t) X
      ∧ ∀ (n g' j : ℕ) (hn : n < 4) (hg' : g' < 2) (hj : j < 4) (i : Fin 64) (e : Fin 128),
        gradAt (iblk m c 0 t) (iblk m c 1 t) (iblk m c 3 t) (iblk m c 5 t) (iblk m c 6 t) X n g' j hn hg' hj i e
          = DV q k g b o (head ⟨g', hg'⟩ ⟨j, hj⟩) (step t n) i e := by
  have h16 := lt16 t
  by_cases h0 : t.val % 16 = 0
  · have e0 : t.val = 0 := by omega
    refine ⟨zeros, ?_, fun n g' j hn hg' hj i e => ?_⟩
    · rw [outsAt0_A m c t h0]
      dsimp only
      rw [out_A, storedPieces_eq]
    · refine grad_holds R (loads m c t R hq hk hg hb ho) n hn g' hg' _ ?_ ⟨j, hj⟩ i e
      rw [e0]
      exact zeros_hold g' hg'
  · refine ⟨(outsAt0 m c (t.val - 1) (Nat.lt_of_le_of_lt (Nat.sub_le _ _) t.isLt)).2.2.2.2, ?_, fun n g' j hn hg' hj i e => ?_⟩
    · rw [outsAt0_B m c t h0]
      dsimp only
      rw [out_B, storedPieces_eq]
    · refine grad_holds R (loads m c t R hq hk hg hb ho) n hn g' hg' _ ?_ ⟨j, hj⟩ i e
      have := carried_holds m c R hq hk hg hb ho g' hg' (t.val - 1) (Nat.lt_of_le_of_lt (Nat.sub_le _ _) t.isLt)
      rwa [show 4 * (t.val - 1) + 4 = 4 * t.val from by omega] at this

end

theorem gradBlock_at (x0 x1 : Rows) (x3 : Lanes) (x5 : Blocks) (x6 : Rows) (X : Carry) (p : Fin 256) (d : Fin 1024) :
    gradBlock x0 x1 x3 x5 x6 X (ix2 p d) = gradAt x0 x1 x3 x5 x6 X (p.val / 64) (d.val / 512) (d.val % 512 / 128) (by omega) (by omega)
      (by omega) ⟨p.val % 64, by omega⟩ ⟨d.val % 128, by omega⟩ := rfl

theorem emb9 (t : Fin cfg0.N) (p : Fin 256) (d : Fin 1024) :
    ((win0_9.blk t).view.emb (ix2 p d) : S4096x1024.Idx) = ix2 (srow t p) d := by
  funext a
  refine Fin.ext ?_
  match a with
  | ⟨0, _⟩ =>
    blk_simp [idx t]
    show (15 - t.val) * 256 + p.val = 256 * (15 - t.val) + p.val
    omega
  | ⟨1, _⟩ => blk_simp [idx t]

/-- The values' gradient as one array: row `64 a + i` is position `i` of chunk `a`, column `128 h + e` coordinate `e` of head `h`. -/
def target (q k : Heads) (g b : Gate) (o : Heads) : FVec Ideal S4096x1024 .f32 := fun y =>
  have h0 : (y 0).val < 4096 := (y 0).isLt
  have h1 : (y 1).val < 1024 := (y 1).isLt
  DV q k g b o ⟨(y 1).val / 128, by omega⟩ (63 - (y 0).val / 64) ⟨(y 0).val % 64, by omega⟩ ⟨(y 1).val % 128, by omega⟩

section

variable {q k : Heads} {g b : Gate} {o : Heads} (R : Real q k g b o)
  (hq : m (c, Proc.devRef .tc main_arg0) = q) (hk : m (c, Proc.devRef .tc main_arg1) = k)
  (hg : m (c, Proc.devRef .tc main_arg3) = g) (hb : m (c, Proc.devRef .tc main_arg4) = b)
  (ho : m (c, Proc.devRef .tc main_arg6) = o)
include R hq hk hg hb ho

theorem block_target (t : Fin cfg0.N) (p : Fin 256) (d : Fin 1024) :
    (outsAt0 m c t.val t.isLt).2.2.1 (ix2 p d) = target q k g b o (ix2 (srow t p) d) := by
  obtain ⟨X, hX, hv⟩ := block_at m c R hq hk hg hb ho t
  have h16 := lt16 t
  rw [hX, gradBlock_at, hv]
  show _ = DV q k g b o ⟨d.val / 128, _⟩ (63 - (256 * (15 - t.val) + p.val) / 64) ⟨(256 * (15 - t.val) + p.val) % 64, _⟩ ⟨d.val % 128, _⟩
  have e1 : head ⟨d.val / 512, by omega⟩ ⟨d.val % 512 / 128, by omega⟩ = (⟨d.val / 128, by omega⟩ : Fin 8) :=
    Fin.ext (by show 4 * (d.val / 512) + d.val % 512 / 128 = d.val / 128; omega)
  have e2 : step t (p.val / 64) = 63 - (256 * (15 - t.val) + p.val) / 64 := by unfold step; omega
  have e3 : (⟨p.val % 64, by omega⟩ : Fin 64) = ⟨(256 * (15 - t.val) + p.val) % 64, by omega⟩ := Fin.ext (by
    show p.val % 64 = (256 * (15 - t.val) + p.val) % 64; omega)
  rw [e1, e2]
  exact congrArg (fun i => DV q k g b o _ _ i _) e3

/-- The kernel's result is the values' gradient. -/
theorem kernel_result : (dats m 0 c).arrAt 9 cfg0.N = target q k g b o := by
  refine (dats m 0 c).arrAt_eq_of_covers 9 _ (by decide +kernel) fun t hf y => ?_
  blk_simp
  rw [after0_9]
  have key : ∀ p d, (outsAt0 m c t.val t.isLt).2.2.1 (ix2 p d) = target q k g b o ((win0_9.blk t).view.emb (ix2 p d)) := fun p d => by
    rw [block_target m c R hq hk hg hb ho, emb9]
  have e : y = ix2 (y 0) (y 1) := by funext a; match a with | ⟨0, _⟩ => rfl | ⟨1, _⟩ => rfl
  rw [e]
  exact key _ _

end

end Cert.Proof

end
-- ==== Proof.Loop.lean ====
/-
  The reference's loop: before step `t` it holds the chain's state gradient, and the gradients of the new values of the
  chunks taken in so far.
-/
module

public import proofs.«01_k».proof.Proof.Finite
public import proofs.«01_k».proof.Proof.Gen.ReferenceIdeal.Run
public import Idealize.ShloMosaic.Lib.DynamicIndex
public import Idealize.ShloMosaic.Lib.Pipeline.Value

@[expose] public section

noncomputable section

namespace Cert.Proof

open Idealize.ShloMosaic Idealize.ShloMosaic.TcCoe Cert.ReferenceIdeal Cert.ReferenceIdeal.Gen Cert.ReferenceIdeal.Value

abbrev RefVal := Valuation τ sig (Elt Ideal)

/-- What the loop's buffers hold before step `t`. -/
structure Inv (q k : Heads) (g b : Gate) (o : Heads) (t : ℕ) (V : RefVal) : Prop where
  ct : ∀ n h i e, (V (Proc.devRef .tc main_v89_0) : FVec Ideal S64x1x8x64x128 .f32) (ix5 n (0 : Fin 1) h i e) = hd o n h i e
  egl : ∀ n h, (V (Proc.devRef .tc main_v89_1) : FVec Ideal S64x1x8x1x1 .f32) (ix5 n (0 : Fin 1) h (0 : Fin 1) (0 : Fin 1)) = Ideal.exp (gsum g n h 63)
  kd : ∀ n h i d, (V (Proc.devRef .tc main_v89_2) : FVec Ideal S64x1x8x64x128 .f32) (ix5 n (0 : Fin 1) h i d) = Head.kdec (gsum g n h) (hd k n h) i d
  w : ∀ n h i d, (V (Proc.devRef .tc main_v89_3) : FVec Ideal S64x1x8x64x128 .f32) (ix5 n (0 : Fin 1) h i d)
    = Head.w (gsum g n h) (hd k n h) (hb b n h) (ht k g b n h) i d
  qd : ∀ n h i d, (V (Proc.devRef .tc main_v89_4) : FVec Ideal S64x1x8x64x128 .f32) (ix5 n (0 : Fin 1) h i d) = Head.qdec (gsum g n h) (hq q n h) i d
  attn : ∀ n h i r, (V (Proc.devRef .tc main_v89_5) : FVec Ideal S64x1x8x64x64 .f32) (ix5 n (0 : Fin 1) h i r)
    = Head.score (gsum g n h) (hq q n h) (hd k n h) i r
  ctr : (V (Proc.devRef .tc main_v89_6) : IVec S_ 32) = fun _ => BitVec.ofNat 32 t
  ds : ∀ h d e, (V (Proc.devRef .tc main_v89_7) : FVec Ideal S1x8x128x128 .f32) (ix4 (0 : Fin 1) h d e) = DS q k g b o h t d e
  dn : ∀ s < t, ∀ h i e, (V (Proc.devRef .tc main_v89_8) : FVec Ideal S64x1x8x64x128 .f32) (ix5 (back s) (0 : Fin 1) h i e) = DN q k g b o h s i e

section

variable {q k : Heads} {g b : Gate} {o : Heads} {t : ℕ} {V : RefVal}

theorem start_at (hc : (V (Proc.devRef .tc main_v89_6) : IVec S_ 32) = fun _ => BitVec.ofNat 32 t) (ht : t < 64) (a : Fin 5) :
    (((![res_main_while0b_v99 V, constantI S_ 32 0#32, constantI S_ 32 0#32, constantI S_ 32 0#32, constantI S_ 32 0#32] : Fin 5 → (⟨S_, .i32⟩ : BufTy).Contents (Elt Ideal))) a (Shape.Idx.first h_S_)).toInt
      = ((![63 - t, 0, 0, 0, 0] : Fin 5 → ℕ) a : ℤ) := by
  match a with
  | ⟨0, _⟩ =>
    show (IntOp.subi (IntOp.subi 64#32 ((V (Proc.devRef .tc main_v89_6) : IVec S_ 32) (Shape.Idx.first h_S_))) 1#32).toInt = ((63 - t : ℕ) : ℤ)
    rw [hc]
    interval_cases t <;> rfl
  | ⟨1, _⟩ => rfl
  | ⟨2, _⟩ => rfl
  | ⟨3, _⟩ => rfl
  | ⟨4, _⟩ => rfl

theorem fits (n1 n2 n3 n4 : ℕ) : (⟨5, ![64, n1, n2, n3, n4]⟩ : Shape).Slices (![63 - t, 0, 0, 0, 0] : Fin 5 → ℕ) ⟨5, ![1, n1, n2, n3, n4]⟩ := by
  refine ⟨rfl, fun a => ?_⟩
  match a with
  | ⟨0, _⟩ => show 63 - t + 1 ≤ 64; omega
  | ⟨1, _⟩ => show 0 + n1 ≤ n1; omega
  | ⟨2, _⟩ => show 0 + n2 ≤ n2; omega
  | ⟨3, _⟩ => show 0 + n3 ≤ n3; omega
  | ⟨4, _⟩ => show 0 + n4 ≤ n4; omega

theorem slice128 (x : FVec Ideal S64x1x8x64x128 .f32) (start : Fin 5 → ℤ) (hs : ∀ a, start a = ((![63 - t, 0, 0, 0, 0] : Fin 5 → ℕ) a : ℤ))
    (h : Fin 8) (i : Fin 64) (e : Fin 128) :
    shapeCast S1x8x64x128 (Host.dynamicSlice S1x1x8x64x128 x start sliceFits_S64x1x8x64x128_S1x1x8x64x128)
      shapeCasts_S1x1x8x64x128_S1x8x64x128 (ix4 (0 : Fin 1) h i e) = x (ix5 (back t) (0 : Fin 1) h i e) := by
  rw [Host.dynamicSlice_eq_extractStridedSlice _ x start ![63 - t, 0, 0, 0, 0] _ (fits 1 8 64 128) hs]
  pointwise []
  rfl

theorem slice64 (x : FVec Ideal S64x1x8x64x64 .f32) (start : Fin 5 → ℤ) (hs : ∀ a, start a = ((![63 - t, 0, 0, 0, 0] : Fin 5 → ℕ) a : ℤ))
    (h : Fin 8) (i r : Fin 64) :
    shapeCast S1x8x64x64 (Host.dynamicSlice S1x1x8x64x64 x start sliceFits_S64x1x8x64x64_S1x1x8x64x64)
      shapeCasts_S1x1x8x64x64_S1x8x64x64 (ix4 (0 : Fin 1) h i r) = x (ix5 (back t) (0 : Fin 1) h i r) := by
  rw [Host.dynamicSlice_eq_extractStridedSlice _ x start ![63 - t, 0, 0, 0, 0] _ (fits 1 8 64 64) hs]
  pointwise []
  rfl

theorem slice1 (x : FVec Ideal S64x1x8x1x1 .f32) (start : Fin 5 → ℤ) (hs : ∀ a, start a = ((![63 - t, 0, 0, 0, 0] : Fin 5 → ℕ) a : ℤ)) (h : Fin 8) :
    shapeCast S1x8x1x1 (Host.dynamicSlice S1x1x8x1x1 x start sliceFits_S64x1x8x1x1_S1x1x8x1x1)
      shapeCasts_S1x1x8x1x1_S1x8x1x1 (ix4 (0 : Fin 1) h (0 : Fin 1) (0 : Fin 1)) = x (ix5 (back t) (0 : Fin 1) h (0 : Fin 1) (0 : Fin 1)) := by
  rw [Host.dynamicSlice_eq_extractStridedSlice _ x start ![63 - t, 0, 0, 0, 0] _ (fits 1 8 1 1) hs]
  pointwise []
  rfl

variable (I : Inv q k g b o t V) (ht : t < 64)
include I ht

theorem ct_at (h : Fin 8) (i : Fin 64) (e : Fin 128) :
    (res_main_while0b_v100 V : FVec Ideal S1x8x64x128 .f32) (ix4 (0 : Fin 1) h i e) = hd o (back t) h i e := by
  unfold res_main_while0b_v100
  exact (slice128 _ _ (start_at I.ctr ht) h i e).trans (I.ct _ h i e)

theorem dn_at (h : Fin 8) (i : Fin 64) (e : Fin 128) :
    (res_main_while0b_v112 V : FVec Ideal S1x8x64x128 .f32) (ix4 (0 : Fin 1) h i e) = DN q k g b o h t i e := by
  unfold res_main_while0b_v112
  have hkd := fun d => (slice128 (V (Proc.devRef .tc main_v89_2)) _ (start_at I.ctr ht) h i d).trans (I.kd _ h i d)
  have hat := fun r => (slice64 (V (Proc.devRef .tc main_v89_5)) _ (start_at I.ctr ht) h r i).trans (I.attn _ h r i)
  have hct := fun r => ct_at I ht h r e
  have hds := fun d => I.ds h d e
  generalize res_main_while0b_v100 V = ct at *
  generalize shapeCast S1x8x64x128 (Host.dynamicSlice S1x1x8x64x128 (V (Proc.devRef .tc main_v89_2)) _ _) _ = kd at *
  generalize shapeCast S1x8x64x64 (Host.dynamicSlice S1x1x8x64x64 (V (Proc.devRef .tc main_v89_5)) _ _) _ = at' at *
  generalize V (Proc.devRef .tc main_v89_7) = ds at *
  pointwise []
  simp only [hds, hkd, hct, hat]
  rw [add_comm]
  exact congrArg₂ (· + ·) (Finset.sum_congr rfl fun r _ => mul_comm _ _) (Finset.sum_congr rfl fun d _ => mul_comm _ _)

theorem ds_at (R : Real q k g b o) (h : Fin 8) (d e : Fin 128) :
    (step_main_v89_7 V : FVec Ideal S1x8x128x128 .f32) (ix4 (0 : Fin 1) h d e) = DS q k g b o h (t + 1) d e := by
  rw [DS_succ R]
  unfold step_main_v89_7
  have heg := (slice1 (V (Proc.devRef .tc main_v89_1)) _ (start_at I.ctr ht) h).trans (I.egl _ h)
  have hqd := fun i => (slice128 (V (Proc.devRef .tc main_v89_4)) _ (start_at I.ctr ht) h i d).trans (I.qd _ h i d)
  have hw := fun i => (slice128 (V (Proc.devRef .tc main_v89_3)) _ (start_at I.ctr ht) h i d).trans (I.w _ h i d)
  have hct := fun r => ct_at I ht h r e
  have hds := I.ds h d e
  have hdn := fun i => dn_at I ht h i e
  generalize res_main_while0b_v100 V = ct at *
  generalize res_main_while0b_v112 V = dn at *
  generalize shapeCast S1x8x1x1 (Host.dynamicSlice S1x1x8x1x1 (V (Proc.devRef .tc main_v89_1)) _ _) _ = eg at *
  generalize shapeCast S1x8x64x128 (Host.dynamicSlice S1x1x8x64x128 (V (Proc.devRef .tc main_v89_4)) _ _) _ = qd at *
  generalize shapeCast S1x8x64x128 (Host.dynamicSlice S1x1x8x64x128 (V (Proc.devRef .tc main_v89_3)) _ _) _ = w at *
  generalize V (Proc.devRef .tc main_v89_7) = ds at *
  pointwise [id]
  simp only [hds, heg, hct, hqd, hdn, hw]

theorem out_at {s : ℕ} (hs : s < t + 1) (h : Fin 8) (i : Fin 64) (e : Fin 128) :
    (step_main_v89_8 V : FVec Ideal S64x1x8x64x128 .f32) (ix5 (back s) (0 : Fin 1) h i e) = DN q k g b o h s i e := by
  unfold step_main_v89_8
  have hdn := fun h i e => dn_at I ht h i e
  have hout := I.dn
  generalize res_main_while0b_v112 V = dn at *
  rw [Host.dynamicUpdateSlice_eq_updateSlice _ _ _ _ (![63 - t, 0, 0, 0, 0] : Fin 5 → ℕ) (fun a => by
    rw [start_at I.ctr ht]
    have := (fits (t := t) 1 8 64 128).2 a
    have e : (((S64x1x8x64x128.size a - S1x1x8x64x128.size (a.cast rfl) : ℕ)) : ℤ) = ((![63, 0, 0, 0, 0] : Fin 5 → ℕ) a : ℤ) := by
      match a with
      | ⟨0, _⟩ => rfl
      | ⟨1, _⟩ => rfl
      | ⟨2, _⟩ => rfl
      | ⟨3, _⟩ => rfl
      | ⟨4, _⟩ => rfl
    have e' : (![63 - t, 0, 0, 0, 0] : Fin 5 → ℕ) a ≤ (![63, 0, 0, 0, 0] : Fin 5 → ℕ) a := by
      match a with
      | ⟨0, _⟩ => exact Nat.sub_le 63 t
      | ⟨1, _⟩ => exact Nat.le_refl _
      | ⟨2, _⟩ => exact Nat.le_refl _
      | ⟨3, _⟩ => exact Nat.le_refl _
      | ⟨4, _⟩ => exact Nat.le_refl _
    refine (congrArg (fun z : ℤ => (min (max ((![63 - t, 0, 0, 0, 0] : Fin 5 → ℕ) a : ℤ) 0) z).toNat) e).trans ?_
    show (min (max ((![63 - t, 0, 0, 0, 0] : Fin 5 → ℕ) a : ℤ) 0) ((![63, 0, 0, 0, 0] : Fin 5 → ℕ) a : ℤ)).toNat = _
    omega) (fits 1 8 64 128), id]
  unfold updateSlice
  by_cases hst : s = t
  · subst hst
    rw [dif_pos (fun a => by
      match a with
      | ⟨0, _⟩ => exact ⟨Nat.le_refl _, Nat.lt_succ_self _⟩
      | ⟨1, _⟩ => exact ⟨Nat.zero_le _, Nat.lt_succ_self _⟩
      | ⟨2, _⟩ => exact ⟨Nat.zero_le _, by show h.val < 0 + 8; omega⟩
      | ⟨3, _⟩ => exact ⟨Nat.zero_le _, by show i.val < 0 + 64; omega⟩
      | ⟨4, _⟩ => exact ⟨Nat.zero_le _, by show e.val < 0 + 128; omega⟩), ← hdn h i e]
    refine congrArg dn (funext fun a => Fin.ext ?_)
    match a with
    | ⟨0, _⟩ => rfl
    | ⟨1, _⟩ => rfl
    | ⟨2, _⟩ => rfl
    | ⟨3, _⟩ => rfl
  · rw [dif_neg (fun hin => by
      have h0 : 63 - t ≤ 63 - s ∧ 63 - s < 63 - t + 1 := hin (0 : Fin 5)
      omega)]
    exact hout s (by omega) h i e

theorem Inv.step (R : Real q k g b o) : Inv q k g b o (t + 1) (STEP V) where
  ct n h i e := by rw [STEP_main_v89_0]; exact I.ct n h i e
  egl n h := by rw [STEP_main_v89_1]; exact I.egl n h
  kd n h i e := by rw [STEP_main_v89_2]; exact I.kd n h i e
  w n h i e := by rw [STEP_main_v89_3]; exact I.w n h i e
  qd n h i e := by rw [STEP_main_v89_4]; exact I.qd n h i e
  attn n h i e := by rw [STEP_main_v89_5]; exact I.attn n h i e
  ctr := by
    rw [STEP_main_v89_6]
    unfold step_main_v89_6
    have := I.ctr
    generalize V (Proc.devRef .tc main_v89_6) = c at *
    subst this
    funext j
    exact BitVec.ofNat_add_ofNat (n := 32) t 1
  ds h d e := by rw [STEP_main_v89_7]; exact ds_at I ht R h d e
  dn s hs h i e := by rw [STEP_main_v89_8]; exact out_at I ht hs h i e

end

/-- After `t` steps, where the buffers held the arrays and a zero gradient before. -/
theorem Inv.iterate {q k : Heads} {g b : Gate} {o : Heads} (R : Real q k g b o) {V : RefVal} (I : Inv q k g b o 0 V) :
    ∀ t ≤ 64, Inv q k g b o t (STEP^[t] V)
  | 0, _ => I
  | t + 1, ht => by
    rw [Function.iterate_succ_apply']
    exact (Inv.iterate R I t (by omega)).step (by omega) R

end Cert.Proof

end
-- ==== Proof.Reference.lean ====
/-
  The reference's arrays at the loop's entry and its result.
-/
module

public import proofs.«01_k».proof.Proof.Loop

@[expose] public section

noncomputable section

namespace Cert.Proof

open Idealize.ShloMosaic Idealize.ShloMosaic.TcCoe Idealize.ShloMosaic.StableHlo Cert.ReferenceIdeal Cert.ReferenceIdeal.Gen Cert.ReferenceIdeal.Value

/-! ## Before the inverses -/

/-- The contents before the inverses are taken. -/
def early (V : RefVal) : RefVal :=
  after hostOps0_9 (after hostOps0_8 (after hostOps0_7 (after hostOps0_6 (after hostOps0_5 (after hostOps0_4 (after hostOps0_3
    (after hostOps0_2 (after hostOps0_1 (after hostOps0 V)))))))))

/-- The contents one stretch earlier. -/
def early' (V : RefVal) : RefVal :=
  after hostOps0_8 (after hostOps0_7 (after hostOps0_6 (after hostOps0_5 (after hostOps0_4 (after hostOps0_3
    (after hostOps0_2 (after hostOps0_1 (after hostOps0 V))))))))

/-- The products of the rows of two chunked arrays. -/
abbrev dotV (x y : Chunk) : ChunkSq := Host.dotGeneral dot_S1x8x64x64x128_S1x8x64x64x128_S1x8x64x64x64_4_4_3_3_012_012 none x y
abbrev selectV (c : IVec S64x64 1) (x : ChunkSq) (z : FVec Ideal S_ .f32) : ChunkSq :=
  select (broadcastInDim S1x8x64x64x64 ![3, 4] bcast_S64x64_S1x8x64x64x64_3_4 c) x (broadcastInDim S1x8x64x64x64 ![] bcast_S_S1x8x64x64x64 (id z))
abbrev applyV (x : ChunkSq) (y : Chunk) : Chunk := Host.dotGeneral dot_S1x8x64x64x64_S1x8x64x64x128_S1x8x64x64x128_4_3_3_4_012_012 none x y
abbrev whole (x : ChunkG) : FVec Ideal S1x8x64 .f32 :=
  shapeCast S1x8x64 (extractStridedSlice S1x8x64x1 ![0, 0, 0, 63] x slices_S1x8x64x64_S1x8x64x1_0_0_0_63) shapeCasts_S1x8x64x1_S1x8x64
/-- The chunk axis in front. -/
abbrev frontV (x : Chunk) : FVec Ideal S64x1x8x64x128 .f32 := transpose S64x1x8x64x128 [2, 0, 1, 3, 4] x transposes_S1x8x64x64x128_S64x1x8x64x128_2_0_1_3_4
abbrev frontSq (x : ChunkSq) : FVec Ideal S64x1x8x64x64 .f32 := transpose S64x1x8x64x64 [2, 0, 1, 3, 4] x transposes_S1x8x64x64x64_S64x1x8x64x64_2_0_1_3_4
abbrev frontOne (x : FVec Ideal S1x8x64x1x1 .f32) : FVec Ideal S64x1x8x1x1 .f32 :=
  transpose S64x1x8x1x1 [2, 0, 1, 3, 4] x transposes_S1x8x64x1x1_S64x1x8x1x1_2_0_1_3_4
abbrev decOf (x : ChunkG) : ChunkG :=
  subf (broadcastInDim S1x8x64x64 ![0, 1, 2, 3] bcast_S1x8x64x1_S1x8x64x64_0_1_2_3 (broadcastInDim S1x8x64x1 ![0, 1, 2] bcast_S1x8x64_S1x8x64x1_0_1_2 (whole x))) x
abbrev resultV (x : FVec Ideal S64x1x8x64x128 .f32) (y : ChunkSq) (z : FVec Ideal S1x8x64x64x1 .f32) : FVec Ideal S4096x1024 .f32 :=
  shapeCast S4096x1024 (shapeCast S1x4096x8x128 (transpose S1x64x64x8x128 [0, 2, 3, 1, 4] (mulf
      (transpose S1x8x64x64x128 [0, 1, 2, 4, 3] (Host.dotGeneral (F := Ideal) (φ₁ := .f32) (φ₂ := .f32) dot_S1x8x64x64x128_S1x8x64x64x64_S1x8x64x128x64_3_3_4_4_012_012 none
        (transpose S1x8x64x64x128 [1, 2, 0, 3, 4] x transposes_S64x1x8x64x128_S1x8x64x64x128_1_2_0_3_4) y)
        transposes_S1x8x64x128x64_S1x8x64x64x128_0_1_2_4_3)
      (broadcastInDim S1x8x64x64x128 ![0, 1, 2, 3, 4] bcast_S1x8x64x64x1_S1x8x64x64x128_0_1_2_3_4 z))
      transposes_S1x8x64x64x128_S1x64x64x8x128_0_2_3_1_4) shapeCasts_S1x64x64x8x128_S1x4096x8x128) shapeCasts_S1x4096x8x128_S4096x1024

/-- The stretch that builds a lower mask, its shift a parameter. -/
abbrev strictOps (z : BitVec 32) : List (HloOp τ sig (Elt Ideal)) :=
  [ TRef.nullary (.of main_call2_v0 : TRef sig ⟨S64x64, .i32⟩) (iotaInDim S64x64 32 0),
    TRef.nullary (.of main_call2_c : TRef sig ⟨S_, .i32⟩) (constantI S_ 32 z),
    TRef.unary (.of main_call2_c : TRef sig ⟨S_, .i32⟩) (.of main_call2_v1 : TRef sig ⟨S64x64, .i32⟩) (broadcastInDim S64x64 ![] bcast_S_S64x64),
    TRef.binary (.of main_call2_v0 : TRef sig ⟨S64x64, .i32⟩) (.of main_call2_v1 : TRef sig ⟨S64x64, .i32⟩) (.of main_call2_v2 : TRef sig ⟨S64x64, .i32⟩) addi,
    TRef.nullary (.of main_call2_v3 : TRef sig ⟨S64x64, .i32⟩) (iotaInDim S64x64 32 1),
    TRef.binary (.of main_call2_v2 : TRef sig ⟨S64x64, .i32⟩) (.of main_call2_v3 : TRef sig ⟨S64x64, .i32⟩) (.of main_call2_v4 : TRef sig ⟨S64x64, .i1⟩) (cmpi .sge),
    TRef.nullary (.of main_call2_c_0 : TRef sig ⟨S_, .i1⟩) (constantI S_ 1 0#1),
    TRef.unary (.of main_call2_c_0 : TRef sig ⟨S_, .i1⟩) (.of main_call2_v5 : TRef sig ⟨S64x64, .i1⟩) (broadcastInDim S64x64 ![] bcast_S_S64x64),
    TRef.ternary (.of main_call2_v4 : TRef sig ⟨S64x64, .i1⟩) (.of main_v12 : TRef sig ⟨S64x64, .i1⟩) (.of main_call2_v5 : TRef sig ⟨S64x64, .i1⟩) (.of main_v13 : TRef sig ⟨S64x64, .i1⟩) select ]

theorem strictOps_eq : (hostOps0_5 : List (HloOp τ sig (Elt Ideal))) = strictOps 4294967295#32 := rfl

theorem strict_v13 (z : BitVec 32) (X : RefVal) : after (strictOps z) X (Proc.devRef .tc main_v13)
    = select (cmpi .sge (addi (iotaInDim S64x64 32 0) (broadcastInDim S64x64 ![] bcast_S_S64x64 (constantI S_ 32 z))) (iotaInDim S64x64 32 1))
      (X (Proc.devRef .tc main_v12) : IVec S64x64 1) (broadcastInDim S64x64 ![] bcast_S_S64x64 (constantI S_ 1 0#1)) := by
  after_reads_simp
  rfl

theorem lowerMask_eq (z : BitVec 32) :
    select (cmpi .sge (addi (iotaInDim S64x64 32 0) (broadcastInDim S64x64 ![] bcast_S_S64x64 (constantI S_ 32 z))) (iotaInDim S64x64 32 1))
      (broadcastInDim S64x64 ![] bcast_S_S64x64 (constantI S_ 1 1#1)) (broadcastInDim S64x64 ![] bcast_S_S64x64 (constantI S_ 1 0#1))
    = lowerMask z := rfl

theorem ones_v12 (X : RefVal) : after hostOps0_4 X (Proc.devRef .tc main_v12)
    = (broadcastInDim S64x64 ![] bcast_S_S64x64 (constantI S_ 1 1#1) : IVec S64x64 1) := by
  after_reads_simp

theorem masked_v23 (X : RefVal) : after hostOps0_9 X (Proc.devRef .tc main_v23)
    = selectV (X (Proc.devRef .tc main_v13)) (X (Proc.devRef .tc main_v22)) (X (Proc.devRef .tc main_cst_1)) := by
  after_reads_simp
  rfl

theorem frontV_at (x : Chunk) (n : Fin 64) (h : Fin 8) (i : Fin 64) (d : Fin 128) :
    frontV x (ix5 n (0 : Fin 1) h i d) = x (ix5 (0 : Fin 1) h n i d) := by
  pointwise []
theorem frontSq_at (x : ChunkSq) (n : Fin 64) (h : Fin 8) (i r : Fin 64) :
    frontSq x (ix5 n (0 : Fin 1) h i r) = x (ix5 (0 : Fin 1) h n i r) := by
  pointwise []
theorem frontOne_at (x : FVec Ideal S1x8x64x1x1 .f32) (n : Fin 64) (h : Fin 8) :
    frontOne x (ix5 n (0 : Fin 1) h (0 : Fin 1) (0 : Fin 1)) = x (ix5 (0 : Fin 1) h n (0 : Fin 1) (0 : Fin 1)) := by
  pointwise []

section

variable (V : RefVal)

abbrev argq : Heads := V (Proc.devRef .tc main_arg0)
abbrev argk : Heads := V (Proc.devRef .tc main_arg1)
abbrev argg : Gate := V (Proc.devRef .tc main_arg3)
abbrev argb : Gate := V (Proc.devRef .tc main_arg4)
abbrev argo : Heads := V (Proc.devRef .tc main_arg6)

theorem early_q : early V (Proc.devRef .tc main_arg0) = argq V := by
  unfold early
  after_reads_simp
theorem early_b : early V (Proc.devRef .tc main_arg4) = argb V := by
  unfold early
  after_reads_simp
theorem early_o : early V (Proc.devRef .tc main_arg6) = argo V := by
  unfold early
  after_reads_simp
theorem early_v1 : early V (Proc.devRef .tc main_v1) = chunksV (argk V) := by
  unfold early
  after_reads_simp
  rfl
theorem early_v4 : early V (Proc.devRef .tc main_v4) = cumV (argg V) := by
  unfold early
  after_reads_simp
  rfl
theorem early_v9 : early V (Proc.devRef .tc main_v9) = rowsV (chunksV (argk V)) (gatesV (argb V)) := by
  unfold early
  after_reads_simp
  rfl
theorem early_v11 : early V (Proc.devRef .tc main_v11) = lowerMask 0#32 := by
  unfold early
  after_reads_simp
  rfl
theorem early_v13 : early' V (Proc.devRef .tc main_v13) = lowerMask 4294967295#32 := by
  unfold early'
  rw [after_of_writes_sub hostOps0_8 _ hostOps0_8_writes (by decide), after_of_writes_sub hostOps0_7 _ hostOps0_7_writes (by decide),
    after_of_writes_sub hostOps0_6 _ hostOps0_6_writes (by decide), strictOps_eq, strict_v13, ones_v12]
  exact lowerMask_eq _
theorem early_cst : early' V (Proc.devRef .tc main_cst_1) = (constant S_ .f32 0x00000000#32 : FVec Ideal S_ .f32) := by
  unfold early'
  after_reads_simp
theorem early_v22 : early' V (Proc.devRef .tc main_v22)
    = mulf (dotV (rowsV (chunksV (argk V)) (gatesV (argb V))) (chunksV (argk V))) (decayV (argg V)) := by
  unfold early'
  after_reads_simp
  rfl
theorem early_v20 : early V (Proc.devRef .tc main_v20) = decayV (argg V) := by
  unfold early
  after_reads_simp
  rfl
theorem early_v23 : early V (Proc.devRef .tc main_v23) = lowerV (argk V) (argg V) (argb V) := by
  show after hostOps0_9 (early' V) (Proc.devRef .tc main_v23) = _
  rw [masked_v23, early_v13, early_v22, early_cst]
  rfl

end

/-! ## The inverses and the loop's arrays -/

section

variable (W : RefVal)

theorem inv_v48 : after hostOps0_10 W (Proc.devRef .tc main_v48) = invV (W (Proc.devRef .tc main_v23)) := by
  after_reads_simp
  rfl
theorem inv_v55 : after hostOps0_10 W (Proc.devRef .tc main_v55) = columnV (gatesV (argb W)) := by
  after_reads_simp
  rfl
theorem inv_v52 : after hostOps0_10 W (Proc.devRef .tc main_v52) = scaledV (argq W) := by
  after_reads_simp
  rfl
theorem inv_v60 : after hostOps0_10 W (Proc.devRef .tc main_v60)
    = applyV (invV (W (Proc.devRef .tc main_v23))) (rowsV (W (Proc.devRef .tc main_v9)) (Host.exp (W (Proc.devRef .tc main_v4) : ChunkG))) := by
  after_reads_simp
  rfl
theorem inv_v62 : after hostOps0_10 W (Proc.devRef .tc main_v62)
    = (mulf (dotV (scaledV (argq W)) (W (Proc.devRef .tc main_v1))) (W (Proc.devRef .tc main_v20)) : ChunkSq) := by
  after_reads_simp
  rfl
theorem inv_keep (r : Ref sig .tc) (h : r ∉ hostOps0_10_W) : after hostOps0_10 W (Proc.devRef .tc r) = W (Proc.devRef .tc r) :=
  after_of_writes_sub hostOps0_10 W hostOps0_10_writes h

/-- The contents at the loop's entry, from those after the inverses. -/
def late : RefVal := after hostOps0_12 (after hostOps0_11 W)

theorem late_v48 : late W (Proc.devRef .tc main_v48) = W (Proc.devRef .tc main_v48) := by
  unfold late
  after_reads_simp
theorem late_v55 : late W (Proc.devRef .tc main_v55) = W (Proc.devRef .tc main_v55) := by
  unfold late
  after_reads_simp
theorem late_ct : late W (Proc.devRef .tc main_v89_0)
    = transpose S64x1x8x64x128 [1, 0, 3, 2, 4] (shapeCast S1x64x64x8x128 (argo W) shapeCasts_S1x4096x8x128_S1x64x64x8x128)
      transposes_S1x64x64x8x128_S64x1x8x64x128_1_0_3_2_4 := by
  unfold late
  after_reads_simp
  rfl
theorem late_egl : late W (Proc.devRef .tc main_v89_1)
    = frontOne (broadcastInDim S1x8x64x1x1 ![0, 1, 2] bcast_S1x8x64_S1x8x64x1x1_0_1_2 (Host.exp (whole (W (Proc.devRef .tc main_v4))))) := by
  unfold late
  after_reads_simp
  rfl
theorem late_kd : late W (Proc.devRef .tc main_v89_2)
    = frontV (rowsV (W (Proc.devRef .tc main_v1)) (Host.exp (decOf (W (Proc.devRef .tc main_v4))))) := by
  unfold late
  after_reads_simp
  rfl
theorem late_w : late W (Proc.devRef .tc main_v89_3) = frontV (W (Proc.devRef .tc main_v60)) := by
  unfold late
  after_reads_simp
  rfl
theorem late_qd : late W (Proc.devRef .tc main_v89_4)
    = frontV (rowsV (W (Proc.devRef .tc main_v52)) (Host.exp (W (Proc.devRef .tc main_v4) : ChunkG))) := by
  unfold late
  after_reads_simp
  rfl
theorem late_attn : late W (Proc.devRef .tc main_v89_5)
    = frontSq (selectV (W (Proc.devRef .tc main_v11)) (W (Proc.devRef .tc main_v62)) (W (Proc.devRef .tc main_cst_4))) := by
  unfold late
  after_reads_simp
  rfl
theorem late_ctr : late W (Proc.devRef .tc main_v89_6) = constantI S_ 32 0#32 := by
  unfold late
  after_reads_simp
  rfl
theorem late_ds : late W (Proc.devRef .tc main_v89_7)
    = broadcastInDim S1x8x128x128 ![] bcast_S_S1x8x128x128 (constant S_ .f32 0x00000000#32 : FVec Ideal S_ .f32) := by
  unfold late
  after_reads_simp
  rfl
theorem inv_cst : after hostOps0_10 W (Proc.devRef .tc main_cst_4) = (constant S_ .f32 0x00000000#32 : FVec Ideal S_ .f32) := by
  after_reads_simp

end

section

variable (V : RefVal)

theorem entry_eq : afterL preI V = late (after hostOps0_10 (early V)) := rfl

theorem entry_v48 : afterL preI V (Proc.devRef .tc main_v48) = tV (argk V) (argg V) (argb V) := by
  rw [entry_eq, late_v48, inv_v48, early_v23]
  rfl
theorem entry_v55 : afterL preI V (Proc.devRef .tc main_v55) = columnV (gatesV (argb V)) := by
  rw [entry_eq, late_v55, inv_v55]
  unfold argb
  rw [early_b]

/-- The loop's buffers at its entry. -/
theorem entry_inv : Inv (argq V) (argk V) (argg V) (argb V) (argo V) 0 (afterL preI V) where
  ct n h i e := by
    rw [entry_eq, late_ct]
    unfold argo
    rw [inv_keep _ _ (by decide), early_o]
    pointwise []
    exact congrArg (fun p => argo V (ix4 (0 : Fin 1) p h e)) (Fin.ext (by show n.val * 64 + i.val = 64 * n.val + i.val; omega))
  egl n h := by
    rw [entry_eq, late_egl, inv_keep _ _ (by decide), early_v4]
    exact (frontOne_at _ n h).trans <| eglV_at (argg V) h n
  kd n h i d := by
    rw [entry_eq, late_kd, inv_keep _ _ (by decide), inv_keep _ _ (by decide), early_v1, early_v4]
    exact (frontV_at _ n h i d).trans <| krefV_at (argk V) (argg V) h n i d
  w n h i d := by
    rw [entry_eq, late_w, inv_v60, early_v23, early_v9, early_v4]
    exact (frontV_at _ n h i d).trans <| wrefV_at (argk V) (argg V) (argb V) h n i d
  qd n h i d := by
    rw [entry_eq, late_qd, inv_v52, inv_keep _ _ (by decide), early_v4]
    unfold argq
    rw [early_q]
    exact (frontV_at _ n h i d).trans <| qdecV_at (argq V) (argg V) h n i d
  attn n h i r := by
    rw [entry_eq, late_attn, inv_v62, inv_cst, inv_keep _ _ (by decide), early_v1, early_v11, early_v20]
    unfold argq
    rw [early_q]
    exact (frontSq_at _ n h i r).trans <| attnV_at (argq V) (argk V) (argg V) h n i r
  ctr := by rw [entry_eq, late_ctr]; rfl
  ds h d e := by
    rw [entry_eq, late_ds]
    pointwise [DS]
  dn s hs := by omega

/-! ## The result -/

theorem trip_keep (r : Ref sig .tc) (h : r ∉ while0Ops0_W ++ while0Ops0_1_W ++ while0Ops0_2_W ++ while0Ops0_3_W ++ while0Ops0_4_W ++ while0Ops0_5_W
      ++ while0Ops0_6_W ++ while0Ops0_7_W ++ while0Ops0_8_W ++ while0Ops0_9_W ++ condOps_W) :
    afterL bodyI (after condOps V) (Proc.devRef .tc r) = V (Proc.devRef .tc r) := by
  simp only [List.mem_append, not_or] at h
  obtain ⟨⟨⟨⟨⟨⟨⟨⟨⟨⟨h0, h1⟩, h2⟩, h3⟩, h4⟩, h5⟩, h6⟩, h7⟩, h8⟩, h9⟩, hc⟩ := h
  simp only [bodyI, afterL_cons, afterL_nil]
  rw [after_of_writes_sub while0Ops0_9 _ while0Ops0_9_writes h9, after_of_writes_sub while0Ops0_8 _ while0Ops0_8_writes h8,
    after_of_writes_sub while0Ops0_7 _ while0Ops0_7_writes h7, after_of_writes_sub while0Ops0_6 _ while0Ops0_6_writes h6,
    after_of_writes_sub while0Ops0_5 _ while0Ops0_5_writes h5, after_of_writes_sub while0Ops0_4 _ while0Ops0_4_writes h4,
    after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

end

theorem loop_keep (m : (ℓ : Loc nD τ sig) → Buf (Elt Ideal) ℓ) (c : Dev nD) (r : Ref sig .tc)
    (h : r ∉ while0Ops0_W ++ while0Ops0_1_W ++ while0Ops0_2_W ++ while0Ops0_3_W ++ while0Ops0_4_W ++ while0Ops0_5_W
      ++ while0Ops0_6_W ++ while0Ops0_7_W ++ while0Ops0_8_W ++ while0Ops0_9_W ++ condOps_W) :
    ∀ k, atK m k c (Proc.devRef .tc r) = entryContents preI m c (Proc.devRef .tc r)
  | 0 => rfl
  | k + 1 => (trip_keep _ r h).trans (loop_keep m c r h k)

theorem post_v97 (X : RefVal) : after hostOps0_13 X (Proc.devRef .tc main_v97)
    = resultV (X (Proc.devRef .tc main_v89_8)) (X (Proc.devRef .tc main_v48)) (X (Proc.devRef .tc main_v55)) := by
  after_reads_simp
  rfl

/-- The reference's result at the row of position `i` of the chunk of step `t` and the column of coordinate `e` of head `h`. -/
theorem ref_at (m : (ℓ : Loc nD τ sig) → Buf (Elt Ideal) ℓ) (c : Dev nD) (q k : Heads) (g b : Gate) (o : Heads)
    (R : Real q k g b o)
    (hq : launchContents m c (Proc.devRef .tc main_arg0) = q) (hk : launchContents m c (Proc.devRef .tc main_arg1) = k)
    (hg : launchContents m c (Proc.devRef .tc main_arg3) = g) (hb : launchContents m c (Proc.devRef .tc main_arg4) = b)
    (ho : launchContents m c (Proc.devRef .tc main_arg6) = o)
    (t : ℕ) (ht : t < 64) (h : Fin 8) (i : Fin 64) (e : Fin 128) :
    (finalContents condOps preI bodyI postI 64 m c (Proc.devRef .tc main_v97) : FVec Ideal S4096x1024 .f32)
      (ix2 (pos (back t) i) (⟨128 * h.val + e.val, by omega⟩ : Fin 1024)) = DV q k g b o h t i e := by
  have I0 : Inv q k g b o 0 (entryContents preI m c) := by
    subst hq hk hg hb ho
    exact entry_inv (launchContents m c)
  have I := Inv.iterate R I0 64 (Nat.le_refl _)
  have h8 : ∀ r, (after condOps (atK m 64 c) (Proc.devRef .tc main_v89_8) : FVec Ideal S64x1x8x64x128 .f32) (ix5 (back t) (0 : Fin 1) h r e)
      = DN q k g b o h t r e := fun r => by
    rw [cond_keeps _ main_v89_8 (by decide), atK_agree m c 64 main_v89_8 (by decide)]
    exact I.dn t ht h r e
  have h48 : after condOps (atK m 64 c) (Proc.devRef .tc main_v48) = tV k g b := by
    rw [after_of_writes_sub condOps _ condOps_writes (by decide), loop_keep m c main_v48 (by decide)]
    subst hk hg hb
    exact entry_v48 _
  have h55 : after condOps (atK m 64 c) (Proc.devRef .tc main_v55) = columnV (gatesV b) := by
    rw [after_of_writes_sub condOps _ condOps_writes (by decide), loop_keep m c main_v55 (by decide)]
    subst hb
    exact entry_v55 _
  show (after hostOps0_13 (after condOps (atK m 64 c)) (Proc.devRef .tc main_v97) : FVec Ideal S4096x1024 .f32) _ = _
  rw [post_v97, h48, h55]
  generalize after condOps (atK m 64 c) (Proc.devRef .tc main_v89_8) = X at *
  pointwise []
  have e1 : (⟨(pos (back t) i).val / 64, by have := (pos (back t) i).isLt; omega⟩ : Fin 64) = back t := Fin.ext (by
    show (64 * (63 - t) + i.val) / 64 = 63 - t; omega)
  have e2 : (⟨(pos (back t) i).val % 64, by omega⟩ : Fin 64) = i := Fin.ext (by
    show (64 * (63 - t) + i.val) % 64 = i.val; omega)
  have e3 : columnV (gatesV b) (ix5 (0 : Fin 1) h (back t) i (0 : Fin 1)) = Cert.Proof.hb b (back t) h i := by
    pointwise [columnV]
    exact gatesV_at b h (back t) i
  have goal : ∀ (X : FVec Ideal S64x1x8x64x128 .f32), (∀ r, X (ix5 (back t) (0 : Fin 1) h r e) = DN q k g b o h t r e) →
      ∀ a i' : Fin 64, a = back t → i' = i → (∑ x : Fin 64, X (ix5 a (0 : Fin 1) h x e) * tV k g b (ix5 (0 : Fin 1) h a x i'))
      * columnV (gatesV b) (ix5 (0 : Fin 1) h a i' (0 : Fin 1)) = DV q k g b o h t i e := by
    rintro X hX _ _ rfl rfl
    rw [e3]
    simp only [hX]
    exact congrArg (· * Cert.Proof.hb b (back t) h _) (Finset.sum_congr rfl fun r _ => mul_comm _ _)
  exact goal X h8 _ _ e1 e2

end Cert.Proof

end
-- ==== Proof.Unchanged.lean ====
/-
  The reference leaves its arguments as they were.
-/
module

public import proofs.«01_k».proof.Proof.Reference
public import Idealize.ShloMosaic.Lib.Quiescent

@[expose] public section

noncomputable section

namespace Cert.Proof

open Idealize.ShloMosaic Idealize.ShloMosaic.TcCoe Idealize.ShloMosaic.StableHlo Idealize.SL.Sem Cert.ReferenceIdeal Cert.ReferenceIdeal.Gen
  Cert.ReferenceIdeal.Value

theorem pre_keep (V : RefVal) (r : Ref sig .tc) (h : r ∉ hostOps0_W ++ hostOps0_1_W ++ hostOps0_2_W ++ hostOps0_3_W ++ hostOps0_4_W
      ++ hostOps0_5_W ++ hostOps0_6_W ++ hostOps0_7_W ++ hostOps0_8_W ++ hostOps0_9_W ++ hostOps0_10_W ++ hostOps0_11_W ++ hostOps0_12_W) :
    afterL preI V (Proc.devRef .tc r) = V (Proc.devRef .tc r) := by
  simp only [List.mem_append, not_or] at h
  obtain ⟨⟨⟨⟨⟨⟨⟨⟨⟨⟨⟨⟨h0, h1⟩, h2⟩, h3⟩, h4⟩, h5⟩, h6⟩, h7⟩, h8⟩, h9⟩, h10⟩, h11⟩, h12⟩ := h
  simp only [preI, afterL_cons, afterL_nil]
  rw [after_of_writes_sub hostOps0_12 _ hostOps0_12_writes h12, after_of_writes_sub hostOps0_11 _ hostOps0_11_writes h11,
    after_of_writes_sub hostOps0_10 _ hostOps0_10_writes h10, after_of_writes_sub hostOps0_9 _ hostOps0_9_writes h9,
    after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- What a buffer ends at that no line before the last stretch writes, up to that stretch. -/
theorem upto_keep (m : (ℓ : Loc nD τ sig) → Buf (Elt Ideal) ℓ) (c : Dev nD) (r : Ref sig .tc)
    (h : r ∉ hostOps0_W ++ hostOps0_1_W ++ hostOps0_2_W ++ hostOps0_3_W ++ hostOps0_4_W
      ++ hostOps0_5_W ++ hostOps0_6_W ++ hostOps0_7_W ++ hostOps0_8_W ++ hostOps0_9_W ++ hostOps0_10_W ++ hostOps0_11_W ++ hostOps0_12_W)
    (h' : r ∉ while0Ops0_W ++ while0Ops0_1_W ++ while0Ops0_2_W ++ while0Ops0_3_W ++ while0Ops0_4_W ++ while0Ops0_5_W
      ++ while0Ops0_6_W ++ while0Ops0_7_W ++ while0Ops0_8_W ++ while0Ops0_9_W ++ condOps_W) (hc : r ∉ condOps_W) :
    after condOps (atK m 64 c) (Proc.devRef .tc r) = m ((c.tc : Thread nD τ).loc r) := by
  rw [after_of_writes_sub condOps _ condOps_writes hc, loop_keep m c r h']
  exact pre_keep _ r h

variable (m : (ℓ : Loc nD τ sig) → Buf (Elt Ideal) ℓ) (c : Dev nD)

theorem kept0 : finalContents condOps preI bodyI postI 64 m c (Proc.devRef .tc main_arg0) = m ((c.tc : Thread nD τ).loc main_arg0) := by
  show after hostOps0_13 (after condOps (atK m 64 c)) _ = _
  rw [← upto_keep m c main_arg0 (by decide) (by decide) (by decide)]
  after_reads_simp
theorem kept1 : finalContents condOps preI bodyI postI 64 m c (Proc.devRef .tc main_arg1) = m ((c.tc : Thread nD τ).loc main_arg1) := by
  show after hostOps0_13 (after condOps (atK m 64 c)) _ = _
  rw [← upto_keep m c main_arg1 (by decide) (by decide) (by decide)]
  after_reads_simp
theorem kept2 : finalContents condOps preI bodyI postI 64 m c (Proc.devRef .tc main_arg2) = m ((c.tc : Thread nD τ).loc main_arg2) := by
  show after hostOps0_13 (after condOps (atK m 64 c)) _ = _
  rw [← upto_keep m c main_arg2 (by decide) (by decide) (by decide)]
  after_reads_simp
theorem kept3 : finalContents condOps preI bodyI postI 64 m c (Proc.devRef .tc main_arg3) = m ((c.tc : Thread nD τ).loc main_arg3) := by
  show after hostOps0_13 (after condOps (atK m 64 c)) _ = _
  rw [← upto_keep m c main_arg3 (by decide) (by decide) (by decide)]
  after_reads_simp
theorem kept4 : finalContents condOps preI bodyI postI 64 m c (Proc.devRef .tc main_arg4) = m ((c.tc : Thread nD τ).loc main_arg4) := by
  show after hostOps0_13 (after condOps (atK m 64 c)) _ = _
  rw [← upto_keep m c main_arg4 (by decide) (by decide) (by decide)]
  after_reads_simp
theorem kept5 : finalContents condOps preI bodyI postI 64 m c (Proc.devRef .tc main_arg5) = m ((c.tc : Thread nD τ).loc main_arg5) := by
  show after hostOps0_13 (after condOps (atK m 64 c)) _ = _
  rw [← upto_keep m c main_arg5 (by decide) (by decide) (by decide)]
  after_reads_simp
theorem kept6 : finalContents condOps preI bodyI postI 64 m c (Proc.devRef .tc main_arg6) = m ((c.tc : Thread nD τ).loc main_arg6) := by
  show after hostOps0_13 (after condOps (atK m 64 c)) _ = _
  rw [← upto_keep m c main_arg6 (by decide) (by decide) (by decide)]
  after_reads_simp

/-- The reference runs, ends with its result at the fold's and keeps its arguments, and no counter is left raised. -/
theorem reference_run (ρ : Dev nD → PrngReg) : θ_run (defs (F := Ideal)) (onTc (τ := τ) (main (F := Ideal))) ⟨m, fun _ => 0, ρ⟩ (fun r =>
    (∀ c : Dev nD, r.2.mem ((c.tc : Thread nD τ).loc main_v97) = finalContents condOps preI bodyI postI 64 m c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run _ _ _).mono (fun r h => ⟨fun c => ⟨h c main_v97 rfl, (h c main_arg0 rfl).trans (kept0 m c), (h c main_arg1 rfl).trans (kept1 m c),
      (h c main_arg2 rfl).trans (kept2 m c), (h c main_arg3 rfl).trans (kept3 m c), (h c main_arg4 rfl).trans (kept4 m c),
      (h c main_arg5 rfl).trans (kept5 m c), (h c main_arg6 rfl).trans (kept6 m c)⟩, sem_eq_zero_of_no_sems rfl r.2⟩) (run_fold m ρ)

end Cert.Proof

end
-- ==== Proof.Precondition.lean ====
/-
  What the precondition says: every entry of the arrays it names is a real number.
-/
module

public import proofs.«01_k».proof.Defs
public import proofs.«01_k».proof.Proof.Finite

@[expose] public section

noncomputable section

namespace Cert.Proof

open Idealize.ShloMosaic

instance finiteFacts : Cert.Pre_finite.Facts := ⟨by decide, by decide⟩

theorem infinity : FloatOps.ofBits (F := Ideal) .f32 0x7F800000#32 = (⊤ : EReal) := by
  have h : FloatOps.ofBits (F := Ideal) .f32 0x7F800000#32 = Ideal.ofBits .f32 0x7F800000#32 := rfl
  rw [h]
  simp [Ideal.ofBits, Ideal.ieee]

theorem real_of_lt (x : EReal) (h : Ideal.cmp .olt (max x (-x)) ⊤ = 1#1) : IsReal x := by
  have h' : max x (-x) < ⊤ := by
    by_contra hn
    simp [Ideal.cmp, hn] at h
  induction x using EReal.rec with
  | bot => simp at h'
  | coe r => exact ⟨r, rfl⟩
  | top => simp at h'

/-- The compare of an array's absolute values with infinity, read at an entry. -/
theorem real_of_compare {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1) (j : s.Idx) :
    IsReal (x j) := by
  have := congrFun h j
  refine real_of_lt (x j) ?_
  rw [← infinity]
  exact this

theorem real_of_pre (q k v : Heads) (g b : Gate) (st : FVec Ideal Cert.Pre_finite.S1x8x64x128x128 .f32) (o : Heads)
    (h : (Cert.Pre_finite.fn (F := Ideal) q k v g b st o).1 = (fun _ => 1#1)
      ∧ (Cert.Pre_finite.fn (F := Ideal) q k v g b st o).2.1 = (fun _ => 1#1)
      ∧ (Cert.Pre_finite.fn (F := Ideal) q k v g b st o).2.2.1 = (fun _ => 1#1)
      ∧ (Cert.Pre_finite.fn (F := Ideal) q k v g b st o).2.2.2.1 = (fun _ => 1#1)
      ∧ (Cert.Pre_finite.fn (F := Ideal) q k v g b st o).2.2.2.2 = (fun _ => 1#1)) : Real q k g b o where
  q := real_of_compare q _ h.1
  k := real_of_compare k _ h.2.1
  g := real_of_compare g _ h.2.2.1
  b := real_of_compare b _ h.2.2.2.1
  o := real_of_compare o _ h.2.2.2.2

end Cert.Proof

end
-- ==== Proof.Products.lean ====
/-
  Plain products over the extended reals, entry by entry, and the cutting of their sums.
-/
module

public import Idealize.ShloMosaic.Lib.Pointwise

@[expose] public section

noncomputable section

namespace Cert.Proof

open Idealize.ShloMosaic

/-- A matrix. -/
abbrev Mat (a b : ℕ) := (⟨2, ![a, b]⟩ : Shape).Idx → EReal

/-- `A B`. -/
def mulNN {M K N : ℕ} (A : Mat M K) (B : Mat K N) : Mat M N := fun y => ∑ k : Fin K, A (ix2 (y 0) k) * B (ix2 k (y 1))
/-- `A Bᵀ`. -/
def mulNT {M K N : ℕ} (A : Mat M K) (B : Mat N K) : Mat M N := fun y => ∑ k : Fin K, A (ix2 (y 0) k) * B (ix2 (y 1) k)
/-- `Aᵀ B`. -/
def mulTN {M K N : ℕ} (A : Mat K M) (B : Mat K N) : Mat M N := fun y => ∑ k : Fin K, A (ix2 k (y 0)) * B (ix2 k (y 1))

/-- `A + B`. -/
def plus {M N : ℕ} (A B : Mat M N) : Mat M N := fun y => A y + B y

theorem mulNN_at {M K N : ℕ} (A : Mat M K) (B : Mat K N) (i : Fin M) (j : Fin N) :
    mulNN A B (ix2 i j) = ∑ k : Fin K, A (ix2 i k) * B (ix2 k j) := rfl
theorem mulNT_at {M K N : ℕ} (A : Mat M K) (B : Mat N K) (i : Fin M) (j : Fin N) :
    mulNT A B (ix2 i j) = ∑ k : Fin K, A (ix2 i k) * B (ix2 j k) := rfl
theorem mulTN_at {M K N : ℕ} (A : Mat K M) (B : Mat K N) (i : Fin M) (j : Fin N) :
    mulTN A B (ix2 i j) = ∑ k : Fin K, A (ix2 k i) * B (ix2 k j) := rfl

theorem plus_at {M N : ℕ} (A B : Mat M N) (i : Fin M) (j : Fin N) : plus A B (ix2 i j) = A (ix2 i j) + B (ix2 i j) := rfl

/-- An index of a matrix is its row and its column. -/
theorem mat_idx {a b : ℕ} (y : (⟨2, ![a, b]⟩ : Shape).Idx) : y = ix2 (y 0 : Fin a) (y 1 : Fin b) := by
  funext x; match x with | ⟨0, _⟩ => rfl | ⟨1, _⟩ => rfl

/-- Two matrices with the same entries. -/
theorem mat_ext {a b : ℕ} {A B : Mat a b} (h : ∀ i j, A (ix2 i j) = B (ix2 i j)) : A = B := by
  funext y; rw [mat_idx y]; exact h _ _

/-- A sum over two parts of one length. -/
theorem sum_two {n N : ℕ} (h : N = n + n) (f : Fin N → EReal) :
    ∑ k, f k = (∑ k : Fin n, f ⟨k.val, by omega⟩) + ∑ k : Fin n, f ⟨n + k.val, by omega⟩ := by
  subst h; exact Fin.sum_univ_add f

/-- A sum over three parts of one length. -/
theorem sum_three {n N : ℕ} (h : N = n + n + n) (f : Fin N → EReal) :
    ∑ k, f k = (∑ k : Fin n, f ⟨k.val, by omega⟩) + (∑ k : Fin n, f ⟨n + k.val, by omega⟩) + ∑ k : Fin n, f ⟨n + n + k.val, by omega⟩ := by
  subst h; rw [Fin.sum_univ_add, Fin.sum_univ_add]; rfl

/-- A sum of products in two parts. -/
theorem dot_two {n N : ℕ} (h : N = n + n) {f g : Fin N → EReal} {x y x' y' : Fin n → EReal}
    (hx : ∀ k, x k = f ⟨k.val, by omega⟩) (hy : ∀ k, y k = g ⟨k.val, by omega⟩)
    (hx' : ∀ k, x' k = f ⟨n + k.val, by omega⟩) (hy' : ∀ k, y' k = g ⟨n + k.val, by omega⟩) :
    (∑ k, x k * y k) + ∑ k, x' k * y' k = ∑ k, f k * g k := by
  simp only [hx, hy, hx', hy', sum_two h]

/-- A sum of products in three parts. -/
theorem dot_three {n N : ℕ} (h : N = n + n + n) {f g : Fin N → EReal} {x y x' y' x'' y'' : Fin n → EReal}
    (hx : ∀ k, x k = f ⟨k.val, by omega⟩) (hy : ∀ k, y k = g ⟨k.val, by omega⟩)
    (hx' : ∀ k, x' k = f ⟨n + k.val, by omega⟩) (hy' : ∀ k, y' k = g ⟨n + k.val, by omega⟩)
    (hx'' : ∀ k, x'' k = f ⟨n + n + k.val, by omega⟩) (hy'' : ∀ k, y'' k = g ⟨n + n + k.val, by omega⟩) :
    (∑ k, x k * y k) + (∑ k, x' k * y' k) + ∑ k, x'' k * y'' k = ∑ k, f k * g k := by
  simp only [hx, hy, hx', hy', hx'', hy'', sum_three h]

end Cert.Proof

end
-- ==== Proof.GradW.lean ====
/-
  The gradient of a weight of the gated MLP's inner products: its blocks summed over the two halves of the tokens.
-/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.GradW

open Idealize.ShloMosaic Idealize.ShloMosaic.TcCoe Idealize.ShloMosaic.Tactic Cert.Kernel2Ideal Cert.Kernel2Ideal.Gen

variable (m : (ℓ : Loc nD τ sig) → Buf (Elt Ideal) ℓ) (c : Dev nD)

theorem first_at (x : Vec Ideal S2048x1024 .bf16) (y : Vec Ideal S2048x1408 .bf16) (i : Fin 1024) (j : Fin 1408) :
    k0_pay2 x y (ix2 i j) = mulTN (K := 2048) x y (ix2 i j) := by
  unfold k0_pay2 k0_pay1
  rw [mulTN_at]
  pointwise []
theorem last_at (x : Vec Ideal S2048x1024 .bf16) (y : Vec Ideal S2048x1408 .bf16) (a : Vec Ideal S1024x1408 .f32) (i : Fin 1024) (j : Fin 1408) :
    k0_pay4 (k0_pay3 x y a) (ix2 i j) = a (ix2 i j) + mulTN (K := 2048) x y (ix2 i j) := by
  unfold k0_pay4 k0_pay3 k0_pay1
  rw [mulTN_at]
  pointwise []

/-- After an even point the accumulator holds the point's product. -/
theorem first (t : Fin cfg0.N) (h : t.val % 2 = 0) :
    (outsAt0 m c t.val t.isLt).2 = k0_pay2 (iblk m c 0 t) (iblk m c 1 t) := by
  rw [outsAt0_A m c t h (by omega) (by omega)]
  frame_out
/-- After an odd point the block is the sum of the accumulator and the point's product. -/
theorem second (t : Fin cfg0.N) (h : t.val % 2 = 1) :
    (outsAt0 m c t.val t.isLt).1 = k0_pay4 (k0_pay3 (iblk m c 0 t) (iblk m c 1 t)
      (outsAt0 m c (t.val - 1) (Nat.lt_of_le_of_lt (Nat.sub_le _ _) t.isLt)).2) := by
  rw [outsAt0_B m c t (by omega) h h]
  frame_out
  simp only [read_unread_whole]

theorem idx : ∀ t : Fin cfg0.N, win0_0.index t = ![t.val % 2, t.val / 8] ∧ win0_1.index t = ![t.val % 2, t.val / 2 % 4]
    ∧ win0_2.index t = ![t.val / 8, t.val / 2 % 4] := (by decide +kernel : ∀ t : Fin grid0.N, _)

theorem blk0 (t : Fin cfg0.N) (k : Fin 2048) (i : Fin 1024) (k' : Fin 4096) (i' : Fin 2048)
    (hk : k'.val = 2048 * (t.val % 2) + k.val) (hi : i'.val = 1024 * (t.val / 8) + i.val) :
    (iblk m c 0 t : Vec Ideal S2048x1024 .bf16) (ix2 k i) = (m ((c : Thread nD τ).loc main_arg0) : FVec Ideal S4096x2048 .f32) (ix2 k' i') := by
  refine Eq.trans (b := (V m c main_v0 : FVec Ideal S4096x2048 .bf16) (ix2 k' i')) ?_ ?_
  · blk_ext [iblk, idx t, hk, hi]
  · unfold V
    after_reads_simp
    rfl
theorem blk1 (t : Fin cfg0.N) (k : Fin 2048) (j : Fin 1408) (k' : Fin 4096) (j' : Fin 5632)
    (hk : k'.val = 2048 * (t.val % 2) + k.val) (hj : j'.val = 1408 * (t.val / 2 % 4) + j.val) :
    (iblk m c 1 t : Vec Ideal S2048x1408 .bf16) (ix2 k j) = (m ((c : Thread nD τ).loc main_arg2) : FVec Ideal S4096x5632 .f32) (ix2 k' j') := by
  refine Eq.trans (b := (V m c main_v1 : FVec Ideal S4096x5632 .bf16) (ix2 k' j')) ?_ ?_
  · blk_ext [iblk, idx t, hk, hj]
  · unfold V
    after_reads_simp
    rfl

/-- A block written back is the product over all tokens. -/
theorem block_at (t : Fin cfg0.N) (h : t.val % 2 = 1) (i : Fin 1024) (j : Fin 1408) (i' : Fin 2048) (j' : Fin 5632)
    (hi : i'.val = t.val / 8 * 1024 + i.val) (hj : j'.val = t.val / 2 % 4 * 1408 + j.val) :
    (outsAt0 m c t.val t.isLt).1 (ix2 i j)
      = mulTN (K := 4096) (m ((c : Thread nD τ).loc main_arg0)) (m ((c : Thread nD τ).loc main_arg2)) (ix2 i' j') := by
  have hs : t.val - 1 < cfg0.N := Nat.lt_of_le_of_lt (Nat.sub_le _ _) t.isLt
  rw [second m c t h, last_at, first m c ⟨t.val - 1, hs⟩ (by dsimp only; omega), first_at, mulTN_at, mulTN_at, mulTN_at]
  exact dot_two rfl (fun k => blk0 m c _ k i _ _ (by dsimp only; omega) (by dsimp only; omega))
    (fun k => blk1 m c _ k j _ _ (by dsimp only; omega) (by dsimp only; omega))
    (fun k => blk0 m c _ k i _ _ (by dsimp only; omega) (by omega)) (fun k => blk1 m c _ k j _ _ (by dsimp only; omega) (by omega))

theorem kernel_result : (dats m 0 c).arrAt 2 cfg0.N
    = mulTN (K := 4096) (m ((c : Thread nD τ).loc main_arg0)) (m ((c : Thread nD τ).loc main_arg2)) := by
  refine (dats m 0 c).arrAt_eq_of_covers 2 _ (by decide +kernel) fun t hf y => ?_
  blk_simp
  rw [after0_2, mat_idx y]
  refine (block_at m c t ((flush0_2 t).1 hf) _ _ _ _ ?_ ?_).trans (congrArg _ (mat_idx _).symm)
  · blk_simp [idx t]
  · blk_simp [idx t]

/-- The reference's transposed product. -/
theorem reference_result (a : FVec Ideal Cert.Reference2Ideal.S4096x2048 .f32) (b : FVec Ideal Cert.Reference2Ideal.S4096x5632 .f32) :
    ∀ h h', (truncf .bf16 (transpose Cert.Reference2Ideal.S2048x5632 [1, 0]
        (Host.dotGeneral Cert.Reference2Ideal.dot_S4096x5632_S4096x2048_S5632x2048_0_0_1_1_n_n none b a) h) h' : FVec Ideal Cert.Reference2Ideal.S2048x5632 .bf16)
      = mulTN (K := 4096) a b := by
  intro h h'
  refine mat_ext fun i j => ?_
  rw [mulTN_at]
  pointwise []
  exact Finset.sum_congr rfl fun k _ => mul_comm _ _

theorem algebraic : Cert.algebraic_Kernel2Ideal_Reference2Ideal (hKernel2Ideal := Cert.Kernel2Ideal.Gen.facts)
    (hReference2Ideal := Cert.Reference2Ideal.Gen.facts) := by
  intro m ρ m' ρ' _ heq
  refine ⟨fun c => mulTN (K := 4096) (m ((c : Thread nD τ).loc main_arg0)) (m ((c : Thread nD τ).loc main_arg2)), ?_, ?_⟩
  · exact (θ_run _ _ _).mono (fun r h c => ⟨(h c).1.trans (kernel_result m c), (h c).2⟩) (Cert.Kernel2Ideal.Value.run_blocks m ρ)
  · refine (θ_run _ _ _).mono (fun r h c => ⟨(h c).1.trans ?_, (h c).2⟩) (Cert.Reference2Ideal.Value.run m' ρ')
    obtain ⟨e0, -, e2⟩ := heq c
    exact (reference_result _ _ _ _).trans (congrArg₂ (mulTN (K := 4096)) e0 e2)

end Cert.Proof.GradW

end
-- ==== Proof.GradIn.lean ====
/-
  The gradient of the combined input projection, its columns the rows: summed over the two halves of the tokens.
-/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.GradIn

open Idealize.ShloMosaic Idealize.ShloMosaic.TcCoe Idealize.ShloMosaic.Tactic Cert.Kernel3Ideal Cert.Kernel3Ideal.Gen

variable (m : (ℓ : Loc nD τ sig) → Buf (Elt Ideal) ℓ) (c : Dev nD)

theorem first_at (x : Vec Ideal S2048x1152 .bf16) (y : Vec Ideal S2048x1024 .bf16) (i : Fin 1152) (j : Fin 1024) :
    k0_pay2 x y (ix2 i j) = mulTN (K := 2048) x y (ix2 i j) := by
  unfold k0_pay2 k0_pay1
  rw [mulTN_at]
  pointwise []
theorem last_at (x : Vec Ideal S2048x1152 .bf16) (y : Vec Ideal S2048x1024 .bf16) (a : Vec Ideal S1152x1024 .f32) (i : Fin 1152) (j : Fin 1024) :
    k0_pay4 (k0_pay3 x y a) (ix2 i j) = a (ix2 i j) + mulTN (K := 2048) x y (ix2 i j) := by
  unfold k0_pay4 k0_pay3 k0_pay1
  rw [mulTN_at]
  pointwise []

/-- After an even point the accumulator holds the point's product. -/
theorem first (t : Fin cfg0.N) (h : t.val % 2 = 0) :
    (outsAt0 m c t.val t.isLt).2 = k0_pay2 (iblk m c 0 t) (iblk m c 1 t) := by
  rw [outsAt0_A m c t h (by omega) (by omega)]
  frame_out
/-- After an odd point the block is the sum of the accumulator and the point's product. -/
theorem second (t : Fin cfg0.N) (h : t.val % 2 = 1) :
    (outsAt0 m c t.val t.isLt).1 = k0_pay4 (k0_pay3 (iblk m c 0 t) (iblk m c 1 t)
      (outsAt0 m c (t.val - 1) (Nat.lt_of_le_of_lt (Nat.sub_le _ _) t.isLt)).2) := by
  rw [outsAt0_B m c t (by omega) h h]
  frame_out
  simp only [read_unread_whole]

theorem idx : ∀ t : Fin cfg0.N, win0_0.index t = ![t.val % 2, t.val / 4] ∧ win0_1.index t = ![t.val % 2, t.val / 2 % 2]
    ∧ win0_2.index t = ![t.val / 4, t.val / 2 % 2] := (by decide +kernel : ∀ t : Fin grid0.N, _)

theorem blk0 (t : Fin cfg0.N) (k : Fin 2048) (i : Fin 1152) (k' : Fin 4096) (i' : Fin 10368)
    (hk : k'.val = 2048 * (t.val % 2) + k.val) (hi : i'.val = 1152 * (t.val / 4) + i.val) :
    (iblk m c 0 t : Vec Ideal S2048x1152 .bf16) (ix2 k i) = (m ((c : Thread nD τ).loc main_arg2) : FVec Ideal S4096x10368 .f32) (ix2 k' i') := by
  refine Eq.trans (b := (V m c main_v0 : FVec Ideal S4096x10368 .bf16) (ix2 k' i')) ?_ ?_
  · blk_ext [iblk, idx t, hk, hi]
  · unfold V
    after_reads_simp
    rfl
theorem blk1 (t : Fin cfg0.N) (k : Fin 2048) (j : Fin 1024) (k' : Fin 4096) (j' : Fin 2048)
    (hk : k'.val = 2048 * (t.val % 2) + k.val) (hj : j'.val = 1024 * (t.val / 2 % 2) + j.val) :
    (iblk m c 1 t : Vec Ideal S2048x1024 .bf16) (ix2 k j) = (m ((c : Thread nD τ).loc main_arg0) : FVec Ideal S4096x2048 .f32) (ix2 k' j') := by
  refine Eq.trans (b := (V m c main_v1 : FVec Ideal S4096x2048 .bf16) (ix2 k' j')) ?_ ?_
  · blk_ext [iblk, idx t, hk, hj]
  · unfold V
    after_reads_simp
    rfl

/-- A block written back is the product's. -/
theorem block_at (t : Fin cfg0.N) (h : t.val % 2 = 1) (i : Fin 1152) (j : Fin 1024) (i' : Fin 10368) (j' : Fin 2048)
    (hi : i'.val = t.val / 4 * 1152 + i.val) (hj : j'.val = t.val / 2 % 2 * 1024 + j.val) :
    (outsAt0 m c t.val t.isLt).1 (ix2 i j)
      = mulTN (K := 4096) (m ((c : Thread nD τ).loc main_arg2)) (m ((c : Thread nD τ).loc main_arg0)) (ix2 i' j') := by
  have hs : t.val - 1 < cfg0.N := Nat.lt_of_le_of_lt (Nat.sub_le _ _) t.isLt
  rw [second m c t h, last_at, first m c ⟨t.val - 1, hs⟩ (by dsimp only; omega), first_at, mulTN_at, mulTN_at, mulTN_at]
  exact dot_two rfl (fun k => blk0 m c _ k i _ _ (by dsimp only; omega) (by dsimp only; omega))
    (fun k => blk1 m c _ k j _ _ (by dsimp only; omega) (by dsimp only; omega))
    (fun k => blk0 m c _ k i _ _ (by dsimp only; omega) (by omega)) (fun k => blk1 m c _ k j _ _ (by dsimp only; omega) (by omega))

theorem kernel_result : (dats m 0 c).arrAt 2 cfg0.N
    = mulTN (K := 4096) (m ((c : Thread nD τ).loc main_arg2)) (m ((c : Thread nD τ).loc main_arg0)) := by
  refine (dats m 0 c).arrAt_eq_of_covers 2 _ (by decide +kernel) fun t hf y => ?_
  blk_simp
  rw [after0_2, mat_idx y]
  refine (block_at m c t ((flush0_2 t).1 hf) _ _ _ _ ?_ ?_).trans (congrArg _ (mat_idx _).symm)
  · blk_simp [idx t]
  · blk_simp [idx t]

theorem reference_result (a0 : FVec Ideal Cert.Reference3Ideal.S4096x2048 .f32) (a2 : FVec Ideal Cert.Reference3Ideal.S4096x10368 .f32) :
    ∀ h0 h1 h2, (truncf .bf16 (transpose Cert.Reference3Ideal.S10368x2048 [1, 0] (transpose Cert.Reference3Ideal.S2048x10368 [1, 0] (Host.dotGeneral Cert.Reference3Ideal.dot_S4096x10368_S4096x2048_S10368x2048_0_0_1_1_n_n none a2 a0) h0) h1) h2 : FVec Ideal Cert.Reference3Ideal.S10368x2048 .bf16)
      = mulTN (K := 4096) a2 a0 := by
  intro h0 h1 h2
  refine mat_ext fun i j => ?_
  rw [mulTN_at]
  pointwise []

theorem algebraic : Cert.algebraic_Kernel3Ideal_Reference3Ideal (hKernel3Ideal := Cert.Kernel3Ideal.Gen.facts)
    (hReference3Ideal := Cert.Reference3Ideal.Gen.facts) := by
  intro m ρ m' ρ' _ heq
  refine ⟨fun c => mulTN (K := 4096) (m ((c : Thread nD τ).loc main_arg2)) (m ((c : Thread nD τ).loc main_arg0)), ?_, ?_⟩
  · exact (θ_run _ _ _).mono (fun r h c => ⟨(h c).1.trans (kernel_result m c), (h c).2⟩) (Cert.Kernel3Ideal.Value.run_blocks m ρ)
  · refine (θ_run _ _ _).mono (fun r h c => ⟨(h c).1.trans ?_, (h c).2⟩) (Cert.Reference3Ideal.Value.run m' ρ')
    obtain ⟨e0, -, e2⟩ := heq c
    exact (reference_result _ _ _ _ _).trans (congrArg₂ (mulTN (K := 4096)) e2 e0)

end Cert.Proof.GradIn

end
-- ==== Proof.GradNorm1.lean ====
/-
  The cotangent of the first norm's output: summed over three parts of the projection's columns.
-/
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.GradNorm1

open Idealize.ShloMosaic Idealize.ShloMosaic.TcCoe Idealize.ShloMosaic.Tactic Cert.Kernel4Ideal Cert.Kernel4Ideal.Gen

variable (m : (ℓ : Loc nD τ sig) → Buf (Elt Ideal) ℓ) (c : Dev nD)

theorem first_at (x : Vec Ideal S1024x3456 .bf16) (y : Vec Ideal S3456x1024 .bf16) (i : Fin 1024) (j : Fin 1024) :
    k0_pay2 x y (ix2 i j) = mulNN (K := 3456) x y (ix2 i j) := by
  unfold k0_pay2 k0_pay1
  rw [mulNN_at]
  pointwise []
theorem last_at (x : Vec Ideal S1024x3456 .bf16) (y : Vec Ideal S3456x1024 .bf16) (a : Vec Ideal S1024x1024 .f32) (i : Fin 1024) (j : Fin 1024) :
    k0_pay3 x y a (ix2 i j) = a (ix2 i j) + mulNN (K := 3456) x y (ix2 i j) := by
  unfold k0_pay3 k0_pay1
  rw [mulNN_at]
  pointwise []

/-- After the first of three points the accumulator holds the point's product. -/
theorem first (t : Fin cfg0.N) (h : t.val % 3 = 0) :
    (outsAt0 m c t.val t.isLt).2 = k0_pay2 (iblk m c 0 t) (iblk m c 1 t) := by
  rw [outsAt0_A m c t h (by omega) (by omega)]
  frame_out
/-- After the second the accumulator has the point's product added. -/
theorem second (t : Fin cfg0.N) (h : t.val % 3 = 1) :
    (outsAt0 m c t.val t.isLt).2 = k0_pay3 (iblk m c 0 t) (iblk m c 1 t)
      (outsAt0 m c (t.val - 1) (Nat.lt_of_le_of_lt (Nat.sub_le _ _) t.isLt)).2 := by
  rw [outsAt0_B m c t (by omega) (by omega) (by omega)]
  frame_out
  simp only [read_unread_whole]
/-- After the third the block is the sum of the accumulator and the point's product. -/
theorem third (t : Fin cfg0.N) (h : t.val % 3 = 2) :
    (outsAt0 m c t.val t.isLt).1 = k0_pay3 (iblk m c 0 t) (iblk m c 1 t)
      (outsAt0 m c (t.val - 1) (Nat.lt_of_le_of_lt (Nat.sub_le _ _) t.isLt)).2 := by
  rw [outsAt0_C m c t (by omega) (by omega) h]
  frame_out
  simp only [read_unread_whole]

theorem idx : ∀ t : Fin cfg0.N, win0_0.index t = ![t.val / 6, t.val % 3] ∧ win0_1.index t = ![t.val % 3, t.val / 3 % 2]
    ∧ win0_2.index t = ![t.val / 6, t.val / 3 % 2] := (by decide +kernel : ∀ t : Fin grid0.N, _)

theorem blk0 (t : Fin cfg0.N) (i : Fin 1024) (k : Fin 3456) (i' : Fin 4096) (k' : Fin 10368)
    (hi : i'.val = 1024 * (t.val / 6) + i.val) (hk : k'.val = 3456 * (t.val % 3) + k.val) :
    (iblk m c 0 t : Vec Ideal S1024x3456 .bf16) (ix2 i k) = (m ((c : Thread nD τ).loc main_arg2) : FVec Ideal S4096x10368 .f32) (ix2 i' k') := by
  refine Eq.trans (b := (V m c main_v0 : FVec Ideal S4096x10368 .bf16) (ix2 i' k')) ?_ ?_
  · blk_ext [iblk, idx t, hi, hk]
  · unfold V
    after_reads_simp
    rfl
theorem blk1 (t : Fin cfg0.N) (k : Fin 3456) (j : Fin 1024) (k' : Fin 10368) (j' : Fin 2048)
    (hk : k'.val = 3456 * (t.val % 3) + k.val) (hj : j'.val = 1024 * (t.val / 3 % 2) + j.val) :
    (iblk m c 1 t : Vec Ideal S3456x1024 .bf16) (ix2 k j) = (m ((c : Thread nD τ).loc main_arg1) : FVec Ideal S10368x2048 .f32) (ix2 k' j') := by
  refine Eq.trans (b := (V m c main_v1 : FVec Ideal S10368x2048 .bf16) (ix2 k' j')) ?_ ?_
  · blk_ext [iblk, idx t, hk, hj]
  · unfold V
    after_reads_simp
    rfl

/-- A block written back is the product's. -/
theorem block_at (t : Fin cfg0.N) (h : t.val % 3 = 2) (i : Fin 1024) (j : Fin 1024) (i' : Fin 4096) (j' : Fin 2048)
    (hi : i'.val = t.val / 6 * 1024 + i.val) (hj : j'.val = t.val / 3 % 2 * 1024 + j.val) :
    (outsAt0 m c t.val t.isLt).1 (ix2 i j)
      = mulNN (K := 10368) (m ((c : Thread nD τ).loc main_arg2)) (m ((c : Thread nD τ).loc main_arg1)) (ix2 i' j') := by
  have hs : t.val - 1 < cfg0.N := Nat.lt_of_le_of_lt (Nat.sub_le _ _) t.isLt
  have hs' : t.val - 1 - 1 < cfg0.N := Nat.lt_of_le_of_lt (Nat.sub_le _ _) hs
  rw [third m c t h, last_at, second m c ⟨t.val - 1, hs⟩ (by dsimp only; omega), last_at,
    first m c ⟨t.val - 1 - 1, hs'⟩ (by dsimp only; omega), first_at, mulNN_at, mulNN_at, mulNN_at, mulNN_at]
  exact dot_three rfl (fun k => blk0 m c _ i k _ _ (by dsimp only; omega) (by dsimp only; omega))
    (fun k => blk1 m c _ k j _ _ (by dsimp only; omega) (by dsimp only; omega))
    (fun k => blk0 m c _ i k _ _ (by dsimp only; omega) (by dsimp only; omega)) (fun k => blk1 m c _ k j _ _ (by dsimp only; omega) (by dsimp only; omega))
    (fun k => blk0 m c _ i k _ _ (by omega) (by dsimp only; omega)) (fun k => blk1 m c _ k j _ _ (by dsimp only; omega) (by omega))

theorem kernel_result : (dats m 0 c).arrAt 2 cfg0.N
    = mulNN (K := 10368) (m ((c : Thread nD τ).loc main_arg2)) (m ((c : Thread nD τ).loc main_arg1)) := by
  refine (dats m 0 c).arrAt_eq_of_covers 2 _ (by decide +kernel) fun t hf y => ?_
  blk_simp
  rw [after0_2, mat_idx y]
  refine (block_at m c t ((flush0_2 t).1 hf) _ _ _ _ ?_ ?_).trans (congrArg _ (mat_idx _).symm)
  · blk_simp [idx t]
  · blk_simp [idx t]

theorem reference_result (a1 : FVec Ideal Cert.Reference4Ideal.S10368x2048 .f32) (a2 : FVec Ideal Cert.Reference4Ideal.S4096x10368 .f32) :
    ∀ h0, (Host.dotGeneral Cert.Reference4Ideal.dot_S4096x10368_S2048x10368_S4096x2048_1_1_0_0_n_n none a2 (transpose Cert.Reference4Ideal.S2048x10368 [1, 0] a1 h0) : FVec Ideal Cert.Reference4Ideal.S4096x2048 .f32)
      = mulNN (K := 10368) a2 a1 := by
  intro h0
  refine mat_ext fun i j => ?_
  rw [mulNN_at]
  pointwise []

theorem algebraic : Cert.algebraic_Kernel4Ideal_Reference4Ideal (hKernel4Ideal := Cert.Kernel4Ideal.Gen.facts)
    (hReference4Ideal := Cert.Reference4Ideal.Gen.facts) := by
  intro m ρ m' ρ' _ heq
  refine ⟨fun c => mulNN (K := 10368) (m ((c : Thread nD τ).loc main_arg2)) (m ((c : Thread nD τ).loc main_arg1)), ?_, ?_⟩
  · exact (θ_run _ _ _).mono (fun r h c => ⟨(h c).1.trans (kernel_result m c), (h c).2⟩) (Cert.Kernel4Ideal.Value.run_blocks m ρ)
  · refine (θ_run _ _ _).mono (fun r h c => ⟨(h c).1.trans ?_, (h c).2⟩) (Cert.Reference4Ideal.Value.run m' ρ')
    obtain ⟨-, e1, e2⟩ := heq c
    exact (reference_result _ _ _).trans (congrArg₂ (mulNN (K := 10368)) e2 e1)

end Cert.Proof.GradNorm1

end
-- ==== Proof.InProduct.lean ====
/-
  The combined input projection, block by block.
-/
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.InProduct

open Idealize.ShloMosaic Idealize.ShloMosaic.TcCoe Idealize.ShloMosaic.Tactic Cert.Kernel5Ideal Cert.Kernel5Ideal.Gen

variable (m : (ℓ : Loc nD τ sig) → Buf (Elt Ideal) ℓ) (c : Dev nD)

theorem out_at (x : Vec Ideal S1024x2048 .bf16) (y : Vec Ideal S1152x2048 .bf16) (i : Fin 1024) (j : Fin 1152) :
    out0_2 x y (ix2 i j) = mulNT (K := 2048) x y (ix2 i j) := by
  rw [show out0_2 x y = k0_pay1 x y by frame_out]
  unfold k0_pay1
  rw [mulNT_at]
  pointwise []

theorem idx : ∀ t : Fin cfg0.N, win0_0.index t = ![t.val / 9, 0] ∧ win0_1.index t = ![t.val % 9, 0]
    ∧ win0_2.index t = ![t.val / 9, t.val % 9] := (by decide +kernel : ∀ t : Fin grid0.N, _)

theorem blk0 (t : Fin cfg0.N) (i : Fin 1024) (k : Fin 2048) (i' : Fin 4096) (k' : Fin 2048)
    (hi : i'.val = 1024 * (t.val / 9) + i.val) (hk : k'.val = k.val) :
    (iblk m c 0 t : Vec Ideal S1024x2048 .bf16) (ix2 i k) = (m ((c : Thread nD τ).loc main_arg0) : FVec Ideal S4096x2048 .f32) (ix2 i' k') := by
  refine Eq.trans (b := (V m c main_v0 : FVec Ideal S4096x2048 .bf16) (ix2 i' k')) ?_ ?_
  · blk_ext [iblk, idx t, hi, hk]
  · unfold V
    after_reads_simp
    rfl
theorem blk1 (t : Fin cfg0.N) (j : Fin 1152) (k : Fin 2048) (j' : Fin 10368) (k' : Fin 2048)
    (hj : j'.val = 1152 * (t.val % 9) + j.val) (hk : k'.val = k.val) :
    (iblk m c 1 t : Vec Ideal S1152x2048 .bf16) (ix2 j k) = (m ((c : Thread nD τ).loc main_arg1) : FVec Ideal S10368x2048 .f32) (ix2 j' k') := by
  refine Eq.trans (b := (V m c main_v1 : FVec Ideal S10368x2048 .bf16) (ix2 j' k')) ?_ ?_
  · blk_ext [iblk, idx t, hj, hk]
  · unfold V
    after_reads_simp
    rfl

/-- A block written back is the product's. -/
theorem block_at (t : Fin cfg0.N) (i : Fin 1024) (j : Fin 1152) (i' : Fin 4096) (j' : Fin 10368)
    (hi : i'.val = t.val / 9 * 1024 + i.val) (hj : j'.val = t.val % 9 * 1152 + j.val) :
    out0_2 (iblk m c 0 t) (iblk m c 1 t) (ix2 i j)
      = mulNT (K := 2048) (m ((c : Thread nD τ).loc main_arg0)) (m ((c : Thread nD τ).loc main_arg1)) (ix2 i' j') := by
  rw [out_at, mulNT_at, mulNT_at]
  exact Finset.sum_congr rfl fun k _ => congrArg₂ (· * ·) (blk0 m c t i k _ _ (by omega) rfl) (blk1 m c t j k _ _ (by omega) rfl)

theorem kernel_result : (dats m 0 c).arrAt 2 cfg0.N
    = mulNT (K := 2048) (m ((c : Thread nD τ).loc main_arg0)) (m ((c : Thread nD τ).loc main_arg1)) := by
  refine (dats m 0 c).arrAt_eq_of_covers 2 _ (by decide +kernel) fun t hf y => ?_
  blk_simp
  rw [after0_2, mat_idx y]
  refine (block_at m c t _ _ _ _ ?_ ?_).trans (congrArg _ (mat_idx _).symm)
  · blk_simp [idx t]
  · blk_simp [idx t]

theorem reference_result (a0 : FVec Ideal Cert.Reference5Ideal.S4096x2048 .f32) (a1 : FVec Ideal Cert.Reference5Ideal.S10368x2048 .f32) :
    ∀ h0 h1, (truncf .bf16 (Host.dotGeneral Cert.Reference5Ideal.dot_S4096x2048_S2048x10368_S4096x10368_1_0_0_1_n_n none a0 (transpose Cert.Reference5Ideal.S2048x10368 [1, 0] a1 h0)) h1 : FVec Ideal Cert.Reference5Ideal.S4096x10368 .bf16)
      = mulNT (K := 2048) a0 a1 := by
  intro h0 h1
  refine mat_ext fun i j => ?_
  rw [mulNT_at]
  pointwise []

theorem algebraic : Cert.algebraic_Kernel5Ideal_Reference5Ideal (hKernel5Ideal := Cert.Kernel5Ideal.Gen.facts)
    (hReference5Ideal := Cert.Reference5Ideal.Gen.facts) := by
  intro m ρ m' ρ' _ heq
  refine ⟨fun c => mulNT (K := 2048) (m ((c : Thread nD τ).loc main_arg0)) (m ((c : Thread nD τ).loc main_arg1)), ?_, ?_⟩
  · exact (θ_run _ _ _).mono (fun r h c => ⟨(h c).1.trans (kernel_result m c), (h c).2⟩) (Cert.Kernel5Ideal.Value.run_blocks m ρ)
  · refine (θ_run _ _ _).mono (fun r h c => ⟨(h c).1.trans ?_, (h c).2⟩) (Cert.Reference5Ideal.Value.run m' ρ')
    obtain ⟨e0, e1⟩ := heq c
    exact (reference_result _ _ _ _).trans (congrArg₂ (mulNT (K := 2048)) e0 e1)

end Cert.Proof.InProduct

end
-- ==== Proof.FfnIn.lean ====
/-
  The gated MLP's inner products, block by block.
-/
module

public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.FfnIn

open Idealize.ShloMosaic Idealize.ShloMosaic.TcCoe Idealize.ShloMosaic.Tactic Cert.Kernel6Ideal Cert.Kernel6Ideal.Gen

variable (m : (ℓ : Loc nD τ sig) → Buf (Elt Ideal) ℓ) (c : Dev nD)

theorem out_at (x : Vec Ideal S1024x2048 .bf16) (y : Vec Ideal S2048x1408 .bf16) (i : Fin 1024) (j : Fin 1408) :
    out0_2 x y (ix2 i j) = mulNN (K := 2048) x y (ix2 i j) := by
  rw [show out0_2 x y = k0_pay1 x y by frame_out]
  unfold k0_pay1
  rw [mulNN_at]
  pointwise []

theorem idx : ∀ t : Fin cfg0.N, win0_0.index t = ![t.val / 4, 0] ∧ win0_1.index t = ![0, t.val % 4]
    ∧ win0_2.index t = ![t.val / 4, t.val % 4] := (by decide +kernel : ∀ t : Fin grid0.N, _)

theorem blk0 (t : Fin cfg0.N) (i : Fin 1024) (k : Fin 2048) (i' : Fin 4096) (k' : Fin 2048)
    (hi : i'.val = 1024 * (t.val / 4) + i.val) (hk : k'.val = k.val) :
    (iblk m c 0 t : Vec Ideal S1024x2048 .bf16) (ix2 i k) = (m ((c : Thread nD τ).loc main_arg0) : FVec Ideal S4096x2048 .f32) (ix2 i' k') := by
  refine Eq.trans (b := (V m c main_v0 : FVec Ideal S4096x2048 .bf16) (ix2 i' k')) ?_ ?_
  · blk_ext [iblk, idx t, hi, hk]
  · unfold V
    after_reads_simp
    rfl
theorem blk1 (t : Fin cfg0.N) (k : Fin 2048) (j : Fin 1408) (k' : Fin 2048) (j' : Fin 5632)
    (hk : k'.val = k.val) (hj : j'.val = 1408 * (t.val % 4) + j.val) :
    (iblk m c 1 t : Vec Ideal S2048x1408 .bf16) (ix2 k j) = (m ((c : Thread nD τ).loc main_arg1) : FVec Ideal S2048x5632 .f32) (ix2 k' j') := by
  refine Eq.trans (b := (V m c main_v1 : FVec Ideal S2048x5632 .bf16) (ix2 k' j')) ?_ ?_
  · blk_ext [iblk, idx t, hk, hj]
  · unfold V
    after_reads_simp
    rfl

/-- A block written back is the product's. -/
theorem block_at (t : Fin cfg0.N) (i : Fin 1024) (j : Fin 1408) (i' : Fin 4096) (j' : Fin 5632)
    (hi : i'.val = t.val / 4 * 1024 + i.val) (hj : j'.val = t.val % 4 * 1408 + j.val) :
    out0_2 (iblk m c 0 t) (iblk m c 1 t) (ix2 i j)
      = mulNN (K := 2048) (m ((c : Thread nD τ).loc main_arg0)) (m ((c : Thread nD τ).loc main_arg1)) (ix2 i' j') := by
  rw [out_at, mulNN_at, mulNN_at]
  exact Finset.sum_congr rfl fun k _ => congrArg₂ (· * ·) (blk0 m c t i k _ _ (by omega) rfl) (blk1 m c t k j _ _ rfl (by omega))

theorem kernel_result : (dats m 0 c).arrAt 2 cfg0.N
    = mulNN (K := 2048) (m ((c : Thread nD τ).loc main_arg0)) (m ((c : Thread nD τ).loc main_arg1)) := by
  refine (dats m 0 c).arrAt_eq_of_covers 2 _ (by decide +kernel) fun t hf y => ?_
  blk_simp
  rw [after0_2, mat_idx y]
  refine (block_at m c t _ _ _ _ ?_ ?_).trans (congrArg _ (mat_idx _).symm)
  · blk_simp [idx t]
  · blk_simp [idx t]

theorem reference_result (a0 : FVec Ideal Cert.Reference6Ideal.S4096x2048 .f32) (a1 : FVec Ideal Cert.Reference6Ideal.S2048x5632 .f32) :
    ∀ h0, (truncf .bf16 (Host.dotGeneral Cert.Reference6Ideal.dot_S4096x2048_S2048x5632_S4096x5632_1_0_0_1_n_n none a0 a1) h0 : FVec Ideal Cert.Reference6Ideal.S4096x5632 .bf16)
      = mulNN (K := 2048) a0 a1 := by
  intro h0
  refine mat_ext fun i j => ?_
  rw [mulNN_at]
  pointwise []

theorem algebraic : Cert.algebraic_Kernel6Ideal_Reference6Ideal (hKernel6Ideal := Cert.Kernel6Ideal.Gen.facts)
    (hReference6Ideal := Cert.Reference6Ideal.Gen.facts) := by
  intro m ρ m' ρ' _ heq
  refine ⟨fun c => mulNN (K := 2048) (m ((c : Thread nD τ).loc main_arg0)) (m ((c : Thread nD τ).loc main_arg1)), ?_, ?_⟩
  · exact (θ_run _ _ _).mono (fun r h c => ⟨(h c).1.trans (kernel_result m c), (h c).2⟩) (Cert.Kernel6Ideal.Value.run_blocks m ρ)
  · refine (θ_run _ _ _).mono (fun r h c => ⟨(h c).1.trans ?_, (h c).2⟩) (Cert.Reference6Ideal.Value.run m' ρ')
    obtain ⟨e0, e1⟩ := heq c
    exact (reference_result _ _ _).trans (congrArg₂ (mulNN (K := 2048)) e0 e1)

end Cert.Proof.FfnIn

end
-- ==== Proof.GradNorm2.lean ====
/-
  The second norm's cotangent through one inner product: summed over two halves of the inner columns.
-/
module

public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.GradNorm2

open Idealize.ShloMosaic Idealize.ShloMosaic.TcCoe Idealize.ShloMosaic.Tactic Cert.Kernel7Ideal Cert.Kernel7Ideal.Gen

variable (m : (ℓ : Loc nD τ sig) → Buf (Elt Ideal) ℓ) (c : Dev nD)

theorem first_at (x : Vec Ideal S1024x2816 .bf16) (y : Vec Ideal S1024x2816 .bf16) (i : Fin 1024) (j : Fin 1024) :
    k0_pay2 x y (ix2 i j) = mulNT (K := 2816) x y (ix2 i j) := by
  unfold k0_pay2 k0_pay1
  rw [mulNT_at]
  pointwise []
theorem last_at (x : Vec Ideal S1024x2816 .bf16) (y : Vec Ideal S1024x2816 .bf16) (a : Vec Ideal S1024x1024 .f32) (i : Fin 1024) (j : Fin 1024) :
    k0_pay3 x y a (ix2 i j) = a (ix2 i j) + mulNT (K := 2816) x y (ix2 i j) := by
  unfold k0_pay3 k0_pay1
  rw [mulNT_at]
  pointwise []

/-- After an even point the accumulator holds the point's product. -/
theorem first (t : Fin cfg0.N) (h : t.val % 2 = 0) :
    (outsAt0 m c t.val t.isLt).2 = k0_pay2 (iblk m c 0 t) (iblk m c 1 t) := by
  rw [outsAt0_A m c t h (by omega) (by omega)]
  frame_out
/-- After an odd point the block is the sum of the accumulator and the point's product. -/
theorem second (t : Fin cfg0.N) (h : t.val % 2 = 1) :
    (outsAt0 m c t.val t.isLt).1 = k0_pay3 (iblk m c 0 t) (iblk m c 1 t)
      (outsAt0 m c (t.val - 1) (Nat.lt_of_le_of_lt (Nat.sub_le _ _) t.isLt)).2 := by
  rw [outsAt0_B m c t (by omega) h h]
  frame_out
  simp only [read_unread_whole]

theorem idx : ∀ t : Fin cfg0.N, win0_0.index t = ![t.val / 4, t.val % 2] ∧ win0_1.index t = ![t.val / 2 % 2, t.val % 2]
    ∧ win0_2.index t = ![t.val / 4, t.val / 2 % 2] := (by decide +kernel : ∀ t : Fin grid0.N, _)

theorem blk0 (t : Fin cfg0.N) (i : Fin 1024) (k : Fin 2816) (i' : Fin 4096) (k' : Fin 5632)
    (hi : i'.val = 1024 * (t.val / 4) + i.val) (hk : k'.val = 2816 * (t.val % 2) + k.val) :
    (iblk m c 0 t : Vec Ideal S1024x2816 .bf16) (ix2 i k) = (m ((c : Thread nD τ).loc main_arg2) : FVec Ideal S4096x5632 .f32) (ix2 i' k') := by
  refine Eq.trans (b := (V m c main_v0 : FVec Ideal S4096x5632 .bf16) (ix2 i' k')) ?_ ?_
  · blk_ext [iblk, idx t, hi, hk]
  · unfold V
    after_reads_simp
    rfl
theorem blk1 (t : Fin cfg0.N) (j : Fin 1024) (k : Fin 2816) (j' : Fin 2048) (k' : Fin 5632)
    (hj : j'.val = 1024 * (t.val / 2 % 2) + j.val) (hk : k'.val = 2816 * (t.val % 2) + k.val) :
    (iblk m c 1 t : Vec Ideal S1024x2816 .bf16) (ix2 j k) = (m ((c : Thread nD τ).loc main_arg1) : FVec Ideal S2048x5632 .f32) (ix2 j' k') := by
  refine Eq.trans (b := (V m c main_v1 : FVec Ideal S2048x5632 .bf16) (ix2 j' k')) ?_ ?_
  · blk_ext [iblk, idx t, hj, hk]
  · unfold V
    after_reads_simp
    rfl

/-- A block written back is the product's. -/
theorem block_at (t : Fin cfg0.N) (h : t.val % 2 = 1) (i : Fin 1024) (j : Fin 1024) (i' : Fin 4096) (j' : Fin 2048)
    (hi : i'.val = t.val / 4 * 1024 + i.val) (hj : j'.val = t.val / 2 % 2 * 1024 + j.val) :
    (outsAt0 m c t.val t.isLt).1 (ix2 i j)
      = mulNT (K := 5632) (m ((c : Thread nD τ).loc main_arg2)) (m ((c : Thread nD τ).loc main_arg1)) (ix2 i' j') := by
  have hs : t.val - 1 < cfg0.N := Nat.lt_of_le_of_lt (Nat.sub_le _ _) t.isLt
  rw [second m c t h, last_at, first m c ⟨t.val - 1, hs⟩ (by dsimp only; omega), first_at, mulNT_at, mulNT_at, mulNT_at]
  exact dot_two rfl (fun k => blk0 m c _ i k _ _ (by dsimp only; omega) (by dsimp only; omega))
    (fun k => blk1 m c _ j k _ _ (by dsimp only; omega) (by dsimp only; omega))
    (fun k => blk0 m c _ i k _ _ (by omega) (by dsimp only; omega)) (fun k => blk1 m c _ j k _ _ (by omega) (by dsimp only; omega))

theorem kernel_result : (dats m 0 c).arrAt 2 cfg0.N
    = mulNT (K := 5632) (m ((c : Thread nD τ).loc main_arg2)) (m ((c : Thread nD τ).loc main_arg1)) := by
  refine (dats m 0 c).arrAt_eq_of_covers 2 _ (by decide +kernel) fun t hf y => ?_
  blk_simp
  rw [after0_2, mat_idx y]
  refine (block_at m c t ((flush0_2 t).1 hf) _ _ _ _ ?_ ?_).trans (congrArg _ (mat_idx _).symm)
  · blk_simp [idx t]
  · blk_simp [idx t]

theorem reference_result (a1 : FVec Ideal Cert.Reference7Ideal.S2048x5632 .f32) (a2 : FVec Ideal Cert.Reference7Ideal.S4096x5632 .f32) :
    (Host.dotGeneral Cert.Reference7Ideal.dot_S4096x5632_S2048x5632_S4096x2048_1_1_0_0_n_n none a2 a1 : FVec Ideal Cert.Reference7Ideal.S4096x2048 .f32)
      = mulNT (K := 5632) a2 a1 := by
  refine mat_ext fun i j => ?_
  rw [mulNT_at]
  pointwise []

theorem algebraic : Cert.algebraic_Kernel7Ideal_Reference7Ideal (hKernel7Ideal := Cert.Kernel7Ideal.Gen.facts)
    (hReference7Ideal := Cert.Reference7Ideal.Gen.facts) := by
  intro m ρ m' ρ' _ heq
  refine ⟨fun c => mulNT (K := 5632) (m ((c : Thread nD τ).loc main_arg2)) (m ((c : Thread nD τ).loc main_arg1)), ?_, ?_⟩
  · exact (θ_run _ _ _).mono (fun r h c => ⟨(h c).1.trans (kernel_result m c), (h c).2⟩) (Cert.Kernel7Ideal.Value.run_blocks m ρ)
  · refine (θ_run _ _ _).mono (fun r h c => ⟨(h c).1.trans ?_, (h c).2⟩) (Cert.Reference7Ideal.Value.run m' ρ')
    obtain ⟨-, e1, e2⟩ := heq c
    exact (reference_result _ _).trans (congrArg₂ (mulNT (K := 5632)) e2 e1)

end Cert.Proof.GradNorm2

end
-- ==== Proof.GradNorm2Add.lean ====
/-
  The second norm's cotangent through the other inner product, added to the first.
-/
module

public import proofs.«01_k».proof.Defs
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.GradNorm2Add

open Idealize.ShloMosaic Idealize.ShloMosaic.TcCoe Idealize.ShloMosaic.Tactic Cert.Kernel8Ideal Cert.Kernel8Ideal.Gen

variable (m : (ℓ : Loc nD τ sig) → Buf (Elt Ideal) ℓ) (c : Dev nD)

theorem first_at (x : Vec Ideal S1024x2816 .bf16) (y : Vec Ideal S1024x2816 .bf16) (i : Fin 1024) (j : Fin 1024) :
    k0_pay2 x y (ix2 i j) = mulNT (K := 2816) x y (ix2 i j) := by
  unfold k0_pay2 k0_pay1
  rw [mulNT_at]
  pointwise []
theorem last_at (x : Vec Ideal S1024x2816 .bf16) (y : Vec Ideal S1024x2816 .bf16) (a : Vec Ideal S1024x1024 .f32) (z : Vec Ideal S1024x1024 .f32) (i : Fin 1024) (j : Fin 1024) :
    k0_pay4 (k0_pay3 x y a) z (ix2 i j) = a (ix2 i j) + mulNT (K := 2816) x y (ix2 i j) + z (ix2 i j) := by
  unfold k0_pay4 k0_pay3 k0_pay1
  rw [mulNT_at]
  pointwise []

/-- After an even point the accumulator holds the point's product. -/
theorem first (t : Fin cfg0.N) (h : t.val % 2 = 0) :
    (outsAt0 m c t.val t.isLt).2 = k0_pay2 (iblk m c 0 t) (iblk m c 1 t) := by
  rw [outsAt0_A m c t h (by omega) (by omega)]
  frame_out
/-- After an odd point the block is the sum of the accumulator and the point's product. -/
theorem second (t : Fin cfg0.N) (h : t.val % 2 = 1) :
    (outsAt0 m c t.val t.isLt).1 = k0_pay4 (k0_pay3 (iblk m c 0 t) (iblk m c 1 t)
      (outsAt0 m c (t.val - 1) (Nat.lt_of_le_of_lt (Nat.sub_le _ _) t.isLt)).2) (iblk m c 2 t) := by
  rw [outsAt0_B m c t (by omega) h h]
  frame_out
  simp only [read_unread_whole]

theorem idx : ∀ t : Fin cfg0.N, win0_0.index t = ![t.val / 4, t.val % 2] ∧ win0_1.index t = ![t.val / 2 % 2, t.val % 2]
    ∧ win0_2.index t = ![t.val / 4, t.val / 2 % 2] ∧ win0_3.index t = ![t.val / 4, t.val / 2 % 2] := (by decide +kernel : ∀ t : Fin grid0.N, _)

theorem blk0 (t : Fin cfg0.N) (i : Fin 1024) (k : Fin 2816) (i' : Fin 4096) (k' : Fin 5632)
    (hi : i'.val = 1024 * (t.val / 4) + i.val) (hk : k'.val = 2816 * (t.val % 2) + k.val) :
    (iblk m c 0 t : Vec Ideal S1024x2816 .bf16) (ix2 i k) = (m ((c : Thread nD τ).loc main_arg2) : FVec Ideal S4096x5632 .f32) (ix2 i' k') := by
  refine Eq.trans (b := (V m c main_v0 : FVec Ideal S4096x5632 .bf16) (ix2 i' k')) ?_ ?_
  · blk_ext [iblk, idx t, hi, hk]
  · unfold V
    after_reads_simp
    rfl
theorem blk1 (t : Fin cfg0.N) (j : Fin 1024) (k : Fin 2816) (j' : Fin 2048) (k' : Fin 5632)
    (hj : j'.val = 1024 * (t.val / 2 % 2) + j.val) (hk : k'.val = 2816 * (t.val % 2) + k.val) :
    (iblk m c 1 t : Vec Ideal S1024x2816 .bf16) (ix2 j k) = (m ((c : Thread nD τ).loc main_arg1) : FVec Ideal S2048x5632 .f32) (ix2 j' k') := by
  refine Eq.trans (b := (V m c main_v1 : FVec Ideal S2048x5632 .bf16) (ix2 j' k')) ?_ ?_
  · blk_ext [iblk, idx t, hj, hk]
  · unfold V
    after_reads_simp
    rfl
theorem blk2 (t : Fin cfg0.N) (i : Fin 1024) (j : Fin 1024) (i' : Fin 4096) (j' : Fin 2048)
    (hi : i'.val = 1024 * (t.val / 4) + i.val) (hj : j'.val = 1024 * (t.val / 2 % 2) + j.val) :
    (iblk m c 2 t : Vec Ideal S1024x1024 .f32) (ix2 i j) = (m ((c : Thread nD τ).loc main_arg3) : FVec Ideal S4096x2048 .f32) (ix2 i' j') := by
  refine Eq.trans (b := (V m c main_arg3 : FVec Ideal S4096x2048 .f32) (ix2 i' j')) ?_ ?_
  · blk_ext [iblk, idx t, hi, hj]
  · unfold V
    after_reads_simp

/-- A block written back is the product's. -/
theorem block_at (t : Fin cfg0.N) (h : t.val % 2 = 1) (i : Fin 1024) (j : Fin 1024) (i' : Fin 4096) (j' : Fin 2048)
    (hi : i'.val = t.val / 4 * 1024 + i.val) (hj : j'.val = t.val / 2 % 2 * 1024 + j.val) :
    (outsAt0 m c t.val t.isLt).1 (ix2 i j)
      = plus (mulNT (K := 5632) (m ((c : Thread nD τ).loc main_arg2)) (m ((c : Thread nD τ).loc main_arg1))) (m ((c : Thread nD τ).loc main_arg3)) (ix2 i' j') := by
  have hs : t.val - 1 < cfg0.N := Nat.lt_of_le_of_lt (Nat.sub_le _ _) t.isLt
  rw [second m c t h, last_at, first m c ⟨t.val - 1, hs⟩ (by dsimp only; omega), first_at, mulNT_at, mulNT_at, plus_at, mulNT_at]
  exact congrArg₂ (· + ·) (dot_two rfl (fun k => blk0 m c _ i k _ _ (by dsimp only; omega) (by dsimp only; omega))
    (fun k => blk1 m c _ j k _ _ (by dsimp only; omega) (by dsimp only; omega))
    (fun k => blk0 m c _ i k _ _ (by omega) (by dsimp only; omega)) (fun k => blk1 m c _ j k _ _ (by omega) (by dsimp only; omega)))
    (blk2 m c t i j _ _ (by omega) (by omega))

theorem kernel_result : (dats m 0 c).arrAt 3 cfg0.N
    = plus (mulNT (K := 5632) (m ((c : Thread nD τ).loc main_arg2)) (m ((c : Thread nD τ).loc main_arg1))) (m ((c : Thread nD τ).loc main_arg3)) := by
  refine (dats m 0 c).arrAt_eq_of_covers 3 _ (by decide +kernel) fun t hf y => ?_
  blk_simp
  rw [after0_3, mat_idx y]
  refine (block_at m c t ((flush0_3 t).1 hf) _ _ _ _ ?_ ?_).trans (congrArg _ (mat_idx _).symm)
  · blk_simp [idx t]
  · blk_simp [idx t]

theorem reference_result (a1 : FVec Ideal Cert.Reference8Ideal.S2048x5632 .f32) (a2 : FVec Ideal Cert.Reference8Ideal.S4096x5632 .f32) (a3 : FVec Ideal Cert.Reference8Ideal.S4096x2048 .f32) :
    (addf a3 (Host.dotGeneral Cert.Reference8Ideal.dot_S4096x5632_S2048x5632_S4096x2048_1_1_0_0_n_n none a2 a1) : FVec Ideal Cert.Reference8Ideal.S4096x2048 .f32)
      = plus (mulNT (K := 5632) a2 a1) a3 := by
  refine mat_ext fun i j => ?_
  rw [plus_at, mulNT_at, add_comm]
  pointwise []

theorem algebraic : Cert.algebraic_Kernel8Ideal_Reference8Ideal (hKernel8Ideal := Cert.Kernel8Ideal.Gen.facts)
    (hReference8Ideal := Cert.Reference8Ideal.Gen.facts) := by
  intro m ρ m' ρ' _ heq
  refine ⟨fun c => plus (mulNT (K := 5632) (m ((c : Thread nD τ).loc main_arg2)) (m ((c : Thread nD τ).loc main_arg1))) (m ((c : Thread nD τ).loc main_arg3)), ?_, ?_⟩
  · exact (θ_run _ _ _).mono (fun r h c => ⟨(h c).1.trans (kernel_result m c), (h c).2⟩) (Cert.Kernel8Ideal.Value.run_blocks m ρ)
  · refine (θ_run _ _ _).mono (fun r h c => ⟨(h c).1.trans ?_, (h c).2⟩) (Cert.Reference8Ideal.Value.run m' ρ')
    obtain ⟨-, e1, e2, e3⟩ := heq c
    exact (reference_result _ _ _).trans (congrArg₂ plus (congrArg₂ (mulNT (K := 5632)) e2 e1) e3)

end Cert.Proof.GradNorm2Add

end
-- ==== Proof.GradAct.lean ====
/-
  The cotangent of the gated MLP's activations, block by block.
-/
module

public import proofs.«01_k».proof.Defs
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.GradAct

open Idealize.ShloMosaic Idealize.ShloMosaic.TcCoe Idealize.ShloMosaic.Tactic Cert.Kernel9Ideal Cert.Kernel9Ideal.Gen

variable (m : (ℓ : Loc nD τ sig) → Buf (Elt Ideal) ℓ) (c : Dev nD)

theorem out_at (x : Vec Ideal S1024x2048 .bf16) (y : Vec Ideal S1408x2048 .bf16) (i : Fin 1024) (j : Fin 1408) :
    out0_2 x y (ix2 i j) = mulNT (K := 2048) x y (ix2 i j) := by
  rw [show out0_2 x y = k0_pay1 x y by frame_out]
  unfold k0_pay1
  rw [mulNT_at]
  pointwise []

theorem idx : ∀ t : Fin cfg0.N, win0_0.index t = ![t.val / 4, 0] ∧ win0_1.index t = ![t.val % 4, 0]
    ∧ win0_2.index t = ![t.val / 4, t.val % 4] := (by decide +kernel : ∀ t : Fin grid0.N, _)

theorem blk0 (t : Fin cfg0.N) (i : Fin 1024) (k : Fin 2048) (i' : Fin 4096) (k' : Fin 2048)
    (hi : i'.val = 1024 * (t.val / 4) + i.val) (hk : k'.val = k.val) :
    (iblk m c 0 t : Vec Ideal S1024x2048 .bf16) (ix2 i k) = (m ((c : Thread nD τ).loc main_arg2) : FVec Ideal S4096x2048 .f32) (ix2 i' k') := by
  refine Eq.trans (b := (V m c main_v0 : FVec Ideal S4096x2048 .bf16) (ix2 i' k')) ?_ ?_
  · blk_ext [iblk, idx t, hi, hk]
  · unfold V
    after_reads_simp
    rfl
theorem blk1 (t : Fin cfg0.N) (j : Fin 1408) (k : Fin 2048) (j' : Fin 5632) (k' : Fin 2048)
    (hj : j'.val = 1408 * (t.val % 4) + j.val) (hk : k'.val = k.val) :
    (iblk m c 1 t : Vec Ideal S1408x2048 .bf16) (ix2 j k) = (m ((c : Thread nD τ).loc main_arg1) : FVec Ideal S5632x2048 .f32) (ix2 j' k') := by
  refine Eq.trans (b := (V m c main_v1 : FVec Ideal S5632x2048 .bf16) (ix2 j' k')) ?_ ?_
  · blk_ext [iblk, idx t, hj, hk]
  · unfold V
    after_reads_simp
    rfl

/-- A block written back is the product's. -/
theorem block_at (t : Fin cfg0.N) (i : Fin 1024) (j : Fin 1408) (i' : Fin 4096) (j' : Fin 5632)
    (hi : i'.val = t.val / 4 * 1024 + i.val) (hj : j'.val = t.val % 4 * 1408 + j.val) :
    out0_2 (iblk m c 0 t) (iblk m c 1 t) (ix2 i j)
      = mulNT (K := 2048) (m ((c : Thread nD τ).loc main_arg2)) (m ((c : Thread nD τ).loc main_arg1)) (ix2 i' j') := by
  rw [out_at, mulNT_at, mulNT_at]
  exact Finset.sum_congr rfl fun k _ => congrArg₂ (· * ·) (blk0 m c t i k _ _ (by omega) rfl) (blk1 m c t j k _ _ (by omega) rfl)

theorem kernel_result : (dats m 0 c).arrAt 2 cfg0.N
    = mulNT (K := 2048) (m ((c : Thread nD τ).loc main_arg2)) (m ((c : Thread nD τ).loc main_arg1)) := by
  refine (dats m 0 c).arrAt_eq_of_covers 2 _ (by decide +kernel) fun t hf y => ?_
  blk_simp
  rw [after0_2, mat_idx y]
  refine (block_at m c t _ _ _ _ ?_ ?_).trans (congrArg _ (mat_idx _).symm)
  · blk_simp [idx t]
  · blk_simp [idx t]

theorem reference_result (a1 : FVec Ideal Cert.Reference9Ideal.S5632x2048 .f32) (a2 : FVec Ideal Cert.Reference9Ideal.S4096x2048 .f32) :
    ∀ h0, (truncf .bf16 (Host.dotGeneral Cert.Reference9Ideal.dot_S4096x2048_S5632x2048_S4096x5632_1_1_0_0_n_n none a2 a1) h0 : FVec Ideal Cert.Reference9Ideal.S4096x5632 .bf16)
      = mulNT (K := 2048) a2 a1 := by
  intro h0
  refine mat_ext fun i j => ?_
  rw [mulNT_at]
  pointwise []

theorem algebraic : Cert.algebraic_Kernel9Ideal_Reference9Ideal (hKernel9Ideal := Cert.Kernel9Ideal.Gen.facts)
    (hReference9Ideal := Cert.Reference9Ideal.Gen.facts) := by
  intro m ρ m' ρ' _ heq
  refine ⟨fun c => mulNT (K := 2048) (m ((c : Thread nD τ).loc main_arg2)) (m ((c : Thread nD τ).loc main_arg1)), ?_, ?_⟩
  · exact (θ_run _ _ _).mono (fun r h c => ⟨(h c).1.trans (kernel_result m c), (h c).2⟩) (Cert.Kernel9Ideal.Value.run_blocks m ρ)
  · refine (θ_run _ _ _).mono (fun r h c => ⟨(h c).1.trans ?_, (h c).2⟩) (Cert.Reference9Ideal.Value.run m' ρ')
    obtain ⟨-, e1, e2⟩ := heq c
    exact (reference_result _ _ _).trans (congrArg₂ (mulNT (K := 2048)) e2 e1)

end Cert.Proof.GradAct

end
-- ==== Proof.GradDown.lean ====
/-
  The gradient of the gated MLP's last weight: summed over the two halves of the tokens.
-/
module

public import proofs.«01_k».proof.Defs
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.GradDown

open Idealize.ShloMosaic Idealize.ShloMosaic.TcCoe Idealize.ShloMosaic.Tactic Cert.Kernel10Ideal Cert.Kernel10Ideal.Gen

variable (m : (ℓ : Loc nD τ sig) → Buf (Elt Ideal) ℓ) (c : Dev nD)

theorem first_at (x : Vec Ideal S2048x512 .bf16) (y : Vec Ideal S2048x1024 .bf16) (i : Fin 512) (j : Fin 1024) :
    k0_pay2 x y (ix2 i j) = mulTN (K := 2048) x y (ix2 i j) := by
  unfold k0_pay2 k0_pay1
  rw [mulTN_at]
  pointwise []
theorem last_at (x : Vec Ideal S2048x512 .bf16) (y : Vec Ideal S2048x1024 .bf16) (a : Vec Ideal S512x1024 .f32) (i : Fin 512) (j : Fin 1024) :
    k0_pay4 (k0_pay3 x y a) (ix2 i j) = a (ix2 i j) + mulTN (K := 2048) x y (ix2 i j) := by
  unfold k0_pay4 k0_pay3 k0_pay1
  rw [mulTN_at]
  pointwise []

/-- After an even point the accumulator holds the point's product. -/
theorem first (t : Fin cfg0.N) (h : t.val % 2 = 0) :
    (outsAt0 m c t.val t.isLt).2 = k0_pay2 (iblk m c 0 t) (iblk m c 1 t) := by
  rw [outsAt0_A m c t h (by omega) (by omega)]
  frame_out
/-- After an odd point the block is the sum of the accumulator and the point's product. -/
theorem second (t : Fin cfg0.N) (h : t.val % 2 = 1) :
    (outsAt0 m c t.val t.isLt).1 = k0_pay4 (k0_pay3 (iblk m c 0 t) (iblk m c 1 t)
      (outsAt0 m c (t.val - 1) (Nat.lt_of_le_of_lt (Nat.sub_le _ _) t.isLt)).2) := by
  rw [outsAt0_B m c t (by omega) h h]
  frame_out
  simp only [read_unread_whole]

theorem idx : ∀ t : Fin cfg0.N, win0_0.index t = ![t.val % 2, t.val / 4] ∧ win0_1.index t = ![t.val % 2, t.val / 2 % 2]
    ∧ win0_2.index t = ![t.val / 4, t.val / 2 % 2] := (by decide +kernel : ∀ t : Fin grid0.N, _)

theorem blk0 (t : Fin cfg0.N) (k : Fin 2048) (i : Fin 512) (k' : Fin 4096) (i' : Fin 5632)
    (hk : k'.val = 2048 * (t.val % 2) + k.val) (hi : i'.val = 512 * (t.val / 4) + i.val) :
    (iblk m c 0 t : Vec Ideal S2048x512 .bf16) (ix2 k i) = (m ((c : Thread nD τ).loc main_arg0) : FVec Ideal S4096x5632 .f32) (ix2 k' i') := by
  refine Eq.trans (b := (V m c main_v0 : FVec Ideal S4096x5632 .bf16) (ix2 k' i')) ?_ ?_
  · blk_ext [iblk, idx t, hk, hi]
  · unfold V
    after_reads_simp
    rfl
theorem blk1 (t : Fin cfg0.N) (k : Fin 2048) (j : Fin 1024) (k' : Fin 4096) (j' : Fin 2048)
    (hk : k'.val = 2048 * (t.val % 2) + k.val) (hj : j'.val = 1024 * (t.val / 2 % 2) + j.val) :
    (iblk m c 1 t : Vec Ideal S2048x1024 .bf16) (ix2 k j) = (m ((c : Thread nD τ).loc main_arg2) : FVec Ideal S4096x2048 .f32) (ix2 k' j') := by
  refine Eq.trans (b := (V m c main_v1 : FVec Ideal S4096x2048 .bf16) (ix2 k' j')) ?_ ?_
  · blk_ext [iblk, idx t, hk, hj]
  · unfold V
    after_reads_simp
    rfl

/-- A block written back is the product's. -/
theorem block_at (t : Fin cfg0.N) (h : t.val % 2 = 1) (i : Fin 512) (j : Fin 1024) (i' : Fin 5632) (j' : Fin 2048)
    (hi : i'.val = t.val / 4 * 512 + i.val) (hj : j'.val = t.val / 2 % 2 * 1024 + j.val) :
    (outsAt0 m c t.val t.isLt).1 (ix2 i j)
      = mulTN (K := 4096) (m ((c : Thread nD τ).loc main_arg0)) (m ((c : Thread nD τ).loc main_arg2)) (ix2 i' j') := by
  have hs : t.val - 1 < cfg0.N := Nat.lt_of_le_of_lt (Nat.sub_le _ _) t.isLt
  rw [second m c t h, last_at, first m c ⟨t.val - 1, hs⟩ (by dsimp only; omega), first_at, mulTN_at, mulTN_at, mulTN_at]
  exact dot_two rfl (fun k => blk0 m c _ k i _ _ (by dsimp only; omega) (by dsimp only; omega))
    (fun k => blk1 m c _ k j _ _ (by dsimp only; omega) (by dsimp only; omega))
    (fun k => blk0 m c _ k i _ _ (by dsimp only; omega) (by omega)) (fun k => blk1 m c _ k j _ _ (by dsimp only; omega) (by omega))

theorem kernel_result : (dats m 0 c).arrAt 2 cfg0.N
    = mulTN (K := 4096) (m ((c : Thread nD τ).loc main_arg0)) (m ((c : Thread nD τ).loc main_arg2)) := by
  refine (dats m 0 c).arrAt_eq_of_covers 2 _ (by decide +kernel) fun t hf y => ?_
  blk_simp
  rw [after0_2, mat_idx y]
  refine (block_at m c t ((flush0_2 t).1 hf) _ _ _ _ ?_ ?_).trans (congrArg _ (mat_idx _).symm)
  · blk_simp [idx t]
  · blk_simp [idx t]

theorem reference_result (a0 : FVec Ideal Cert.Reference10Ideal.S4096x5632 .f32) (a2 : FVec Ideal Cert.Reference10Ideal.S4096x2048 .f32) :
    ∀ h0 h1, (truncf .bf16 (transpose Cert.Reference10Ideal.S5632x2048 [1, 0] (Host.dotGeneral Cert.Reference10Ideal.dot_S4096x2048_S4096x5632_S2048x5632_0_0_1_1_n_n none a2 a0) h0) h1 : FVec Ideal Cert.Reference10Ideal.S5632x2048 .bf16)
      = mulTN (K := 4096) a0 a2 := by
  intro h0 h1
  refine mat_ext fun i j => ?_
  rw [mulTN_at]
  pointwise []
  exact Finset.sum_congr rfl fun k _ => mul_comm _ _

theorem algebraic : Cert.algebraic_Kernel10Ideal_Reference10Ideal (hKernel10Ideal := Cert.Kernel10Ideal.Gen.facts)
    (hReference10Ideal := Cert.Reference10Ideal.Gen.facts) := by
  intro m ρ m' ρ' _ heq
  refine ⟨fun c => mulTN (K := 4096) (m ((c : Thread nD τ).loc main_arg0)) (m ((c : Thread nD τ).loc main_arg2)), ?_, ?_⟩
  · exact (θ_run _ _ _).mono (fun r h c => ⟨(h c).1.trans (kernel_result m c), (h c).2⟩) (Cert.Kernel10Ideal.Value.run_blocks m ρ)
  · refine (θ_run _ _ _).mono (fun r h c => ⟨(h c).1.trans ?_, (h c).2⟩) (Cert.Reference10Ideal.Value.run m' ρ')
    obtain ⟨e0, -, e2⟩ := heq c
    exact (reference_result _ _ _ _).trans (congrArg₂ (mulTN (K := 4096)) e0 e2)

end Cert.Proof.GradDown

end
-- ==== Proof.FfnDown.lean ====
/-
  The gated MLP's last product, added to the residual: summed over two halves of the inner columns.
-/
module

public import proofs.«01_k».proof.Defs
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.FfnDown

open Idealize.ShloMosaic Idealize.ShloMosaic.TcCoe Idealize.ShloMosaic.Tactic Cert.Kernel11Ideal Cert.Kernel11Ideal.Gen

variable (m : (ℓ : Loc nD τ sig) → Buf (Elt Ideal) ℓ) (c : Dev nD)

theorem first_at (x : Vec Ideal S1024x2816 .bf16) (y : Vec Ideal S2816x1024 .bf16) (i : Fin 1024) (j : Fin 1024) :
    k0_pay2 x y (ix2 i j) = mulNN (K := 2816) x y (ix2 i j) := by
  unfold k0_pay2 k0_pay1
  rw [mulNN_at]
  pointwise []
theorem last_at (x : Vec Ideal S1024x2816 .bf16) (y : Vec Ideal S2816x1024 .bf16) (a : Vec Ideal S1024x1024 .f32) (z : Vec Ideal S1024x1024 .f32) (i : Fin 1024) (j : Fin 1024) :
    k0_pay4 (k0_pay3 x y a) z (ix2 i j) = a (ix2 i j) + mulNN (K := 2816) x y (ix2 i j) + z (ix2 i j) := by
  unfold k0_pay4 k0_pay3 k0_pay1
  rw [mulNN_at]
  pointwise []

/-- After an even point the accumulator holds the point's product. -/
theorem first (t : Fin cfg0.N) (h : t.val % 2 = 0) :
    (outsAt0 m c t.val t.isLt).2 = k0_pay2 (iblk m c 0 t) (iblk m c 1 t) := by
  rw [outsAt0_A m c t h (by omega) (by omega)]
  frame_out
/-- After an odd point the block is the sum of the accumulator and the point's product. -/
theorem second (t : Fin cfg0.N) (h : t.val % 2 = 1) :
    (outsAt0 m c t.val t.isLt).1 = k0_pay4 (k0_pay3 (iblk m c 0 t) (iblk m c 1 t)
      (outsAt0 m c (t.val - 1) (Nat.lt_of_le_of_lt (Nat.sub_le _ _) t.isLt)).2) (iblk m c 2 t) := by
  rw [outsAt0_B m c t (by omega) h h]
  frame_out
  simp only [read_unread_whole]

theorem idx : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] := (by decide +kernel : ∀ t : Fin grid0.N, _)

theorem blk0 (t : Fin cfg0.N) (i : Fin 1024) (k : Fin 2816) (i' : Fin 4096) (k' : Fin 5632)
    (hi : i'.val = 1024 * (t.val / 4) + i.val) (hk : k'.val = 2816 * (t.val % 2) + k.val) :
    (iblk m c 0 t : Vec Ideal S1024x2816 .bf16) (ix2 i k) = (m ((c : Thread nD τ).loc main_arg0) : FVec Ideal S4096x5632 .f32) (ix2 i' k') := by
  refine Eq.trans (b := (V m c main_v0 : FVec Ideal S4096x5632 .bf16) (ix2 i' k')) ?_ ?_
  · blk_ext [iblk, idx t, hi, hk]
  · unfold V
    after_reads_simp
    rfl
theorem blk1 (t : Fin cfg0.N) (k : Fin 2816) (j : Fin 1024) (k' : Fin 5632) (j' : Fin 2048)
    (hk : k'.val = 2816 * (t.val % 2) + k.val) (hj : j'.val = 1024 * (t.val / 2 % 2) + j.val) :
    (iblk m c 1 t : Vec Ideal S2816x1024 .bf16) (ix2 k j) = (m ((c : Thread nD τ).loc main_arg1) : FVec Ideal S5632x2048 .f32) (ix2 k' j') := by
  refine Eq.trans (b := (V m c main_v1 : FVec Ideal S5632x2048 .bf16) (ix2 k' j')) ?_ ?_
  · blk_ext [iblk, idx t, hk, hj]
  · unfold V
    after_reads_simp
    rfl
theorem blk2 (t : Fin cfg0.N) (i : Fin 1024) (j : Fin 1024) (i' : Fin 4096) (j' : Fin 2048)
    (hi : i'.val = 1024 * (t.val / 4) + i.val) (hj : j'.val = 1024 * (t.val / 2 % 2) + j.val) :
    (iblk m c 2 t : Vec Ideal S1024x1024 .f32) (ix2 i j) = (m ((c : Thread nD τ).loc main_arg2) : FVec Ideal S4096x2048 .f32) (ix2 i' j') := by
  refine Eq.trans (b := (V m c main_arg2 : FVec Ideal S4096x2048 .f32) (ix2 i' j')) ?_ ?_
  · blk_ext [iblk, idx t, hi, hj]
  · unfold V
    after_reads_simp

/-- A block written back is the product's. -/
theorem block_at (t : Fin cfg0.N) (h : t.val % 2 = 1) (i : Fin 1024) (j : Fin 1024) (i' : Fin 4096) (j' : Fin 2048)
    (hi : i'.val = t.val / 4 * 1024 + i.val) (hj : j'.val = t.val / 2 % 2 * 1024 + j.val) :
    (outsAt0 m c t.val t.isLt).1 (ix2 i j)
      = plus (mulNN (K := 5632) (m ((c : Thread nD τ).loc main_arg0)) (m ((c : Thread nD τ).loc main_arg1))) (m ((c : Thread nD τ).loc main_arg2)) (ix2 i' j') := by
  have hs : t.val - 1 < cfg0.N := Nat.lt_of_le_of_lt (Nat.sub_le _ _) t.isLt
  rw [second m c t h, last_at, first m c ⟨t.val - 1, hs⟩ (by dsimp only; omega), first_at, mulNN_at, mulNN_at, plus_at, mulNN_at]
  exact congrArg₂ (· + ·) (dot_two rfl (fun k => blk0 m c _ i k _ _ (by dsimp only; omega) (by dsimp only; omega))
    (fun k => blk1 m c _ k j _ _ (by dsimp only; omega) (by dsimp only; omega))
    (fun k => blk0 m c _ i k _ _ (by omega) (by dsimp only; omega)) (fun k => blk1 m c _ k j _ _ (by dsimp only; omega) (by omega)))
    (blk2 m c t i j _ _ (by omega) (by omega))

theorem kernel_result : (dats m 0 c).arrAt 3 cfg0.N
    = plus (mulNN (K := 5632) (m ((c : Thread nD τ).loc main_arg0)) (m ((c : Thread nD τ).loc main_arg1))) (m ((c : Thread nD τ).loc main_arg2)) := by
  refine (dats m 0 c).arrAt_eq_of_covers 3 _ (by decide +kernel) fun t hf y => ?_
  blk_simp
  rw [after0_3, mat_idx y]
  refine (block_at m c t ((flush0_3 t).1 hf) _ _ _ _ ?_ ?_).trans (congrArg _ (mat_idx _).symm)
  · blk_simp [idx t]
  · blk_simp [idx t]

theorem reference_result (a0 : FVec Ideal Cert.Reference11Ideal.S4096x5632 .f32) (a1 : FVec Ideal Cert.Reference11Ideal.S5632x2048 .f32) (a2 : FVec Ideal Cert.Reference11Ideal.S4096x2048 .f32) :
    (addf a2 (Host.dotGeneral Cert.Reference11Ideal.dot_S4096x5632_S5632x2048_S4096x2048_1_0_0_1_n_n none a0 a1) : FVec Ideal Cert.Reference11Ideal.S4096x2048 .f32)
      = plus (mulNN (K := 5632) a0 a1) a2 := by
  refine mat_ext fun i j => ?_
  rw [plus_at, mulNN_at, add_comm]
  pointwise []

theorem algebraic : Cert.algebraic_Kernel11Ideal_Reference11Ideal (hKernel11Ideal := Cert.Kernel11Ideal.Gen.facts)
    (hReference11Ideal := Cert.Reference11Ideal.Gen.facts) := by
  intro m ρ m' ρ' _ heq
  refine ⟨fun c => plus (mulNN (K := 5632) (m ((c : Thread nD τ).loc main_arg0)) (m ((c : Thread nD τ).loc main_arg1))) (m ((c : Thread nD τ).loc main_arg2)), ?_, ?_⟩
  · exact (θ_run _ _ _).mono (fun r h c => ⟨(h c).1.trans (kernel_result m c), (h c).2⟩) (Cert.Kernel11Ideal.Value.run_blocks m ρ)
  · refine (θ_run _ _ _).mono (fun r h c => ⟨(h c).1.trans ?_, (h c).2⟩) (Cert.Reference11Ideal.Value.run m' ρ')
    obtain ⟨e0, e1, e2⟩ := heq c
    exact (reference_result _ _ _).trans (congrArg₂ plus (congrArg₂ (mulNN (K := 5632)) e0 e1) e2)

end Cert.Proof.FfnDown

end
-- ==== Proof.OutProduct.lean ====
/-
  The output projection, added to the residual, block by block.
-/
module

public import proofs.«01_k».proof.Defs
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.OutProduct

open Idealize.ShloMosaic Idealize.ShloMosaic.TcCoe Idealize.ShloMosaic.Tactic Cert.Kernel12Ideal Cert.Kernel12Ideal.Gen

variable (m : (ℓ : Loc nD τ sig) → Buf (Elt Ideal) ℓ) (c : Dev nD)

theorem out_at (x : Vec Ideal S1024x2048 .bf16) (y : Vec Ideal S2048x1024 .bf16) (z : Vec Ideal S1024x1024 .f32) (i : Fin 1024) (j : Fin 1024) :
    out0_3 x y z (ix2 i j) = mulNN (K := 2048) x y (ix2 i j) + z (ix2 i j) := by
  rw [show out0_3 x y z = k0_pay1 x y z by frame_out]
  unfold k0_pay1
  rw [mulNN_at]
  pointwise []

theorem idx : ∀ t : Fin cfg0.N, win0_0.index t = ![t.val / 2, 0] ∧ win0_1.index t = ![0, t.val % 2]
    ∧ win0_2.index t = ![t.val / 2, t.val % 2] ∧ win0_3.index t = ![t.val / 2, t.val % 2] := (by decide +kernel : ∀ t : Fin grid0.N, _)

theorem blk0 (t : Fin cfg0.N) (i : Fin 1024) (k : Fin 2048) (i' : Fin 4096) (k' : Fin 2048)
    (hi : i'.val = 1024 * (t.val / 2) + i.val) (hk : k'.val = k.val) :
    (iblk m c 0 t : Vec Ideal S1024x2048 .bf16) (ix2 i k) = (m ((c : Thread nD τ).loc main_arg0) : FVec Ideal S4096x2048 .f32) (ix2 i' k') := by
  refine Eq.trans (b := (V m c main_v0 : FVec Ideal S4096x2048 .bf16) (ix2 i' k')) ?_ ?_
  · blk_ext [iblk, idx t, hi, hk]
  · unfold V
    after_reads_simp
    rfl
theorem blk1 (t : Fin cfg0.N) (k : Fin 2048) (j : Fin 1024) (k' : Fin 2048) (j' : Fin 2048)
    (hk : k'.val = k.val) (hj : j'.val = 1024 * (t.val % 2) + j.val) :
    (iblk m c 1 t : Vec Ideal S2048x1024 .bf16) (ix2 k j) = (m ((c : Thread nD τ).loc main_arg1) : FVec Ideal S2048x2048 .f32) (ix2 k' j') := by
  refine Eq.trans (b := (V m c main_v1 : FVec Ideal S2048x2048 .bf16) (ix2 k' j')) ?_ ?_
  · blk_ext [iblk, idx t, hk, hj]
  · unfold V
    after_reads_simp
    rfl
theorem blk2 (t : Fin cfg0.N) (i : Fin 1024) (j : Fin 1024) (i' : Fin 4096) (j' : Fin 2048)
    (hi : i'.val = 1024 * (t.val / 2) + i.val) (hj : j'.val = 1024 * (t.val % 2) + j.val) :
    (iblk m c 2 t : Vec Ideal S1024x1024 .f32) (ix2 i j) = (m ((c : Thread nD τ).loc main_arg2) : FVec Ideal S4096x2048 .f32) (ix2 i' j') := by
  refine Eq.trans (b := (V m c main_arg2 : FVec Ideal S4096x2048 .f32) (ix2 i' j')) ?_ ?_
  · blk_ext [iblk, idx t, hi, hj]
  · unfold V
    after_reads_simp

/-- A block written back is the product's. -/
theorem block_at (t : Fin cfg0.N) (i : Fin 1024) (j : Fin 1024) (i' : Fin 4096) (j' : Fin 2048)
    (hi : i'.val = t.val / 2 * 1024 + i.val) (hj : j'.val = t.val % 2 * 1024 + j.val) :
    out0_3 (iblk m c 0 t) (iblk m c 1 t) (iblk m c 2 t) (ix2 i j)
      = plus (mulNN (K := 2048) (m ((c : Thread nD τ).loc main_arg0)) (m ((c : Thread nD τ).loc main_arg1))) (m ((c : Thread nD τ).loc main_arg2)) (ix2 i' j') := by
  rw [out_at, mulNN_at, plus_at, mulNN_at]
  refine congrArg₂ (· + ·) (Finset.sum_congr rfl fun k _ => congrArg₂ (· * ·) (blk0 m c t i k _ _ (by omega) rfl) (blk1 m c t k j _ _ rfl (by omega))) (blk2 m c t i j _ _ (by omega) (by omega))

theorem kernel_result : (dats m 0 c).arrAt 3 cfg0.N
    = plus (mulNN (K := 2048) (m ((c : Thread nD τ).loc main_arg0)) (m ((c : Thread nD τ).loc main_arg1))) (m ((c : Thread nD τ).loc main_arg2)) := by
  refine (dats m 0 c).arrAt_eq_of_covers 3 _ (by decide +kernel) fun t hf y => ?_
  blk_simp
  rw [after0_3, mat_idx y]
  refine (block_at m c t _ _ _ _ ?_ ?_).trans (congrArg _ (mat_idx _).symm)
  · blk_simp [idx t]
  · blk_simp [idx t]

theorem reference_result (a0 : FVec Ideal Cert.Reference12Ideal.S4096x2048 .f32) (a1 : FVec Ideal Cert.Reference12Ideal.S2048x2048 .f32) (a2 : FVec Ideal Cert.Reference12Ideal.S4096x2048 .f32) :
    (addf a2 (Host.dotGeneral Cert.Reference12Ideal.dot_S4096x2048_S2048x2048_S4096x2048_1_0_0_1_n_n none a0 a1) : FVec Ideal Cert.Reference12Ideal.S4096x2048 .f32)
      = plus (mulNN (K := 2048) a0 a1) a2 := by
  refine mat_ext fun i j => ?_
  rw [plus_at, mulNN_at, add_comm]
  pointwise []

theorem algebraic : Cert.algebraic_Kernel12Ideal_Reference12Ideal (hKernel12Ideal := Cert.Kernel12Ideal.Gen.facts)
    (hReference12Ideal := Cert.Reference12Ideal.Gen.facts) := by
  intro m ρ m' ρ' _ heq
  refine ⟨fun c => plus (mulNN (K := 2048) (m ((c : Thread nD τ).loc main_arg0)) (m ((c : Thread nD τ).loc main_arg1))) (m ((c : Thread nD τ).loc main_arg2)), ?_, ?_⟩
  · exact (θ_run _ _ _).mono (fun r h c => ⟨(h c).1.trans (kernel_result m c), (h c).2⟩) (Cert.Kernel12Ideal.Value.run_blocks m ρ)
  · refine (θ_run _ _ _).mono (fun r h c => ⟨(h c).1.trans ?_, (h c).2⟩) (Cert.Reference12Ideal.Value.run m' ρ')
    obtain ⟨e0, e1, e2⟩ := heq c
    exact (reference_result _ _ _).trans (congrArg₂ plus (congrArg₂ (mulNN (K := 2048)) e0 e1) e2)

end Cert.Proof.OutProduct

end
-- ==== Proof.GradMerged.lean ====
/-
  The cotangent of the merged branches, block by block.
-/
module

public import proofs.«01_k».proof.Defs
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.GradMerged

open Idealize.ShloMosaic Idealize.ShloMosaic.TcCoe Idealize.ShloMosaic.Tactic Cert.Kernel13Ideal Cert.Kernel13Ideal.Gen

variable (m : (ℓ : Loc nD τ sig) → Buf (Elt Ideal) ℓ) (c : Dev nD)

theorem out_at (x : Vec Ideal S1024x2048 .bf16) (y : Vec Ideal S1024x2048 .bf16) (i : Fin 1024) (j : Fin 1024) :
    out0_2 x y (ix2 i j) = mulNT (K := 2048) x y (ix2 i j) := by
  rw [show out0_2 x y = k0_pay1 x y by frame_out]
  unfold k0_pay1
  rw [mulNT_at]
  pointwise []

theorem idx : ∀ t : Fin cfg0.N, win0_0.index t = ![t.val / 2, 0] ∧ win0_1.index t = ![t.val % 2, 0]
    ∧ win0_2.index t = ![t.val / 2, t.val % 2] := (by decide +kernel : ∀ t : Fin grid0.N, _)

theorem blk0 (t : Fin cfg0.N) (i : Fin 1024) (k : Fin 2048) (i' : Fin 4096) (k' : Fin 2048)
    (hi : i'.val = 1024 * (t.val / 2) + i.val) (hk : k'.val = k.val) :
    (iblk m c 0 t : Vec Ideal S1024x2048 .bf16) (ix2 i k) = (m ((c : Thread nD τ).loc main_arg2) : FVec Ideal S4096x2048 .f32) (ix2 i' k') := by
  refine Eq.trans (b := (V m c main_v0 : FVec Ideal S4096x2048 .bf16) (ix2 i' k')) ?_ ?_
  · blk_ext [iblk, idx t, hi, hk]
  · unfold V
    after_reads_simp
    rfl
theorem blk1 (t : Fin cfg0.N) (j : Fin 1024) (k : Fin 2048) (j' : Fin 2048) (k' : Fin 2048)
    (hj : j'.val = 1024 * (t.val % 2) + j.val) (hk : k'.val = k.val) :
    (iblk m c 1 t : Vec Ideal S1024x2048 .bf16) (ix2 j k) = (m ((c : Thread nD τ).loc main_arg1) : FVec Ideal S2048x2048 .f32) (ix2 j' k') := by
  refine Eq.trans (b := (V m c main_v1 : FVec Ideal S2048x2048 .bf16) (ix2 j' k')) ?_ ?_
  · blk_ext [iblk, idx t, hj, hk]
  · unfold V
    after_reads_simp
    rfl

/-- A block written back is the product's. -/
theorem block_at (t : Fin cfg0.N) (i : Fin 1024) (j : Fin 1024) (i' : Fin 4096) (j' : Fin 2048)
    (hi : i'.val = t.val / 2 * 1024 + i.val) (hj : j'.val = t.val % 2 * 1024 + j.val) :
    out0_2 (iblk m c 0 t) (iblk m c 1 t) (ix2 i j)
      = mulNT (K := 2048) (m ((c : Thread nD τ).loc main_arg2)) (m ((c : Thread nD τ).loc main_arg1)) (ix2 i' j') := by
  rw [out_at, mulNT_at, mulNT_at]
  exact Finset.sum_congr rfl fun k _ => congrArg₂ (· * ·) (blk0 m c t i k _ _ (by omega) rfl) (blk1 m c t j k _ _ (by omega) rfl)

theorem kernel_result : (dats m 0 c).arrAt 2 cfg0.N
    = mulNT (K := 2048) (m ((c : Thread nD τ).loc main_arg2)) (m ((c : Thread nD τ).loc main_arg1)) := by
  refine (dats m 0 c).arrAt_eq_of_covers 2 _ (by decide +kernel) fun t hf y => ?_
  blk_simp
  rw [after0_2, mat_idx y]
  refine (block_at m c t _ _ _ _ ?_ ?_).trans (congrArg _ (mat_idx _).symm)
  · blk_simp [idx t]
  · blk_simp [idx t]

theorem reference_result (a1 : FVec Ideal Cert.Reference13Ideal.S2048x2048 .f32) (a2 : FVec Ideal Cert.Reference13Ideal.S4096x2048 .f32) :
    ∀ h0, (truncf .bf16 (Host.dotGeneral Cert.Reference13Ideal.dot_S4096x2048_S2048x2048_S4096x2048_1_1_0_0_n_n none a2 a1) h0 : FVec Ideal Cert.Reference13Ideal.S4096x2048 .bf16)
      = mulNT (K := 2048) a2 a1 := by
  intro h0
  refine mat_ext fun i j => ?_
  rw [mulNT_at]
  pointwise []

theorem algebraic : Cert.algebraic_Kernel13Ideal_Reference13Ideal (hKernel13Ideal := Cert.Kernel13Ideal.Gen.facts)
    (hReference13Ideal := Cert.Reference13Ideal.Gen.facts) := by
  intro m ρ m' ρ' _ heq
  refine ⟨fun c => mulNT (K := 2048) (m ((c : Thread nD τ).loc main_arg2)) (m ((c : Thread nD τ).loc main_arg1)), ?_, ?_⟩
  · exact (θ_run _ _ _).mono (fun r h c => ⟨(h c).1.trans (kernel_result m c), (h c).2⟩) (Cert.Kernel13Ideal.Value.run_blocks m ρ)
  · refine (θ_run _ _ _).mono (fun r h c => ⟨(h c).1.trans ?_, (h c).2⟩) (Cert.Reference13Ideal.Value.run m' ρ')
    obtain ⟨-, e1, e2⟩ := heq c
    exact (reference_result _ _ _).trans (congrArg₂ (mulNT (K := 2048)) e2 e1)

end Cert.Proof.GradMerged

end
-- ==== Proof.GradOut.lean ====
/-
  The gradient of the output projection: summed over the two halves of the tokens.
-/
module

public import proofs.«01_k».proof.Defs
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.GradOut

open Idealize.ShloMosaic Idealize.ShloMosaic.TcCoe Idealize.ShloMosaic.Tactic Cert.Kernel14Ideal Cert.Kernel14Ideal.Gen

variable (m : (ℓ : Loc nD τ sig) → Buf (Elt Ideal) ℓ) (c : Dev nD)

theorem first_at (x : Vec Ideal S2048x1024 .bf16) (y : Vec Ideal S2048x1024 .bf16) (i : Fin 1024) (j : Fin 1024) :
    k0_pay2 x y (ix2 i j) = mulTN (K := 2048) x y (ix2 i j) := by
  unfold k0_pay2 k0_pay1
  rw [mulTN_at]
  pointwise []
theorem last_at (x : Vec Ideal S2048x1024 .bf16) (y : Vec Ideal S2048x1024 .bf16) (a : Vec Ideal S1024x1024 .f32) (i : Fin 1024) (j : Fin 1024) :
    k0_pay4 (k0_pay3 x y a) (ix2 i j) = a (ix2 i j) + mulTN (K := 2048) x y (ix2 i j) := by
  unfold k0_pay4 k0_pay3 k0_pay1
  rw [mulTN_at]
  pointwise []

/-- After an even point the accumulator holds the point's product. -/
theorem first (t : Fin cfg0.N) (h : t.val % 2 = 0) :
    (outsAt0 m c t.val t.isLt).2 = k0_pay2 (iblk m c 0 t) (iblk m c 1 t) := by
  rw [outsAt0_A m c t h (by omega) (by omega)]
  frame_out
/-- After an odd point the block is the sum of the accumulator and the point's product. -/
theorem second (t : Fin cfg0.N) (h : t.val % 2 = 1) :
    (outsAt0 m c t.val t.isLt).1 = k0_pay4 (k0_pay3 (iblk m c 0 t) (iblk m c 1 t)
      (outsAt0 m c (t.val - 1) (Nat.lt_of_le_of_lt (Nat.sub_le _ _) t.isLt)).2) := by
  rw [outsAt0_B m c t (by omega) h h]
  frame_out
  simp only [read_unread_whole]

theorem idx : ∀ t : Fin cfg0.N, win0_0.index t = ![t.val % 2, t.val / 4] ∧ win0_1.index t = ![t.val % 2, t.val / 2 % 2]
    ∧ win0_2.index t = ![t.val / 4, t.val / 2 % 2] := (by decide +kernel : ∀ t : Fin grid0.N, _)

theorem blk0 (t : Fin cfg0.N) (k : Fin 2048) (i : Fin 1024) (k' : Fin 4096) (i' : Fin 2048)
    (hk : k'.val = 2048 * (t.val % 2) + k.val) (hi : i'.val = 1024 * (t.val / 4) + i.val) :
    (iblk m c 0 t : Vec Ideal S2048x1024 .bf16) (ix2 k i) = (m ((c : Thread nD τ).loc main_arg0) : FVec Ideal S4096x2048 .f32) (ix2 k' i') := by
  refine Eq.trans (b := (V m c main_v0 : FVec Ideal S4096x2048 .bf16) (ix2 k' i')) ?_ ?_
  · blk_ext [iblk, idx t, hk, hi]
  · unfold V
    after_reads_simp
    rfl
theorem blk1 (t : Fin cfg0.N) (k : Fin 2048) (j : Fin 1024) (k' : Fin 4096) (j' : Fin 2048)
    (hk : k'.val = 2048 * (t.val % 2) + k.val) (hj : j'.val = 1024 * (t.val / 2 % 2) + j.val) :
    (iblk m c 1 t : Vec Ideal S2048x1024 .bf16) (ix2 k j) = (m ((c : Thread nD τ).loc main_arg2) : FVec Ideal S4096x2048 .f32) (ix2 k' j') := by
  refine Eq.trans (b := (V m c main_v1 : FVec Ideal S4096x2048 .bf16) (ix2 k' j')) ?_ ?_
  · blk_ext [iblk, idx t, hk, hj]
  · unfold V
    after_reads_simp
    rfl

/-- A block written back is the product's. -/
theorem block_at (t : Fin cfg0.N) (h : t.val % 2 = 1) (i : Fin 1024) (j : Fin 1024) (i' : Fin 2048) (j' : Fin 2048)
    (hi : i'.val = t.val / 4 * 1024 + i.val) (hj : j'.val = t.val / 2 % 2 * 1024 + j.val) :
    (outsAt0 m c t.val t.isLt).1 (ix2 i j)
      = mulTN (K := 4096) (m ((c : Thread nD τ).loc main_arg0)) (m ((c : Thread nD τ).loc main_arg2)) (ix2 i' j') := by
  have hs : t.val - 1 < cfg0.N := Nat.lt_of_le_of_lt (Nat.sub_le _ _) t.isLt
  rw [second m c t h, last_at, first m c ⟨t.val - 1, hs⟩ (by dsimp only; omega), first_at, mulTN_at, mulTN_at, mulTN_at]
  exact dot_two rfl (fun k => blk0 m c _ k i _ _ (by dsimp only; omega) (by dsimp only; omega))
    (fun k => blk1 m c _ k j _ _ (by dsimp only; omega) (by dsimp only; omega))
    (fun k => blk0 m c _ k i _ _ (by dsimp only; omega) (by omega)) (fun k => blk1 m c _ k j _ _ (by dsimp only; omega) (by omega))

theorem kernel_result : (dats m 0 c).arrAt 2 cfg0.N
    = mulTN (K := 4096) (m ((c : Thread nD τ).loc main_arg0)) (m ((c : Thread nD τ).loc main_arg2)) := by
  refine (dats m 0 c).arrAt_eq_of_covers 2 _ (by decide +kernel) fun t hf y => ?_
  blk_simp
  rw [after0_2, mat_idx y]
  refine (block_at m c t ((flush0_2 t).1 hf) _ _ _ _ ?_ ?_).trans (congrArg _ (mat_idx _).symm)
  · blk_simp [idx t]
  · blk_simp [idx t]

theorem reference_result (a0 : FVec Ideal Cert.Reference14Ideal.S4096x2048 .f32) (a2 : FVec Ideal Cert.Reference14Ideal.S4096x2048 .f32) :
    ∀ h0 h1, (truncf .bf16 (transpose Cert.Reference14Ideal.S2048x2048 [1, 0] (Host.dotGeneral Cert.Reference14Ideal.dot_S4096x2048_S4096x2048_S2048x2048_0_0_1_1_n_n none a2 a0) h0) h1 : FVec Ideal Cert.Reference14Ideal.S2048x2048 .bf16)
      = mulTN (K := 4096) a0 a2 := by
  intro h0 h1
  refine mat_ext fun i j => ?_
  rw [mulTN_at]
  pointwise []
  exact Finset.sum_congr rfl fun k _ => mul_comm _ _

theorem algebraic : Cert.algebraic_Kernel14Ideal_Reference14Ideal (hKernel14Ideal := Cert.Kernel14Ideal.Gen.facts)
    (hReference14Ideal := Cert.Reference14Ideal.Gen.facts) := by
  intro m ρ m' ρ' _ heq
  refine ⟨fun c => mulTN (K := 4096) (m ((c : Thread nD τ).loc main_arg0)) (m ((c : Thread nD τ).loc main_arg2)), ?_, ?_⟩
  · exact (θ_run _ _ _).mono (fun r h c => ⟨(h c).1.trans (kernel_result m c), (h c).2⟩) (Cert.Kernel14Ideal.Value.run_blocks m ρ)
  · refine (θ_run _ _ _).mono (fun r h c => ⟨(h c).1.trans ?_, (h c).2⟩) (Cert.Reference14Ideal.Value.run m' ρ')
    obtain ⟨e0, -, e2⟩ := heq c
    exact (reference_result _ _ _ _).trans (congrArg₂ (mulTN (K := 4096)) e0 e2)

end Cert.Proof.GradOut

end
-- ==== Proof.Branch.lean ====
/-
  A branch's projection, block by block.
-/
module

public import proofs.«01_k».proof.Defs
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.Branch

open Idealize.ShloMosaic Idealize.ShloMosaic.TcCoe Idealize.ShloMosaic.Tactic Cert.Kernel15Ideal Cert.Kernel15Ideal.Gen

variable (m : (ℓ : Loc nD τ sig) → Buf (Elt Ideal) ℓ) (c : Dev nD)

theorem out_at (x : Vec Ideal S1024x1024 .bf16) (y : Vec Ideal S1024x1024 .bf16) (i : Fin 1024) (j : Fin 1024) :
    out0_2 x y (ix2 i j) = mulNN (K := 1024) x y (ix2 i j) := by
  rw [show out0_2 x y = k0_pay1 x y by frame_out]
  unfold k0_pay1
  rw [mulNN_at]
  pointwise []

theorem idx : ∀ t : Fin cfg0.N, win0_0.index t = ![t.val / 2, 0] ∧ win0_1.index t = ![0, t.val % 2]
    ∧ win0_2.index t = ![t.val / 2, t.val % 2] := (by decide +kernel : ∀ t : Fin grid0.N, _)

theorem blk0 (t : Fin cfg0.N) (i : Fin 1024) (k : Fin 1024) (i' : Fin 4096) (k' : Fin 1024)
    (hi : i'.val = 1024 * (t.val / 2) + i.val) (hk : k'.val = k.val) :
    (iblk m c 0 t : Vec Ideal S1024x1024 .bf16) (ix2 i k) = (m ((c : Thread nD τ).loc main_arg0) : FVec Ideal S4096x1024 .f32) (ix2 i' k') := by
  refine Eq.trans (b := (V m c main_v0 : FVec Ideal S4096x1024 .bf16) (ix2 i' k')) ?_ ?_
  · blk_ext [iblk, idx t, hi, hk]
  · unfold V
    after_reads_simp
    rfl
theorem blk1 (t : Fin cfg0.N) (k : Fin 1024) (j : Fin 1024) (k' : Fin 1024) (j' : Fin 2048)
    (hk : k'.val = k.val) (hj : j'.val = 1024 * (t.val % 2) + j.val) :
    (iblk m c 1 t : Vec Ideal S1024x1024 .bf16) (ix2 k j) = (m ((c : Thread nD τ).loc main_arg1) : FVec Ideal S1024x2048 .f32) (ix2 k' j') := by
  refine Eq.trans (b := (V m c main_v1 : FVec Ideal S1024x2048 .bf16) (ix2 k' j')) ?_ ?_
  · blk_ext [iblk, idx t, hk, hj]
  · unfold V
    after_reads_simp
    rfl

/-- A block written back is the product's. -/
theorem block_at (t : Fin cfg0.N) (i : Fin 1024) (j : Fin 1024) (i' : Fin 4096) (j' : Fin 2048)
    (hi : i'.val = t.val / 2 * 1024 + i.val) (hj : j'.val = t.val % 2 * 1024 + j.val) :
    out0_2 (iblk m c 0 t) (iblk m c 1 t) (ix2 i j)
      = mulNN (K := 1024) (m ((c : Thread nD τ).loc main_arg0)) (m ((c : Thread nD τ).loc main_arg1)) (ix2 i' j') := by
  rw [out_at, mulNN_at, mulNN_at]
  exact Finset.sum_congr rfl fun k _ => congrArg₂ (· * ·) (blk0 m c t i k _ _ (by omega) rfl) (blk1 m c t k j _ _ rfl (by omega))

theorem kernel_result : (dats m 0 c).arrAt 2 cfg0.N
    = mulNN (K := 1024) (m ((c : Thread nD τ).loc main_arg0)) (m ((c : Thread nD τ).loc main_arg1)) := by
  refine (dats m 0 c).arrAt_eq_of_covers 2 _ (by decide +kernel) fun t hf y => ?_
  blk_simp
  rw [after0_2, mat_idx y]
  refine (block_at m c t _ _ _ _ ?_ ?_).trans (congrArg _ (mat_idx _).symm)
  · blk_simp [idx t]
  · blk_simp [idx t]

theorem reference_result (a0 : FVec Ideal Cert.Reference15Ideal.S4096x1024 .f32) (a1 : FVec Ideal Cert.Reference15Ideal.S1024x2048 .f32) :
    ∀ h0, (truncf .bf16 (Host.dotGeneral Cert.Reference15Ideal.dot_S4096x1024_S1024x2048_S4096x2048_1_0_0_1_n_n none a0 a1) h0 : FVec Ideal Cert.Reference15Ideal.S4096x2048 .bf16)
      = mulNN (K := 1024) a0 a1 := by
  intro h0
  refine mat_ext fun i j => ?_
  rw [mulNN_at]
  pointwise []

theorem algebraic : Cert.algebraic_Kernel15Ideal_Reference15Ideal (hKernel15Ideal := Cert.Kernel15Ideal.Gen.facts)
    (hReference15Ideal := Cert.Reference15Ideal.Gen.facts) := by
  intro m ρ m' ρ' _ heq
  refine ⟨fun c => mulNN (K := 1024) (m ((c : Thread nD τ).loc main_arg0)) (m ((c : Thread nD τ).loc main_arg1)), ?_, ?_⟩
  · exact (θ_run _ _ _).mono (fun r h c => ⟨(h c).1.trans (kernel_result m c), (h c).2⟩) (Cert.Kernel15Ideal.Value.run_blocks m ρ)
  · refine (θ_run _ _ _).mono (fun r h c => ⟨(h c).1.trans ?_, (h c).2⟩) (Cert.Reference15Ideal.Value.run m' ρ')
    obtain ⟨e0, e1⟩ := heq c
    exact (reference_result _ _ _).trans (congrArg₂ (mulNN (K := 1024)) e0 e1)

end Cert.Proof.Branch

end
-- ==== Proof.GradBranch.lean ====
/-
  A branch's cotangent, block by block.
-/
module

public import proofs.«01_k».proof.Defs
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.GradBranch

open Idealize.ShloMosaic Idealize.ShloMosaic.TcCoe Idealize.ShloMosaic.Tactic Cert.Kernel16Ideal Cert.Kernel16Ideal.Gen

variable (m : (ℓ : Loc nD τ sig) → Buf (Elt Ideal) ℓ) (c : Dev nD)

theorem out_at (x : Vec Ideal S1024x2048 .bf16) (y : Vec Ideal S1024x2048 .bf16) (i : Fin 1024) (j : Fin 1024) :
    out0_2 x y (ix2 i j) = mulNT (K := 2048) x y (ix2 i j) := by
  rw [show out0_2 x y = k0_pay1 x y by frame_out]
  unfold k0_pay1
  rw [mulNT_at]
  pointwise []

theorem idx : ∀ t : Fin cfg0.N, win0_0.index t = ![t.val, 0] ∧ win0_1.index t = ![0, 0]
    ∧ win0_2.index t = ![t.val, 0] := (by decide +kernel : ∀ t : Fin grid0.N, _)

theorem blk0 (t : Fin cfg0.N) (i : Fin 1024) (k : Fin 2048) (i' : Fin 4096) (k' : Fin 2048)
    (hi : i'.val = 1024 * (t.val) + i.val) (hk : k'.val = k.val) :
    (iblk m c 0 t : Vec Ideal S1024x2048 .bf16) (ix2 i k) = (m ((c : Thread nD τ).loc main_arg2) : FVec Ideal S4096x2048 .f32) (ix2 i' k') := by
  refine Eq.trans (b := (V m c main_v0 : FVec Ideal S4096x2048 .bf16) (ix2 i' k')) ?_ ?_
  · blk_ext [iblk, idx t, hi, hk]
  · unfold V
    after_reads_simp
    rfl
theorem blk1 (t : Fin cfg0.N) (j : Fin 1024) (k : Fin 2048) (j' : Fin 1024) (k' : Fin 2048)
    (hj : j'.val = j.val) (hk : k'.val = k.val) :
    (iblk m c 1 t : Vec Ideal S1024x2048 .bf16) (ix2 j k) = (m ((c : Thread nD τ).loc main_arg1) : FVec Ideal S1024x2048 .f32) (ix2 j' k') := by
  refine Eq.trans (b := (V m c main_v1 : FVec Ideal S1024x2048 .bf16) (ix2 j' k')) ?_ ?_
  · blk_ext [iblk, idx t, hj, hk]
  · unfold V
    after_reads_simp
    rfl

/-- A block written back is the product's. -/
theorem block_at (t : Fin cfg0.N) (i : Fin 1024) (j : Fin 1024) (i' : Fin 4096) (j' : Fin 1024)
    (hi : i'.val = t.val * 1024 + i.val) (hj : j'.val = j.val) :
    out0_2 (iblk m c 0 t) (iblk m c 1 t) (ix2 i j)
      = mulNT (K := 2048) (m ((c : Thread nD τ).loc main_arg2)) (m ((c : Thread nD τ).loc main_arg1)) (ix2 i' j') := by
  rw [out_at, mulNT_at, mulNT_at]
  exact Finset.sum_congr rfl fun k _ => congrArg₂ (· * ·) (blk0 m c t i k _ _ (by omega) rfl) (blk1 m c t j k _ _ (by omega) rfl)

theorem kernel_result : (dats m 0 c).arrAt 2 cfg0.N
    = mulNT (K := 2048) (m ((c : Thread nD τ).loc main_arg2)) (m ((c : Thread nD τ).loc main_arg1)) := by
  refine (dats m 0 c).arrAt_eq_of_covers 2 _ (by decide +kernel) fun t hf y => ?_
  blk_simp
  rw [after0_2, mat_idx y]
  refine (block_at m c t _ _ _ _ ?_ ?_).trans (congrArg _ (mat_idx _).symm)
  · blk_simp [idx t]
  · blk_simp [idx t]

theorem reference_result (a1 : FVec Ideal Cert.Reference16Ideal.S1024x2048 .f32) (a2 : FVec Ideal Cert.Reference16Ideal.S4096x2048 .f32) :
    (Host.dotGeneral Cert.Reference16Ideal.dot_S4096x2048_S1024x2048_S4096x1024_1_1_0_0_n_n none a2 a1 : FVec Ideal Cert.Reference16Ideal.S4096x1024 .f32)
      = mulNT (K := 2048) a2 a1 := by
  refine mat_ext fun i j => ?_
  rw [mulNT_at]
  pointwise []

theorem algebraic : Cert.algebraic_Kernel16Ideal_Reference16Ideal (hKernel16Ideal := Cert.Kernel16Ideal.Gen.facts)
    (hReference16Ideal := Cert.Reference16Ideal.Gen.facts) := by
  intro m ρ m' ρ' _ heq
  refine ⟨fun c => mulNT (K := 2048) (m ((c : Thread nD τ).loc main_arg2)) (m ((c : Thread nD τ).loc main_arg1)), ?_, ?_⟩
  · exact (θ_run _ _ _).mono (fun r h c => ⟨(h c).1.trans (kernel_result m c), (h c).2⟩) (Cert.Kernel16Ideal.Value.run_blocks m ρ)
  · refine (θ_run _ _ _).mono (fun r h c => ⟨(h c).1.trans ?_, (h c).2⟩) (Cert.Reference16Ideal.Value.run m' ρ')
    obtain ⟨-, e1, e2⟩ := heq c
    exact (reference_result _ _).trans (congrArg₂ (mulNT (K := 2048)) e2 e1)

end Cert.Proof.GradBranch

end
-- ==== Proof.GradBranchW.lean ====
/-
  The gradient of a branch's projection: summed over the two halves of the tokens.
-/
module

public import proofs.«01_k».proof.Defs
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.GradBranchW

open Idealize.ShloMosaic Idealize.ShloMosaic.TcCoe Idealize.ShloMosaic.Tactic Cert.Kernel17Ideal Cert.Kernel17Ideal.Gen

variable (m : (ℓ : Loc nD τ sig) → Buf (Elt Ideal) ℓ) (c : Dev nD)

theorem first_at (x : Vec Ideal S2048x1024 .bf16) (y : Vec Ideal S2048x1024 .bf16) (i : Fin 1024) (j : Fin 1024) :
    k0_pay2 x y (ix2 i j) = mulTN (K := 2048) x y (ix2 i j) := by
  unfold k0_pay2 k0_pay1
  rw [mulTN_at]
  pointwise []
theorem last_at (x : Vec Ideal S2048x1024 .bf16) (y : Vec Ideal S2048x1024 .bf16) (a : Vec Ideal S1024x1024 .f32) (i : Fin 1024) (j : Fin 1024) :
    k0_pay4 (k0_pay3 x y a) (ix2 i j) = a (ix2 i j) + mulTN (K := 2048) x y (ix2 i j) := by
  unfold k0_pay4 k0_pay3 k0_pay1
  rw [mulTN_at]
  pointwise []

/-- After an even point the accumulator holds the point's product. -/
theorem first (t : Fin cfg0.N) (h : t.val % 2 = 0) :
    (outsAt0 m c t.val t.isLt).2 = k0_pay2 (iblk m c 0 t) (iblk m c 1 t) := by
  rw [outsAt0_A m c t h (by omega) (by omega)]
  frame_out
/-- After an odd point the block is the sum of the accumulator and the point's product. -/
theorem second (t : Fin cfg0.N) (h : t.val % 2 = 1) :
    (outsAt0 m c t.val t.isLt).1 = k0_pay4 (k0_pay3 (iblk m c 0 t) (iblk m c 1 t)
      (outsAt0 m c (t.val - 1) (Nat.lt_of_le_of_lt (Nat.sub_le _ _) t.isLt)).2) := by
  rw [outsAt0_B m c t (by omega) h h]
  frame_out
  simp only [read_unread_whole]

theorem idx : ∀ t : Fin cfg0.N, win0_0.index t = ![t.val % 2, 0] ∧ win0_1.index t = ![t.val % 2, t.val / 2 % 2]
    ∧ win0_2.index t = ![0, t.val / 2 % 2] := (by decide +kernel : ∀ t : Fin grid0.N, _)

theorem blk0 (t : Fin cfg0.N) (k : Fin 2048) (i : Fin 1024) (k' : Fin 4096) (i' : Fin 1024)
    (hk : k'.val = 2048 * (t.val % 2) + k.val) (hi : i'.val = i.val) :
    (iblk m c 0 t : Vec Ideal S2048x1024 .bf16) (ix2 k i) = (m ((c : Thread nD τ).loc main_arg0) : FVec Ideal S4096x1024 .f32) (ix2 k' i') := by
  refine Eq.trans (b := (V m c main_v0 : FVec Ideal S4096x1024 .bf16) (ix2 k' i')) ?_ ?_
  · blk_ext [iblk, idx t, hk, hi]
  · unfold V
    after_reads_simp
    rfl
theorem blk1 (t : Fin cfg0.N) (k : Fin 2048) (j : Fin 1024) (k' : Fin 4096) (j' : Fin 2048)
    (hk : k'.val = 2048 * (t.val % 2) + k.val) (hj : j'.val = 1024 * (t.val / 2 % 2) + j.val) :
    (iblk m c 1 t : Vec Ideal S2048x1024 .bf16) (ix2 k j) = (m ((c : Thread nD τ).loc main_arg2) : FVec Ideal S4096x2048 .f32) (ix2 k' j') := by
  refine Eq.trans (b := (V m c main_v1 : FVec Ideal S4096x2048 .bf16) (ix2 k' j')) ?_ ?_
  · blk_ext [iblk, idx t, hk, hj]
  · unfold V
    after_reads_simp
    rfl

/-- A block written back is the product's. -/
theorem block_at (t : Fin cfg0.N) (h : t.val % 2 = 1) (i : Fin 1024) (j : Fin 1024) (i' : Fin 1024) (j' : Fin 2048)
    (hi : i'.val = i.val) (hj : j'.val = t.val / 2 % 2 * 1024 + j.val) :
    (outsAt0 m c t.val t.isLt).1 (ix2 i j)
      = mulTN (K := 4096) (m ((c : Thread nD τ).loc main_arg0)) (m ((c : Thread nD τ).loc main_arg2)) (ix2 i' j') := by
  have hs : t.val - 1 < cfg0.N := Nat.lt_of_le_of_lt (Nat.sub_le _ _) t.isLt
  rw [second m c t h, last_at, first m c ⟨t.val - 1, hs⟩ (by dsimp only; omega), first_at, mulTN_at, mulTN_at, mulTN_at]
  exact dot_two rfl (fun k => blk0 m c _ k i _ _ (by dsimp only; omega) (by omega))
    (fun k => blk1 m c _ k j _ _ (by dsimp only; omega) (by dsimp only; omega))
    (fun k => blk0 m c _ k i _ _ (by dsimp only; omega) (by omega)) (fun k => blk1 m c _ k j _ _ (by dsimp only; omega) (by omega))

theorem kernel_result : (dats m 0 c).arrAt 2 cfg0.N
    = mulTN (K := 4096) (m ((c : Thread nD τ).loc main_arg0)) (m ((c : Thread nD τ).loc main_arg2)) := by
  refine (dats m 0 c).arrAt_eq_of_covers 2 _ (by decide +kernel) fun t hf y => ?_
  blk_simp
  rw [after0_2, mat_idx y]
  refine (block_at m c t ((flush0_2 t).1 hf) _ _ _ _ ?_ ?_).trans (congrArg _ (mat_idx _).symm)
  · blk_simp [idx t]
  · blk_simp [idx t]

theorem reference_result (a0 : FVec Ideal Cert.Reference17Ideal.S4096x1024 .f32) (a2 : FVec Ideal Cert.Reference17Ideal.S4096x2048 .f32) :
    ∀ h0 h1, (truncf .bf16 (transpose Cert.Reference17Ideal.S1024x2048 [1, 0] (Host.dotGeneral Cert.Reference17Ideal.dot_S4096x2048_S4096x1024_S2048x1024_0_0_1_1_n_n none a2 a0) h0) h1 : FVec Ideal Cert.Reference17Ideal.S1024x2048 .bf16)
      = mulTN (K := 4096) a0 a2 := by
  intro h0 h1
  refine mat_ext fun i j => ?_
  rw [mulTN_at]
  pointwise []
  exact Finset.sum_congr rfl fun k _ => mul_comm _ _

theorem algebraic : Cert.algebraic_Kernel17Ideal_Reference17Ideal (hKernel17Ideal := Cert.Kernel17Ideal.Gen.facts)
    (hReference17Ideal := Cert.Reference17Ideal.Gen.facts) := by
  intro m ρ m' ρ' _ heq
  refine ⟨fun c => mulTN (K := 4096) (m ((c : Thread nD τ).loc main_arg0)) (m ((c : Thread nD τ).loc main_arg2)), ?_, ?_⟩
  · exact (θ_run _ _ _).mono (fun r h c => ⟨(h c).1.trans (kernel_result m c), (h c).2⟩) (Cert.Kernel17Ideal.Value.run_blocks m ρ)
  · refine (θ_run _ _ _).mono (fun r h c => ⟨(h c).1.trans ?_, (h c).2⟩) (Cert.Reference17Ideal.Value.run m' ρ')
    obtain ⟨e0, -, e2⟩ := heq c
    exact (reference_result _ _ _ _).trans (congrArg₂ (mulTN (K := 4096)) e0 e2)

end Cert.Proof.GradBranchW

end
-- ==== Proof.Gates.lean ====
/-
  The merge gates over the extended reals: the sigmoid by the hyperbolic tangent and by the exponential.
-/
module

public import proofs.«01_k».proof.Proof.Products
public import Idealize.ShloMosaic.Lib.IdealHost

@[expose] public section

noncomputable section

namespace Cert.Proof

open Idealize.ShloMosaic

/-- A matrix with the columns from `o` on of another. -/
def columns {a b n : ℕ} (o : ℕ) (h : o + n ≤ b) (A : Mat a b) : Mat a n := fun y =>
  A (ix2 (y 0) ⟨o + (y 1).val, Nat.lt_of_lt_of_le (Nat.add_lt_add_left (y 1).isLt o) h⟩)

/-- The sigmoid at each entry. -/
def gate {a b : ℕ} (G : Mat a b) : Mat a b := fun y => Ideal.logistic (G y)

/-- The entries' products. -/
def times {a b : ℕ} (A B : Mat a b) : Mat a b := fun y => A y * B y

/-- What the sigmoid's derivative multiplies: `σ (1 - σ)`. -/
def slope {a b : ℕ} (G : Mat a b) : Mat a b := fun y => Ideal.logistic (G y) * (1 - Ideal.logistic (G y))

theorem half : Ideal.ofBits .f32 0x3F000000#32 = ((1 / 2 : ℝ) : EReal) := by
  simp [Ideal.ofBits, Ideal.ieee, -EReal.coe_mul]; norm_num

theorem one : Ideal.ofBits .f32 0x3F800000#32 = 1 := by
  simp [Ideal.ofBits, Ideal.ieee, -EReal.coe_mul]; norm_num

theorem sigmoid_real (r : ℝ) : 1 / 2 * Real.tanh (1 / 2 * r) + 1 / 2 = (1 + Real.exp (-r))⁻¹ := by
  have h : Real.exp (-r) = Real.exp (-(1 / 2 * r)) * Real.exp (-(1 / 2 * r)) := by rw [← Real.exp_add]; congr 1; ring
  have e : Real.exp (1 / 2 * r) * Real.exp (-(1 / 2 * r)) = 1 := by rw [← Real.exp_add, add_neg_cancel, Real.exp_zero]
  have p := Real.exp_pos (1 / 2 * r)
  have q := Real.exp_pos (-(1 / 2 * r))
  rw [Real.tanh_eq, h]
  generalize Real.exp (1 / 2 * r) = x at *
  generalize Real.exp (-(1 / 2 * r)) = y at *
  have : 0 < x + y := by positivity
  have : 0 < 1 + y * y := by positivity
  field_simp
  linear_combination 2 * y * e

/-- The sigmoid by the hyperbolic tangent of half the argument, at the infinities too. -/
theorem sigmoid (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, ← EReal.coe_one, ← EReal.coe_neg, ← EReal.coe_mul,
      ← EReal.coe_add, ← EReal.coe_zero]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add, sigmoid_real]

end Cert.Proof

end
-- ==== Proof.GradMerge.lean ====
/-
  The cotangents of the merge: of the two branches and of the two gates, block by block.
-/
module

public import proofs.«01_k».proof.Defs
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gates
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.GradMerge

open Idealize.ShloMosaic Idealize.ShloMosaic.TcCoe Idealize.ShloMosaic.Tactic Cert.Kernel18Ideal Cert.Kernel18Ideal.Gen

variable (m : (ℓ : Loc nD τ sig) → Buf (Elt Ideal) ℓ) (c : Dev nD)

/-- A gate of a block. -/
theorem gate_a (g : Vec Ideal S256x2048 .bf16) (i : Fin 256) (j : Fin 2048) :
    k0_pay5 g (ix2 i j) = Ideal.logistic (g (ix2 i j)) := by
  refine Eq.trans ?_ (sigmoid (g (ix2 i j)))
  rw [← half]
  unfold k0_pay5
  pointwise []

theorem gate_b (g : Vec Ideal S256x2048 .bf16) (i : Fin 256) (j : Fin 2048) :
    k0_pay6 g (ix2 i j) = Ideal.logistic (g (ix2 i j)) := by
  refine Eq.trans ?_ (sigmoid (g (ix2 i j)))
  rw [← half]
  unfold k0_pay6
  pointwise []

/-- What is stored for a branch and for a gate, from the blocks read. -/
theorem branch_a (d g : FVec Ideal S256x2048 .bf16) (i : Fin 256) (j : Fin 2048) :
    k0_pay7 (F := Ideal) d g (ix2 i j) = times d (gate g) (ix2 i j) := by
  refine Eq.trans ?_ (congrArg (d (ix2 i j) * ·) (gate_a g i j))
  unfold k0_pay7 k0_pay3
  pointwise []

theorem branch_b (d g : FVec Ideal S256x2048 .bf16) (i : Fin 256) (j : Fin 2048) :
    k0_pay8 (F := Ideal) d g (ix2 i j) = times d (gate g) (ix2 i j) := by
  refine Eq.trans ?_ (congrArg (d (ix2 i j) * ·) (gate_b g i j))
  unfold k0_pay8 k0_pay3
  pointwise []

theorem slope_a (d g a : FVec Ideal S256x2048 .bf16) (i : Fin 256) (j : Fin 2048) :
    k0_pay1 (F := Ideal) (k0_pay5 g) (k0_pay9 d g a) (ix2 i j) = times (times d a) (slope g) (ix2 i j) := by
  refine Eq.trans ?_ (mul_assoc (d (ix2 i j) * a (ix2 i j)) (Ideal.logistic (g (ix2 i j))) (1 - Ideal.logistic (g (ix2 i j))))
  rw [← gate_a, ← one]
  unfold k0_pay1 k0_pay9 k0_pay3
  pointwise []

theorem slope_b (d g b : FVec Ideal S256x2048 .bf16) (i : Fin 256) (j : Fin 2048) :
    k0_pay2 (F := Ideal) (k0_pay3 d) (k0_pay4 b) (k0_pay6 g) (ix2 i j) = times (times d b) (slope g) (ix2 i j) := by
  refine Eq.trans ?_ (mul_assoc (d (ix2 i j) * b (ix2 i j)) (Ideal.logistic (g (ix2 i j))) (1 - Ideal.logistic (g (ix2 i j))))
  rw [← gate_b, ← one]
  unfold k0_pay2 k0_pay4 k0_pay3
  pointwise []

theorem stored (t : Fin cfg0.N) : outsAt0 m c t = (k0_pay7 (iblk m c 4 t) (X0_0 m c t), k0_pay8 (iblk m c 4 t) (X0_1 m c t),
    k0_pay1 (k0_pay5 (X0_0 m c t)) (k0_pay9 (iblk m c 4 t) (X0_0 m c t) (iblk m c 2 t)),
    k0_pay2 (k0_pay3 (iblk m c 4 t)) (k0_pay4 (iblk m c 3 t)) (k0_pay6 (X0_1 m c t))) := by
  unfold outsAt0
  refine Prod.ext ?_ (Prod.ext ?_ (Prod.ext ?_ ?_))
  · frame_out
  · frame_out
  · frame_out
  · frame_out

theorem idx : ∀ t : Fin cfg0.N, win0_0.index t = ![t.val, 3] ∧ win0_1.index t = ![t.val, 4] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] := (by decide +kernel : ∀ t : Fin grid0.N, _)

theorem blk2 (t : Fin cfg0.N) (i : Fin 256) (j : Fin 2048) (i' : Fin 4096) (j' : Fin 2048)
    (hi : i'.val = 256 * t.val + i.val) (hj : j'.val = j.val) :
    (iblk m c 2 t : Vec Ideal S256x2048 .bf16) (ix2 i j) = (m ((c : Thread nD τ).loc main_arg1) : FVec Ideal S4096x2048 .f32) (ix2 i' j') := by
  refine Eq.trans (b := (V m c main_v1 : FVec Ideal S4096x2048 .bf16) (ix2 i' j')) ?_ ?_
  · blk_ext [iblk, idx t, hi, hj]
  · unfold V
    after_reads_simp
    rfl

theorem blk3 (t : Fin cfg0.N) (i : Fin 256) (j : Fin 2048) (i' : Fin 4096) (j' : Fin 2048)
    (hi : i'.val = 256 * t.val + i.val) (hj : j'.val = j.val) :
    (iblk m c 3 t : Vec Ideal S256x2048 .bf16) (ix2 i j) = (m ((c : Thread nD τ).loc main_arg2) : FVec Ideal S4096x2048 .f32) (ix2 i' j') := by
  refine Eq.trans (b := (V m c main_v2 : FVec Ideal S4096x2048 .bf16) (ix2 i' j')) ?_ ?_
  · blk_ext [iblk, idx t, hi, hj]
  · unfold V
    after_reads_simp
    rfl

theorem blk4 (t : Fin cfg0.N) (i : Fin 256) (j : Fin 2048) (i' : Fin 4096) (j' : Fin 2048)
    (hi : i'.val = 256 * t.val + i.val) (hj : j'.val = j.val) :
    (iblk m c 4 t : Vec Ideal S256x2048 .bf16) (ix2 i j) = (m ((c : Thread nD τ).loc main_arg3) : FVec Ideal S4096x2048 .f32) (ix2 i' j') := by
  refine Eq.trans (b := (V m c main_v3 : FVec Ideal S4096x2048 .bf16) (ix2 i' j')) ?_ ?_
  · blk_ext [iblk, idx t, hi, hj]
  · unfold V
    after_reads_simp
    rfl

theorem gates0 (t : Fin cfg0.N) (i : Fin 256) (j : Fin 2048) (i' : Fin 4096) (j' : Fin 10368)
    (hi : i'.val = 256 * t.val + i.val) (hj : j'.val = 6144 + j.val) :
    (X0_0 m c t : Vec Ideal S256x2048 .bf16) (ix2 i j) = (m ((c : Thread nD τ).loc main_arg0) : FVec Ideal S4096x10368 .f32) (ix2 i' j') := by
  refine Eq.trans (b := (V m c main_v0 : FVec Ideal S4096x10368 .bf16) (ix2 i' j')) ?_ ?_
  · unfold X0_0 Pipeline.Window.fill
    rw [dif_pos (moved0_0 t _)]
    blk_ext [iblk, idx t, hi, hj]
  · unfold V
    after_reads_simp
    rfl

theorem gates1 (t : Fin cfg0.N) (i : Fin 256) (j : Fin 2048) (i' : Fin 4096) (j' : Fin 10368)
    (hi : i'.val = 256 * t.val + i.val) (hj : j'.val = 8192 + j.val) :
    (X0_1 m c t : Vec Ideal S256x2048 .bf16) (ix2 i j) = (m ((c : Thread nD τ).loc main_arg0) : FVec Ideal S4096x10368 .f32) (ix2 i' j') := by
  refine Eq.trans (b := (V m c main_v0 : FVec Ideal S4096x10368 .bf16) (ix2 i' j')) ?_ ?_
  · unfold X0_1 Pipeline.Window.fill
    rw [dif_pos (moved0_1 t _)]
    blk_ext [iblk, idx t, hi, hj]
  · unfold V
    after_reads_simp
    rfl

/-- The gates' columns of the projection. -/
abbrev colsA (p : Mat 4096 10368) : Mat 4096 2048 := columns 6144 (by decide) p
abbrev colsB (p : Mat 4096 10368) : Mat 4096 2048 := columns 8192 (by decide) p

theorem block5 (t : Fin cfg0.N) (i : Fin 256) (j : Fin 2048) (i' : Fin 4096) (j' : Fin 2048)
    (hi : i'.val = t.val * 256 + i.val) (hj : j'.val = j.val) :
    k0_pay7 (F := Ideal) (iblk m c 4 t) (X0_0 m c t) (ix2 i j)
      = times (m ((c : Thread nD τ).loc main_arg3)) (gate (colsA (m ((c : Thread nD τ).loc main_arg0)))) (ix2 i' j') := by
  rw [branch_a]
  exact congrArg₂ (· * ·) (blk4 m c t _ _ _ _ (by omega) (by omega)) (congrArg Ideal.logistic (gates0 m c t _ _ _ _ (hi.trans (by omega)) (congrArg (_ + ·) hj)))

theorem result5 : (dats m 0 c).arrAt 5 cfg0.N
    = times (m ((c : Thread nD τ).loc main_arg3)) (gate (colsA (m ((c : Thread nD τ).loc main_arg0)))) := by
  refine (dats m 0 c).arrAt_eq_of_covers 5 _ (by decide +kernel) fun t hf y => ?_
  blk_simp
  rw [after0_5, stored, mat_idx y]
  refine (block5 m c t _ _ _ _ ?_ ?_).trans (congrArg _ (mat_idx _).symm)
  · blk_simp [idx t]
  · blk_simp [idx t]

theorem block6 (t : Fin cfg0.N) (i : Fin 256) (j : Fin 2048) (i' : Fin 4096) (j' : Fin 2048)
    (hi : i'.val = t.val * 256 + i.val) (hj : j'.val = j.val) :
    k0_pay8 (F := Ideal) (iblk m c 4 t) (X0_1 m c t) (ix2 i j)
      = times (m ((c : Thread nD τ).loc main_arg3)) (gate (colsB (m ((c : Thread nD τ).loc main_arg0)))) (ix2 i' j') := by
  rw [branch_b]
  exact congrArg₂ (· * ·) (blk4 m c t _ _ _ _ (by omega) (by omega)) (congrArg Ideal.logistic (gates1 m c t _ _ _ _ (hi.trans (by omega)) (congrArg (_ + ·) hj)))

theorem result6 : (dats m 0 c).arrAt 6 cfg0.N
    = times (m ((c : Thread nD τ).loc main_arg3)) (gate (colsB (m ((c : Thread nD τ).loc main_arg0)))) := by
  refine (dats m 0 c).arrAt_eq_of_covers 6 _ (by decide +kernel) fun t hf y => ?_
  blk_simp
  rw [after0_6, stored, mat_idx y]
  refine (block6 m c t _ _ _ _ ?_ ?_).trans (congrArg _ (mat_idx _).symm)
  · blk_simp [idx t]
  · blk_simp [idx t]

theorem block7 (t : Fin cfg0.N) (i : Fin 256) (j : Fin 2048) (i' : Fin 4096) (j' : Fin 2048)
    (hi : i'.val = t.val * 256 + i.val) (hj : j'.val = j.val) :
    k0_pay1 (F := Ideal) (k0_pay5 (X0_0 m c t)) (k0_pay9 (iblk m c 4 t) (X0_0 m c t) (iblk m c 2 t)) (ix2 i j)
      = times (times (m ((c : Thread nD τ).loc main_arg3)) (m ((c : Thread nD τ).loc main_arg1))) (slope (colsA (m ((c : Thread nD τ).loc main_arg0)))) (ix2 i' j') := by
  rw [slope_a]
  exact congrArg₂ (· * ·) (congrArg₂ (· * ·) (blk4 m c t _ _ _ _ (by omega) (by omega)) (blk2 m c t _ _ _ _ (by omega) (by omega)))
    (congrArg (fun x => Ideal.logistic x * (1 - Ideal.logistic x)) (gates0 m c t _ _ _ _ (hi.trans (by omega)) (congrArg (_ + ·) hj)))

theorem result7 : (dats m 0 c).arrAt 7 cfg0.N
    = times (times (m ((c : Thread nD τ).loc main_arg3)) (m ((c : Thread nD τ).loc main_arg1))) (slope (colsA (m ((c : Thread nD τ).loc main_arg0)))) := by
  refine (dats m 0 c).arrAt_eq_of_covers 7 _ (by decide +kernel) fun t hf y => ?_
  blk_simp
  rw [after0_7, stored, mat_idx y]
  refine (block7 m c t _ _ _ _ ?_ ?_).trans (congrArg _ (mat_idx _).symm)
  · blk_simp [idx t]
  · blk_simp [idx t]

theorem block8 (t : Fin cfg0.N) (i : Fin 256) (j : Fin 2048) (i' : Fin 4096) (j' : Fin 2048)
    (hi : i'.val = t.val * 256 + i.val) (hj : j'.val = j.val) :
    k0_pay2 (F := Ideal) (k0_pay3 (iblk m c 4 t)) (k0_pay4 (iblk m c 3 t)) (k0_pay6 (X0_1 m c t)) (ix2 i j)
      = times (times (m ((c : Thread nD τ).loc main_arg3)) (m ((c : Thread nD τ).loc main_arg2))) (slope (colsB (m ((c : Thread nD τ).loc main_arg0)))) (ix2 i' j') := by
  rw [slope_b]
  exact congrArg₂ (· * ·) (congrArg₂ (· * ·) (blk4 m c t _ _ _ _ (by omega) (by omega)) (blk3 m c t _ _ _ _ (by omega) (by omega)))
    (congrArg (fun x => Ideal.logistic x * (1 - Ideal.logistic x)) (gates1 m c t _ _ _ _ (hi.trans (by omega)) (congrArg (_ + ·) hj)))

theorem result8 : (dats m 0 c).arrAt 8 cfg0.N
    = times (times (m ((c : Thread nD τ).loc main_arg3)) (m ((c : Thread nD τ).loc main_arg2))) (slope (colsB (m ((c : Thread nD τ).loc main_arg0)))) := by
  refine (dats m 0 c).arrAt_eq_of_covers 8 _ (by decide +kernel) fun t hf y => ?_
  blk_simp
  rw [after0_8, stored, mat_idx y]
  refine (block8 m c t _ _ _ _ ?_ ?_).trans (congrArg _ (mat_idx _).symm)
  · blk_simp [idx t]
  · blk_simp [idx t]

/-- The reference's sigmoid, by the exponential. -/
theorem host_gate (g : FVec Ideal Cert.Reference18Ideal.S4096x2048 .f32) :
    ∀ h h', Host.divf (broadcastInDim Cert.Reference18Ideal.S4096x2048 ![] h (constant (F := Ideal) Cert.Reference18Ideal.S_ .f32 0x3F800000#32))
      (addf (broadcastInDim Cert.Reference18Ideal.S4096x2048 ![] h' (constant (F := Ideal) Cert.Reference18Ideal.S_ .f32 0x3F800000#32)) (Host.exp (Host.negf g))) = gate g := by
  intro h h'
  refine mat_ext fun i j => ?_
  pointwise []
  rfl

theorem host_slope (g : FVec Ideal Cert.Reference18Ideal.S4096x2048 .f32) :
    ∀ h, mulf (Host.divf (broadcastInDim Cert.Reference18Ideal.S4096x2048 ![] h (constant (F := Ideal) Cert.Reference18Ideal.S_ .f32 0x3F800000#32))
      (addf (broadcastInDim Cert.Reference18Ideal.S4096x2048 ![] h (constant (F := Ideal) Cert.Reference18Ideal.S_ .f32 0x3F800000#32)) (Host.exp (Host.negf g))))
      (subf (broadcastInDim Cert.Reference18Ideal.S4096x2048 ![] h (constant (F := Ideal) Cert.Reference18Ideal.S_ .f32 0x3F800000#32)) (Host.divf (broadcastInDim Cert.Reference18Ideal.S4096x2048 ![] h (constant (F := Ideal) Cert.Reference18Ideal.S_ .f32 0x3F800000#32))
      (addf (broadcastInDim Cert.Reference18Ideal.S4096x2048 ![] h (constant (F := Ideal) Cert.Reference18Ideal.S_ .f32 0x3F800000#32)) (Host.exp (Host.negf g))))) = slope g := by
  intro h
  refine mat_ext fun i j => ?_
  pointwise []
  rfl

theorem host_colsA (p : FVec Ideal Cert.Reference18Ideal.S4096x10368 .f32) :
    ∀ h, (extractStridedSlice Cert.Reference18Ideal.S4096x2048 ![0, 6144] p h : FVec Ideal Cert.Reference18Ideal.S4096x2048 .f32) = colsA p := by
  intro h
  refine mat_ext fun i j => ?_
  pointwise []
  rfl

theorem host_colsB (p : FVec Ideal Cert.Reference18Ideal.S4096x10368 .f32) :
    ∀ h, (extractStridedSlice Cert.Reference18Ideal.S4096x2048 ![0, 8192] p h : FVec Ideal Cert.Reference18Ideal.S4096x2048 .f32) = colsB p := by
  intro h
  refine mat_ext fun i j => ?_
  pointwise []
  rfl

theorem host_branch (g ct : FVec Ideal Cert.Reference18Ideal.S4096x2048 .f32) :
    ∀ h h', (truncf .bf16 (mulf g (shapeCast _ ct h)) h' : FVec Ideal Cert.Reference18Ideal.S4096x2048 .bf16) = times ct g := by
  intro h h'
  refine mat_ext fun i j => ?_
  refine Eq.trans ?_ (mul_comm (g (ix2 i j)) (ct (ix2 i j)))
  pointwise []

theorem host_gates (g ct a : FVec Ideal Cert.Reference18Ideal.S4096x2048 .f32) :
    ∀ h h', (truncf .bf16 (mulf (mulf (shapeCast _ ct h) a) g) h' : FVec Ideal Cert.Reference18Ideal.S4096x2048 .bf16) = times (times ct a) g := by
  intro h h'
  refine mat_ext fun i j => ?_
  pointwise []
  rfl

theorem algebraic : Cert.algebraic_Kernel18Ideal_Reference18Ideal (hKernel18Ideal := Cert.Kernel18Ideal.Gen.facts)
    (hReference18Ideal := Cert.Reference18Ideal.Gen.facts) := by
  intro m ρ m' ρ' _ heq
  refine ⟨fun c => times (m ((c : Thread nD τ).loc main_arg3)) (gate (colsA (m ((c : Thread nD τ).loc main_arg0)))),
    fun c => times (m ((c : Thread nD τ).loc main_arg3)) (gate (colsB (m ((c : Thread nD τ).loc main_arg0)))),
    fun c => times (times (m ((c : Thread nD τ).loc main_arg3)) (m ((c : Thread nD τ).loc main_arg1))) (slope (colsA (m ((c : Thread nD τ).loc main_arg0)))),
    fun c => times (times (m ((c : Thread nD τ).loc main_arg3)) (m ((c : Thread nD τ).loc main_arg2))) (slope (colsB (m ((c : Thread nD τ).loc main_arg0)))), ?_, ?_⟩
  · exact (θ_run _ _ _).mono (fun r h c => ⟨(h c).1.trans (result5 m c), (h c).2.1.trans (result6 m c), (h c).2.2.1.trans (result7 m c),
      (h c).2.2.2.1.trans (result8 m c), (h c).2.2.2.2⟩) (Cert.Kernel18Ideal.Value.run_blocks m ρ)
  · refine (θ_run _ _ _).mono (fun r h c => ⟨(h c).1.trans ?_, (h c).2.1.trans ?_, (h c).2.2.1.trans ?_, (h c).2.2.2.1.trans ?_, (h c).2.2.2.2⟩)
      (Cert.Reference18Ideal.Value.run m' ρ')
    · exact (host_branch _ _ _ _).trans (congrArg₂ times (heq c).2.2.2 ((host_gate _ _ _).trans (congrArg gate ((host_colsA _ _).trans (congrArg colsA (heq c).1)))))
    · exact (host_branch _ _ _ _).trans (congrArg₂ times (heq c).2.2.2 ((host_gate _ _ _).trans (congrArg gate ((host_colsB _ _).trans (congrArg colsB (heq c).1)))))
    · exact (host_gates _ _ _ _ _).trans (congrArg₂ times (congrArg₂ times (heq c).2.2.2 (heq c).2.1) ((host_slope _ _).trans (congrArg slope ((host_colsA _ _).trans (congrArg colsA (heq c).1)))))
    · exact (host_gates _ _ _ _ _).trans (congrArg₂ times (congrArg₂ times (heq c).2.2.2 (heq c).2.2.1) ((host_slope _ _).trans (congrArg slope ((host_colsB _ _).trans (congrArg colsB (heq c).1)))))

end Cert.Proof.GradMerge

end
-- ==== Proof.Merge.lean ====
/-
  The merge of the two branches by their gates, block by block.
-/
module

public import proofs.«01_k».proof.Defs
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.GradMerge
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.Merge

open Idealize.ShloMosaic Idealize.ShloMosaic.TcCoe Idealize.ShloMosaic.Tactic Cert.Kernel19Ideal Cert.Kernel19Ideal.Gen
open Cert.Proof.GradMerge (colsA colsB host_gate host_colsA host_colsB)

variable (m : (ℓ : Loc nD τ sig) → Buf (Elt Ideal) ℓ) (c : Dev nD)

/-- The branches weighted by their gates. -/
abbrev merged {a b : ℕ} (g h x y : Mat a b) : Mat a b := plus (times (gate g) x) (times (gate h) y)

/-- What is stored, from the blocks read. -/
theorem merge (g h x y : FVec Ideal S256x2048 .bf16) (i : Fin 256) (j : Fin 2048) :
    k0_pay1 (F := Ideal) g h x y (ix2 i j) = merged g h x y (ix2 i j) := by
  refine Eq.trans ?_ (congrArg₂ (fun s t => s * x (ix2 i j) + t * y (ix2 i j)) (sigmoid (g (ix2 i j))) (sigmoid (h (ix2 i j))))
  rw [← half]
  unfold k0_pay1
  pointwise []

theorem stored (t : Fin cfg0.N) : outsAt0 m c t = k0_pay1 (X0_0 m c t) (X0_1 m c t) (iblk m c 2 t) (iblk m c 3 t) := by
  unfold outsAt0
  frame_out

theorem idx : ∀ t : Fin cfg0.N, win0_0.index t = ![t.val, 3] ∧ win0_1.index t = ![t.val, 4] ∧ win0_2.index t = ![t.val, 0]
    ∧ win0_3.index t = ![t.val, 0] ∧ win0_4.index t = ![t.val, 0] := (by decide +kernel : ∀ t : Fin grid0.N, _)

theorem blk2 (t : Fin cfg0.N) (i : Fin 256) (j : Fin 2048) (i' : Fin 4096) (j' : Fin 2048)
    (hi : i'.val = 256 * t.val + i.val) (hj : j'.val = j.val) :
    (iblk m c 2 t : Vec Ideal S256x2048 .bf16) (ix2 i j) = (m ((c : Thread nD τ).loc main_arg1) : FVec Ideal S4096x2048 .f32) (ix2 i' j') := by
  refine Eq.trans (b := (V m c main_v1 : FVec Ideal S4096x2048 .bf16) (ix2 i' j')) ?_ ?_
  · blk_ext [iblk, idx t, hi, hj]
  · unfold V
    after_reads_simp
    rfl

theorem blk3 (t : Fin cfg0.N) (i : Fin 256) (j : Fin 2048) (i' : Fin 4096) (j' : Fin 2048)
    (hi : i'.val = 256 * t.val + i.val) (hj : j'.val = j.val) :
    (iblk m c 3 t : Vec Ideal S256x2048 .bf16) (ix2 i j) = (m ((c : Thread nD τ).loc main_arg2) : FVec Ideal S4096x2048 .f32) (ix2 i' j') := by
  refine Eq.trans (b := (V m c main_v2 : FVec Ideal S4096x2048 .bf16) (ix2 i' j')) ?_ ?_
  · blk_ext [iblk, idx t, hi, hj]
  · unfold V
    after_reads_simp
    rfl

theorem gates0 (t : Fin cfg0.N) (i : Fin 256) (j : Fin 2048) (i' : Fin 4096) (j' : Fin 10368)
    (hi : i'.val = 256 * t.val + i.val) (hj : j'.val = 6144 + j.val) :
    (X0_0 m c t : Vec Ideal S256x2048 .bf16) (ix2 i j) = (m ((c : Thread nD τ).loc main_arg0) : FVec Ideal S4096x10368 .f32) (ix2 i' j') := by
  refine Eq.trans (b := (V m c main_v0 : FVec Ideal S4096x10368 .bf16) (ix2 i' j')) ?_ ?_
  · unfold X0_0 Pipeline.Window.fill
    rw [dif_pos (moved0_0 t _)]
    blk_ext [iblk, idx t, hi, hj]
  · unfold V
    after_reads_simp
    rfl

theorem gates1 (t : Fin cfg0.N) (i : Fin 256) (j : Fin 2048) (i' : Fin 4096) (j' : Fin 10368)
    (hi : i'.val = 256 * t.val + i.val) (hj : j'.val = 8192 + j.val) :
    (X0_1 m c t : Vec Ideal S256x2048 .bf16) (ix2 i j) = (m ((c : Thread nD τ).loc main_arg0) : FVec Ideal S4096x10368 .f32) (ix2 i' j') := by
  refine Eq.trans (b := (V m c main_v0 : FVec Ideal S4096x10368 .bf16) (ix2 i' j')) ?_ ?_
  · unfold X0_1 Pipeline.Window.fill
    rw [dif_pos (moved0_1 t _)]
    blk_ext [iblk, idx t, hi, hj]
  · unfold V
    after_reads_simp
    rfl

theorem block (t : Fin cfg0.N) (i : Fin 256) (j : Fin 2048) (i' : Fin 4096) (j' : Fin 2048)
    (hi : i'.val = t.val * 256 + i.val) (hj : j'.val = j.val) :
    k0_pay1 (F := Ideal) (X0_0 m c t) (X0_1 m c t) (iblk m c 2 t) (iblk m c 3 t) (ix2 i j)
      = merged (colsA (m ((c : Thread nD τ).loc main_arg0))) (colsB (m ((c : Thread nD τ).loc main_arg0)))
        (m ((c : Thread nD τ).loc main_arg1)) (m ((c : Thread nD τ).loc main_arg2)) (ix2 i' j') := by
  rw [merge]
  exact congrArg₂ (· + ·)
    (congrArg₂ (· * ·) (congrArg Ideal.logistic (gates0 m c t _ _ _ _ (hi.trans (by omega)) (congrArg (_ + ·) hj))) (blk2 m c t _ _ _ _ (by omega) (by omega)))
    (congrArg₂ (· * ·) (congrArg Ideal.logistic (gates1 m c t _ _ _ _ (hi.trans (by omega)) (congrArg (_ + ·) hj))) (blk3 m c t _ _ _ _ (by omega) (by omega)))

theorem result : (dats m 0 c).arrAt 4 cfg0.N
    = merged (colsA (m ((c : Thread nD τ).loc main_arg0))) (colsB (m ((c : Thread nD τ).loc main_arg0)))
      (m ((c : Thread nD τ).loc main_arg1)) (m ((c : Thread nD τ).loc main_arg2)) := by
  refine (dats m 0 c).arrAt_eq_of_covers 4 _ (by decide +kernel) fun t hf y => ?_
  blk_simp
  rw [after0_4, stored, mat_idx y]
  refine (block m c t _ _ _ _ ?_ ?_).trans (congrArg _ (mat_idx _).symm)
  · blk_simp [idx t]
  · blk_simp [idx t]

/-- The reference's sum, from the gates it computes. -/
theorem host_merged (g h x y : FVec Ideal Cert.Reference19Ideal.S4096x2048 .f32) :
    ∀ k, (truncf .bf16 (addf (mulf g x) (mulf h y)) k : FVec Ideal Cert.Reference19Ideal.S4096x2048 .bf16) = plus (times g x) (times h y) := by
  intro k
  refine mat_ext fun i j => ?_
  pointwise []
  rfl

theorem algebraic : Cert.algebraic_Kernel19Ideal_Reference19Ideal (hKernel19Ideal := Cert.Kernel19Ideal.Gen.facts)
    (hReference19Ideal := Cert.Reference19Ideal.Gen.facts) := by
  intro m ρ m' ρ' _ heq
  refine ⟨fun c => merged (colsA (m ((c : Thread nD τ).loc main_arg0))) (colsB (m ((c : Thread nD τ).loc main_arg0)))
    (m ((c : Thread nD τ).loc main_arg1)) (m ((c : Thread nD τ).loc main_arg2)), ?_, ?_⟩
  · exact (θ_run _ _ _).mono (fun r h c => ⟨(h c).1.trans (result m c), (h c).2⟩) (Cert.Kernel19Ideal.Value.run_blocks m ρ)
  · refine (θ_run _ _ _).mono (fun r h c => ⟨(h c).1.trans ?_, (h c).2⟩) (Cert.Reference19Ideal.Value.run m' ρ')
    exact (host_merged _ _ _ _ _).trans (congrArg₂ plus
      (congrArg₂ times ((host_gate _ _ _).trans (congrArg gate ((host_colsA _ _).trans (congrArg colsA (heq c).1)))) (heq c).2.1)
      (congrArg₂ times ((host_gate _ _ _).trans (congrArg gate ((host_colsB _ _).trans (congrArg colsB (heq c).1)))) (heq c).2.2))

end Cert.Proof.Merge

end
-- ==== Proof.Norm.lean ====
/-
  The norm of a layer's rows, block by block.
-/
module

public import proofs.«01_k».proof.Defs
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Products
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.Norm

open Idealize.ShloMosaic Idealize.ShloMosaic.TcCoe Idealize.ShloMosaic.Tactic Cert.Kernel20Ideal Cert.Kernel20Ideal.Gen

variable (m : (ℓ : Loc nD τ sig) → Buf (Elt Ideal) ℓ) (c : Dev nD)

/-- The rows over the root of their mean square, each column times its weight. -/
def normed {a : ℕ} (x : Mat a 2048) (g : Fin 2048 → EReal) : Mat a 2048 := fun y =>
  x y * Ideal.rsqrt (Ideal.div (∑ k : Fin 2048, x (ix2 (y 0) k) * x (ix2 (y 0) k)) (Ideal.ofBits .f32 0x45000000#32)
    + Ideal.ofBits .f32 0x358637BD#32) * g (y 1)

/-- What is stored, from the blocks read. -/
theorem norm (x : FVec Ideal S256x2048 .f32) (g : FVec Ideal S1x2048 .f32) (i : Fin 256) (j : Fin 2048) :
    k0_pay1 (F := Ideal) x g (ix2 i j) = normed x (fun k => g (ix2 0 k)) (ix2 i j) := by
  unfold k0_pay1 normed
  pointwise []

theorem stored (t : Fin cfg0.N) : out0_2 (iblk m c 0 t) (iblk m c 1 t) = k0_pay1 (iblk m c 0 t) (iblk m c 1 t) := by
  frame_out

theorem idx : ∀ t : Fin cfg0.N, win0_0.index t = ![t.val, 0] ∧ win0_1.index t = ![0, 0] ∧ win0_2.index t = ![t.val, 0] :=
  (by decide +kernel : ∀ t : Fin grid0.N, _)

theorem blk0 (t : Fin cfg0.N) (i : Fin 256) (j : Fin 2048) (i' : Fin 4096) (j' : Fin 2048)
    (hi : i'.val = 256 * t.val + i.val) (hj : j'.val = j.val) :
    (iblk m c 0 t : Vec Ideal S256x2048 .f32) (ix2 i j) = (m ((c : Thread nD τ).loc main_arg0) : FVec Ideal S4096x2048 .f32) (ix2 i' j') := by
  refine Eq.trans (b := (V m c main_arg0 : FVec Ideal S4096x2048 .f32) (ix2 i' j')) ?_ ?_
  · blk_ext [iblk, idx t, hi, hj]
  · rw [V_main_arg0]

theorem blk1 (t : Fin cfg0.N) (j : Fin 2048) (j' : Fin 2048) (hj : j'.val = j.val) :
    (iblk m c 1 t : Vec Ideal S1x2048 .f32) (ix2 0 j) = (m ((c : Thread nD τ).loc main_arg1) : FVec Ideal S2048 .f32) (ix1 j') := by
  refine Eq.trans (b := (V m c main_v0 : FVec Ideal S1x2048 .f32) (ix2 0 j')) ?_ ?_
  · blk_ext [iblk, idx t, hj]
  · unfold V
    after_reads_simp
    pointwise []

theorem block (t : Fin cfg0.N) (i : Fin 256) (j : Fin 2048) (i' : Fin 4096) (j' : Fin 2048)
    (hi : i'.val = t.val * 256 + i.val) (hj : j'.val = j.val) :
    k0_pay1 (F := Ideal) (iblk m c 0 t) (iblk m c 1 t) (ix2 i j)
      = normed (m ((c : Thread nD τ).loc main_arg0)) (fun k => m ((c : Thread nD τ).loc main_arg1) (ix1 k)) (ix2 i' j') := by
  have e : ∀ k k' : Fin 2048, k'.val = k.val → _ := fun k k' hk => blk0 m c t i k i' k' (hi.trans (by omega)) hk
  rw [norm]
  exact congrArg₂ (· * ·) (congrArg₂ (· * ·) (e _ _ hj) (congrArg (fun s => Ideal.rsqrt (Ideal.div s _ + _))
    (Finset.sum_congr rfl fun k _ => congrArg₂ (· * ·) (e k k rfl) (e k k rfl)))) (blk1 m c t _ _ hj)

theorem result : (dats m 0 c).arrAt 2 cfg0.N
    = normed (m ((c : Thread nD τ).loc main_arg0)) (fun k => m ((c : Thread nD τ).loc main_arg1) (ix1 k)) := by
  refine (dats m 0 c).arrAt_eq_of_covers 2 _ (by decide +kernel) fun t hf y => ?_
  blk_simp
  rw [after0_2, stored, mat_idx y]
  refine (block m c t _ _ _ _ ?_ ?_).trans (congrArg _ (mat_idx _).symm)
  · blk_simp [idx t]
  · blk_simp [idx t]

theorem algebraic : Cert.algebraic_Kernel20Ideal_Reference20Ideal (hKernel20Ideal := Cert.Kernel20Ideal.Gen.facts)
    (hReference20Ideal := Cert.Reference20Ideal.Gen.facts) := by
  intro m ρ m' ρ' _ heq
  refine ⟨fun c => normed (m ((c : Thread nD τ).loc main_arg0)) (fun k => m ((c : Thread nD τ).loc main_arg1) (ix1 k)), ?_, ?_⟩
  · exact (θ_run _ _ _).mono (fun r h c => ⟨(h c).1.trans (result m c), (h c).2⟩) (Cert.Kernel20Ideal.Value.run_blocks m ρ)
  · refine (θ_run _ _ _).mono (fun r h c => ⟨(h c).1.trans ?_, (h c).2⟩) (Cert.Reference20Ideal.Value.run m' ρ')
    obtain ⟨e0, e1⟩ := heq c
    rw [e0, e1]
    refine mat_ext fun i j => ?_
    unfold normed
    pointwise []

end Cert.Proof.Norm

end
-- ==== Proof.Adam.lean ====
/-
  The optimiser's step of one entry over the extended reals.
-/
module

public import Idealize.ShloMosaic.Lib.Pipeline.ValueKit
public import Idealize.ShloMosaic.Lib.IdealHost

@[expose] public section

noncomputable section

namespace Cert.Proof

open Idealize.ShloMosaic

/-- An array of three axes. -/
abbrev Cube (a b c : ℕ) := (⟨3, ![a, b, c]⟩ : Shape).Idx → EReal

/-- An index of three axes is its coordinates. -/
theorem cube_idx {a b c : ℕ} (y : (⟨3, ![a, b, c]⟩ : Shape).Idx) : y = ix3 (y 0 : Fin a) (y 1 : Fin b) (y 2 : Fin c) := by
  funext x; match x with | ⟨0, _⟩ => rfl | ⟨1, _⟩ => rfl | ⟨2, _⟩ => rfl

/-- Two arrays with the same entries. -/
theorem cube_ext {a b c : ℕ} {A B : Cube a b c} (h : ∀ i j k, A (ix3 i j k) = B (ix3 i j k)) : A = B := by
  funext y; rw [cube_idx y]; exact h _ _ _

/-- The new first moment. -/
def moment (g m : EReal) : EReal := Ideal.ofBits .f32 0x3F666666#32 * m + Ideal.ofBits .f32 0x3DCCCCCD#32 * g

/-- The new second moment. -/
def square (g v : EReal) : EReal := Ideal.ofBits .f32 0x3F7FBE77#32 * v + Ideal.ofBits .f32 0x3A83126F#32 * (g * g)

/-- The change of the weight. -/
def change (w g m v : EReal) : EReal := Ideal.ofBits .f32 0xBA83126F#32 *
  (Ideal.div (Ideal.div (moment g m) (Ideal.ofBits .f32 0x3F26BD02#32))
    (Ideal.sqrt (Ideal.div (square g v) (Ideal.ofBits .f32 0x3C231ACC#32)) + Ideal.ofBits .f32 0x322BCC77#32)
    + Ideal.ofBits .f32 0x3C23D70A#32 * w)

end Cert.Proof

end
-- ==== Proof.AdamIn.lean ====
/-
  The optimiser's step of w_in.
-/
module

public import proofs.«01_k».proof.Defs
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Adam
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.AdamIn

open Idealize.ShloMosaic Idealize.ShloMosaic.TcCoe Idealize.ShloMosaic.Tactic Cert.Kernel21Ideal Cert.Kernel21Ideal.Gen

variable (m : (ℓ : Loc nD τ sig) → Buf (Elt Ideal) ℓ) (c : Dev nD)

/-- What is stored, from the blocks read. -/
theorem new_m (x0 x1 x2 x3 : FVec Ideal S641x2x256 .f32) (i : Fin 641) (j : Fin 2) (k : Fin 256) :
    out0_5 (F := Ideal) x0 x1 x2 x3 (ix3 i j k) = moment (x1 (ix3 i j k)) (x2 (ix3 i j k)) := by
  rw [show out0_5 (F := Ideal) x0 x1 x2 x3 = k0_pay1 (F := Ideal) x1 x2 from by frame_out]
  unfold k0_pay1 moment
  pointwise []

theorem new_v (x0 x1 x2 x3 : FVec Ideal S641x2x256 .f32) (i : Fin 641) (j : Fin 2) (k : Fin 256) :
    out0_6 (F := Ideal) x0 x1 x2 x3 (ix3 i j k) = square (x1 (ix3 i j k)) (x3 (ix3 i j k)) := by
  rw [show out0_6 (F := Ideal) x0 x1 x2 x3 = k0_pay2 (F := Ideal) x1 x3 from by frame_out]
  unfold k0_pay2 square
  pointwise []

theorem delta (x0 x1 x2 x3 : FVec Ideal S641x2x256 .f32) (i : Fin 641) (j : Fin 2) (k : Fin 256) :
    out0_4 (F := Ideal) x0 x1 x2 x3 (ix3 i j k) = change (x0 (ix3 i j k)) (x1 (ix3 i j k)) (x2 (ix3 i j k)) (x3 (ix3 i j k)) := by
  rw [show out0_4 (F := Ideal) x0 x1 x2 x3 = k0_pay3 (F := Ideal) x1 x2 x3 x0 from by frame_out]
  unfold k0_pay3 k0_pay2 k0_pay1 change moment square
  pointwise []

theorem idx : ∀ t : Fin cfg0.N, win0_0.index t = ![t.val / 8, 0, t.val % 8] ∧ win0_1.index t = ![t.val / 8, 0, t.val % 8] ∧ win0_2.index t = ![t.val / 8, 0, t.val % 8] ∧ win0_3.index t = ![t.val / 8, 0, t.val % 8] ∧ win0_4.index t = ![t.val / 8, 0, t.val % 8] ∧ win0_5.index t = ![t.val / 8, 0, t.val % 8] ∧ win0_6.index t = ![t.val / 8, 0, t.val % 8] :=
  (by decide +kernel : ∀ t : Fin grid0.N, _)

/-- The weights' axes as the call has them, columns first. -/
def first (A : Cube 2 2048 2564) : Cube 2564 2 2048 := fun y => A (ix3 (y 1) (y 2) (y 0))

theorem blk0 (t : Fin cfg0.N) (i : Fin 641) (j : Fin 2) (k : Fin 256) (i' : Fin 2564) (j' : Fin 2) (k' : Fin 2048)
    (hi : i'.val = 641 * (t.val / 8) + i.val) (hj : j'.val = j.val) (hk : k'.val = 256 * (t.val % 8) + k.val) :
    (iblk m c 0 t : Vec Ideal S641x2x256 .f32) (ix3 i j k) = (first (m ((c : Thread nD τ).loc main_arg0)) : Cube 2564 2 2048) (ix3 i' j' k') := by
  refine Eq.trans (b := (V m c main_v0 : FVec Ideal S2564x2x2048 .f32) (ix3 i' j' k')) ?_ ?_
  · blk_ext [iblk, idx t, hi, hj, hk]
  · unfold V
    after_reads_simp
    unfold first
    pointwise []

theorem blk1 (t : Fin cfg0.N) (i : Fin 641) (j : Fin 2) (k : Fin 256) (i' : Fin 2564) (j' : Fin 2) (k' : Fin 2048)
    (hi : i'.val = 641 * (t.val / 8) + i.val) (hj : j'.val = j.val) (hk : k'.val = 256 * (t.val % 8) + k.val) :
    (iblk m c 1 t : Vec Ideal S641x2x256 .f32) (ix3 i j k) = (m ((c : Thread nD τ).loc main_arg1) : Cube 2564 2 2048) (ix3 i' j' k') := by
  refine Eq.trans (b := (V m c main_arg1 : FVec Ideal S2564x2x2048 .f32) (ix3 i' j' k')) ?_ ?_
  · blk_ext [iblk, idx t, hi, hj, hk]
  · rw [V_main_arg1]

theorem blk2 (t : Fin cfg0.N) (i : Fin 641) (j : Fin 2) (k : Fin 256) (i' : Fin 2564) (j' : Fin 2) (k' : Fin 2048)
    (hi : i'.val = 641 * (t.val / 8) + i.val) (hj : j'.val = j.val) (hk : k'.val = 256 * (t.val % 8) + k.val) :
    (iblk m c 2 t : Vec Ideal S641x2x256 .f32) (ix3 i j k) = (first (m ((c : Thread nD τ).loc main_arg2)) : Cube 2564 2 2048) (ix3 i' j' k') := by
  refine Eq.trans (b := (V m c main_v1 : FVec Ideal S2564x2x2048 .f32) (ix3 i' j' k')) ?_ ?_
  · blk_ext [iblk, idx t, hi, hj, hk]
  · unfold V
    after_reads_simp
    unfold first
    pointwise []

theorem blk3 (t : Fin cfg0.N) (i : Fin 641) (j : Fin 2) (k : Fin 256) (i' : Fin 2564) (j' : Fin 2) (k' : Fin 2048)
    (hi : i'.val = 641 * (t.val / 8) + i.val) (hj : j'.val = j.val) (hk : k'.val = 256 * (t.val % 8) + k.val) :
    (iblk m c 3 t : Vec Ideal S641x2x256 .f32) (ix3 i j k) = (first (m ((c : Thread nD τ).loc main_arg3)) : Cube 2564 2 2048) (ix3 i' j' k') := by
  refine Eq.trans (b := (V m c main_v2 : FVec Ideal S2564x2x2048 .f32) (ix3 i' j' k')) ?_ ?_
  · blk_ext [iblk, idx t, hi, hj, hk]
  · unfold V
    after_reads_simp
    unfold first
    pointwise []

theorem block4 (t : Fin cfg0.N) (i : Fin 641) (j : Fin 2) (k : Fin 256) (i' : Fin 2564) (j' : Fin 2) (k' : Fin 2048)
    (hi : i'.val = t.val / 8 * 641 + i.val) (hj : j'.val = j.val) (hk : k'.val = t.val % 8 * 256 + k.val) :
    out0_4 (iblk m c 0 t) (iblk m c 1 t) (iblk m c 2 t) (iblk m c 3 t) (ix3 i j k)
      = change ((first (m ((c : Thread nD τ).loc main_arg0)) : Cube 2564 2 2048) (ix3 i' j' k')) ((m ((c : Thread nD τ).loc main_arg1) : Cube 2564 2 2048) (ix3 i' j' k'))
        ((first (m ((c : Thread nD τ).loc main_arg2)) : Cube 2564 2 2048) (ix3 i' j' k'))
        ((first (m ((c : Thread nD τ).loc main_arg3)) : Cube 2564 2 2048) (ix3 i' j' k')) := by
  refine (delta _ _ _ _ _ _ _).trans ?_
  rw [blk0 m c t i j k i' j' k' (hi.trans (by omega)) hj (hk.trans (by omega)),
    blk1 m c t i j k i' j' k' (hi.trans (by omega)) hj (hk.trans (by omega)),
    blk2 m c t i j k i' j' k' (hi.trans (by omega)) hj (hk.trans (by omega)),
    blk3 m c t i j k i' j' k' (hi.trans (by omega)) hj (hk.trans (by omega))]

theorem result4 : (dats m 0 c).arrAt 4 cfg0.N = (fun y => change ((first (m ((c : Thread nD τ).loc main_arg0)) : Cube 2564 2 2048) y) ((m ((c : Thread nD τ).loc main_arg1) : Cube 2564 2 2048) y) ((first (m ((c : Thread nD τ).loc main_arg2)) : Cube 2564 2 2048) y) ((first (m ((c : Thread nD τ).loc main_arg3)) : Cube 2564 2 2048) y) : Cube 2564 2 2048) := by
  refine (dats m 0 c).arrAt_eq_of_covers 4 _ (by decide +kernel) fun t hf y => ?_
  blk_simp
  rw [after0_4, cube_idx y]
  refine (block4 m c t _ _ _ _ _ _ ?_ ?_ ?_).trans (congrArg (fun y => change ((first (m ((c : Thread nD τ).loc main_arg0)) : Cube 2564 2 2048) y) ((m ((c : Thread nD τ).loc main_arg1) : Cube 2564 2 2048) y) ((first (m ((c : Thread nD τ).loc main_arg2)) : Cube 2564 2 2048) y) ((first (m ((c : Thread nD τ).loc main_arg3)) : Cube 2564 2 2048) y)) (cube_idx _).symm)
  · blk_simp [idx t]
  · blk_simp [idx t]
  · blk_simp [idx t]

theorem block5 (t : Fin cfg0.N) (i : Fin 641) (j : Fin 2) (k : Fin 256) (i' : Fin 2564) (j' : Fin 2) (k' : Fin 2048)
    (hi : i'.val = t.val / 8 * 641 + i.val) (hj : j'.val = j.val) (hk : k'.val = t.val % 8 * 256 + k.val) :
    out0_5 (iblk m c 0 t) (iblk m c 1 t) (iblk m c 2 t) (iblk m c 3 t) (ix3 i j k)
      = moment ((m ((c : Thread nD τ).loc main_arg1) : Cube 2564 2 2048) (ix3 i' j' k'))
        ((first (m ((c : Thread nD τ).loc main_arg2)) : Cube 2564 2 2048) (ix3 i' j' k')) := by
  refine (new_m _ _ _ _ _ _ _).trans ?_
  rw [blk1 m c t i j k i' j' k' (hi.trans (by omega)) hj (hk.trans (by omega)),
    blk2 m c t i j k i' j' k' (hi.trans (by omega)) hj (hk.trans (by omega))]

theorem result5 : (dats m 0 c).arrAt 5 cfg0.N = (fun y => moment ((m ((c : Thread nD τ).loc main_arg1) : Cube 2564 2 2048) y) ((first (m ((c : Thread nD τ).loc main_arg2)) : Cube 2564 2 2048) y) : Cube 2564 2 2048) := by
  refine (dats m 0 c).arrAt_eq_of_covers 5 _ (by decide +kernel) fun t hf y => ?_
  blk_simp
  rw [after0_5, cube_idx y]
  refine (block5 m c t _ _ _ _ _ _ ?_ ?_ ?_).trans (congrArg (fun y => moment ((m ((c : Thread nD τ).loc main_arg1) : Cube 2564 2 2048) y) ((first (m ((c : Thread nD τ).loc main_arg2)) : Cube 2564 2 2048) y)) (cube_idx _).symm)
  · blk_simp [idx t]
  · blk_simp [idx t]
  · blk_simp [idx t]

theorem block6 (t : Fin cfg0.N) (i : Fin 641) (j : Fin 2) (k : Fin 256) (i' : Fin 2564) (j' : Fin 2) (k' : Fin 2048)
    (hi : i'.val = t.val / 8 * 641 + i.val) (hj : j'.val = j.val) (hk : k'.val = t.val % 8 * 256 + k.val) :
    out0_6 (iblk m c 0 t) (iblk m c 1 t) (iblk m c 2 t) (iblk m c 3 t) (ix3 i j k)
      = square ((m ((c : Thread nD τ).loc main_arg1) : Cube 2564 2 2048) (ix3 i' j' k'))
        ((first (m ((c : Thread nD τ).loc main_arg3)) : Cube 2564 2 2048) (ix3 i' j' k')) := by
  refine (new_v _ _ _ _ _ _ _).trans ?_
  rw [blk1 m c t i j k i' j' k' (hi.trans (by omega)) hj (hk.trans (by omega)),
    blk3 m c t i j k i' j' k' (hi.trans (by omega)) hj (hk.trans (by omega))]

theorem result6 : (dats m 0 c).arrAt 6 cfg0.N = (fun y => square ((m ((c : Thread nD τ).loc main_arg1) : Cube 2564 2 2048) y) ((first (m ((c : Thread nD τ).loc main_arg3)) : Cube 2564 2 2048) y) : Cube 2564 2 2048) := by
  refine (dats m 0 c).arrAt_eq_of_covers 6 _ (by decide +kernel) fun t hf y => ?_
  blk_simp
  rw [after0_6, cube_idx y]
  refine (block6 m c t _ _ _ _ _ _ ?_ ?_ ?_).trans (congrArg (fun y => square ((m ((c : Thread nD τ).loc main_arg1) : Cube 2564 2 2048) y) ((first (m ((c : Thread nD τ).loc main_arg3)) : Cube 2564 2 2048) y)) (cube_idx _).symm)
  · blk_simp [idx t]
  · blk_simp [idx t]
  · blk_simp [idx t]

theorem algebraic : Cert.algebraic_Kernel21Ideal_Reference21Ideal (hKernel21Ideal := Cert.Kernel21Ideal.Gen.facts)
    (hReference21Ideal := Cert.Reference21Ideal.Gen.facts) := by
  intro m ρ m' ρ' _ heq
  refine ⟨_, _, _, (θ_run _ _ _).mono (fun r h c => ⟨(h c).1.trans (result4 m c), (h c).2.1.trans (result5 m c), (h c).2.2.1.trans (result6 m c),
    (h c).2.2.2⟩) (Cert.Kernel21Ideal.Value.run_blocks m ρ), ?_⟩
  refine (θ_run _ _ _).mono (fun r h c => ⟨(h c).1.trans ?_, (h c).2.1.trans ?_, (h c).2.2.1.trans ?_, (h c).2.2.2⟩)
    (Cert.Reference21Ideal.Value.run m' ρ')
  all_goals
    obtain ⟨e0, e1, e2, e3⟩ := heq c
    simp only [e0, e1, e2, e3]
    refine cube_ext fun i j k => ?_
    unfold first
    pointwise [change, moment, square]

end Cert.Proof.AdamIn

end
-- ==== Proof.AdamNorm.lean ====
/-
  The optimiser's step of a norm's weights.
-/
module

public import proofs.«01_k».proof.Defs
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Adam
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.AdamNorm

open Idealize.ShloMosaic Idealize.ShloMosaic.TcCoe Idealize.ShloMosaic.Tactic Cert.Kernel22Ideal Cert.Kernel22Ideal.Gen

variable (m : (ℓ : Loc nD τ sig) → Buf (Elt Ideal) ℓ) (c : Dev nD)

/-- What is stored, from the blocks read. -/
theorem new_m (x0 x1 x2 x3 : FVec Ideal S1x2x2048 .f32) (i : Fin 1) (j : Fin 2) (k : Fin 2048) :
    out0_5 (F := Ideal) x0 x1 x2 x3 (ix3 i j k) = moment (x1 (ix3 i j k)) (x2 (ix3 i j k)) := by
  rw [show out0_5 (F := Ideal) x0 x1 x2 x3 = k0_pay2 (F := Ideal) x1 x2 from by frame_out]
  unfold k0_pay2 k0_pay1 moment
  pointwise []

theorem new_v (x0 x1 x2 x3 : FVec Ideal S1x2x2048 .f32) (i : Fin 1) (j : Fin 2) (k : Fin 2048) :
    out0_6 (F := Ideal) x0 x1 x2 x3 (ix3 i j k) = square (x1 (ix3 i j k)) (x3 (ix3 i j k)) := by
  rw [show out0_6 (F := Ideal) x0 x1 x2 x3 = k0_pay3 (F := Ideal) x1 x3 from by frame_out]
  unfold k0_pay3 k0_pay1 square
  pointwise []

theorem delta (x0 x1 x2 x3 : FVec Ideal S1x2x2048 .f32) (i : Fin 1) (j : Fin 2) (k : Fin 2048) :
    out0_4 (F := Ideal) x0 x1 x2 x3 (ix3 i j k) = change (x0 (ix3 i j k)) (x1 (ix3 i j k)) (x2 (ix3 i j k)) (x3 (ix3 i j k)) := by
  rw [show out0_4 (F := Ideal) x0 x1 x2 x3 = k0_pay4 (F := Ideal) x1 x2 x3 x0 from by frame_out]
  unfold k0_pay4 k0_pay3 k0_pay2 k0_pay1 change moment square
  pointwise []

theorem idx : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] :=
  (by decide +kernel : ∀ t : Fin grid0.N, _)

/-- The weights with a leading axis of one. -/
def first (A : (⟨2, ![2, 2048]⟩ : Shape).Idx → EReal) : Cube 1 2 2048 := fun y => A (ix2 (y 1) (y 2))

theorem blk0 (t : Fin cfg0.N) (i : Fin 1) (j : Fin 2) (k : Fin 2048) (i' : Fin 1) (j' : Fin 2) (k' : Fin 2048)
    (hi : i'.val = i.val) (hj : j'.val = j.val) (hk : k'.val = k.val) :
    (iblk m c 0 t : Vec Ideal S1x2x2048 .f32) (ix3 i j k) = (first (m ((c : Thread nD τ).loc main_arg0)) : Cube 1 2 2048) (ix3 i' j' k') := by
  refine Eq.trans (b := (V m c main_v0 : FVec Ideal S1x2x2048 .f32) (ix3 i' j' k')) ?_ ?_
  · blk_ext [iblk, idx t, hi, hj, hk]
  · unfold V
    after_reads_simp
    unfold first
    pointwise []

theorem blk1 (t : Fin cfg0.N) (i : Fin 1) (j : Fin 2) (k : Fin 2048) (i' : Fin 1) (j' : Fin 2) (k' : Fin 2048)
    (hi : i'.val = i.val) (hj : j'.val = j.val) (hk : k'.val = k.val) :
    (iblk m c 1 t : Vec Ideal S1x2x2048 .f32) (ix3 i j k) = (first (m ((c : Thread nD τ).loc main_arg1)) : Cube 1 2 2048) (ix3 i' j' k') := by
  refine Eq.trans (b := (V m c main_v1 : FVec Ideal S1x2x2048 .f32) (ix3 i' j' k')) ?_ ?_
  · blk_ext [iblk, idx t, hi, hj, hk]
  · unfold V
    after_reads_simp
    unfold first
    pointwise []

theorem blk2 (t : Fin cfg0.N) (i : Fin 1) (j : Fin 2) (k : Fin 2048) (i' : Fin 1) (j' : Fin 2) (k' : Fin 2048)
    (hi : i'.val = i.val) (hj : j'.val = j.val) (hk : k'.val = k.val) :
    (iblk m c 2 t : Vec Ideal S1x2x2048 .f32) (ix3 i j k) = (first (m ((c : Thread nD τ).loc main_arg2)) : Cube 1 2 2048) (ix3 i' j' k') := by
  refine Eq.trans (b := (V m c main_v2 : FVec Ideal S1x2x2048 .f32) (ix3 i' j' k')) ?_ ?_
  · blk_ext [iblk, idx t, hi, hj, hk]
  · unfold V
    after_reads_simp
    unfold first
    pointwise []

theorem blk3 (t : Fin cfg0.N) (i : Fin 1) (j : Fin 2) (k : Fin 2048) (i' : Fin 1) (j' : Fin 2) (k' : Fin 2048)
    (hi : i'.val = i.val) (hj : j'.val = j.val) (hk : k'.val = k.val) :
    (iblk m c 3 t : Vec Ideal S1x2x2048 .f32) (ix3 i j k) = (first (m ((c : Thread nD τ).loc main_arg3)) : Cube 1 2 2048) (ix3 i' j' k') := by
  refine Eq.trans (b := (V m c main_v3 : FVec Ideal S1x2x2048 .f32) (ix3 i' j' k')) ?_ ?_
  · blk_ext [iblk, idx t, hi, hj, hk]
  · unfold V
    after_reads_simp
    unfold first
    pointwise []

theorem block4 (t : Fin cfg0.N) (i : Fin 1) (j : Fin 2) (k : Fin 2048) (i' : Fin 1) (j' : Fin 2) (k' : Fin 2048)
    (hi : i'.val = i.val) (hj : j'.val = j.val) (hk : k'.val = k.val) :
    out0_4 (iblk m c 0 t) (iblk m c 1 t) (iblk m c 2 t) (iblk m c 3 t) (ix3 i j k)
      = change ((first (m ((c : Thread nD τ).loc main_arg0)) : Cube 1 2 2048) (ix3 i' j' k'))
        ((first (m ((c : Thread nD τ).loc main_arg1)) : Cube 1 2 2048) (ix3 i' j' k'))
        ((first (m ((c : Thread nD τ).loc main_arg2)) : Cube 1 2 2048) (ix3 i' j' k'))
        ((first (m ((c : Thread nD τ).loc main_arg3)) : Cube 1 2 2048) (ix3 i' j' k')) := by
  refine (delta _ _ _ _ _ _ _).trans ?_
  rw [blk0 m c t i j k i' j' k' hi hj hk,
    blk1 m c t i j k i' j' k' hi hj hk,
    blk2 m c t i j k i' j' k' hi hj hk,
    blk3 m c t i j k i' j' k' hi hj hk]

theorem result4 : (dats m 0 c).arrAt 4 cfg0.N = (fun y => change ((first (m ((c : Thread nD τ).loc main_arg0)) : Cube 1 2 2048) y) ((first (m ((c : Thread nD τ).loc main_arg1)) : Cube 1 2 2048) y) ((first (m ((c : Thread nD τ).loc main_arg2)) : Cube 1 2 2048) y) ((first (m ((c : Thread nD τ).loc main_arg3)) : Cube 1 2 2048) y) : Cube 1 2 2048) := by
  refine (dats m 0 c).arrAt_eq_of_covers 4 _ (by decide +kernel) fun t hf y => ?_
  blk_simp
  rw [after0_4, cube_idx y]
  refine (block4 m c t _ _ _ _ _ _ ?_ ?_ ?_).trans (congrArg (fun y => change ((first (m ((c : Thread nD τ).loc main_arg0)) : Cube 1 2 2048) y) ((first (m ((c : Thread nD τ).loc main_arg1)) : Cube 1 2 2048) y) ((first (m ((c : Thread nD τ).loc main_arg2)) : Cube 1 2 2048) y) ((first (m ((c : Thread nD τ).loc main_arg3)) : Cube 1 2 2048) y)) (cube_idx _).symm)
  · blk_simp [idx t]
  · blk_simp [idx t]
  · blk_simp [idx t]

theorem block5 (t : Fin cfg0.N) (i : Fin 1) (j : Fin 2) (k : Fin 2048) (i' : Fin 1) (j' : Fin 2) (k' : Fin 2048)
    (hi : i'.val = i.val) (hj : j'.val = j.val) (hk : k'.val = k.val) :
    out0_5 (iblk m c 0 t) (iblk m c 1 t) (iblk m c 2 t) (iblk m c 3 t) (ix3 i j k)
      = moment ((first (m ((c : Thread nD τ).loc main_arg1)) : Cube 1 2 2048) (ix3 i' j' k'))
        ((first (m ((c : Thread nD τ).loc main_arg2)) : Cube 1 2 2048) (ix3 i' j' k')) := by
  refine (new_m _ _ _ _ _ _ _).trans ?_
  rw [blk1 m c t i j k i' j' k' hi hj hk,
    blk2 m c t i j k i' j' k' hi hj hk]

theorem result5 : (dats m 0 c).arrAt 5 cfg0.N = (fun y => moment ((first (m ((c : Thread nD τ).loc main_arg1)) : Cube 1 2 2048) y) ((first (m ((c : Thread nD τ).loc main_arg2)) : Cube 1 2 2048) y) : Cube 1 2 2048) := by
  refine (dats m 0 c).arrAt_eq_of_covers 5 _ (by decide +kernel) fun t hf y => ?_
  blk_simp
  rw [after0_5, cube_idx y]
  refine (block5 m c t _ _ _ _ _ _ ?_ ?_ ?_).trans (congrArg (fun y => moment ((first (m ((c : Thread nD τ).loc main_arg1)) : Cube 1 2 2048) y) ((first (m ((c : Thread nD τ).loc main_arg2)) : Cube 1 2 2048) y)) (cube_idx _).symm)
  · blk_simp [idx t]
  · blk_simp [idx t]
  · blk_simp [idx t]

theorem block6 (t : Fin cfg0.N) (i : Fin 1) (j : Fin 2) (k : Fin 2048) (i' : Fin 1) (j' : Fin 2) (k' : Fin 2048)
    (hi : i'.val = i.val) (hj : j'.val = j.val) (hk : k'.val = k.val) :
    out0_6 (iblk m c 0 t) (iblk m c 1 t) (iblk m c 2 t) (iblk m c 3 t) (ix3 i j k)
      = square ((first (m ((c : Thread nD τ).loc main_arg1)) : Cube 1 2 2048) (ix3 i' j' k'))
        ((first (m ((c : Thread nD τ).loc main_arg3)) : Cube 1 2 2048) (ix3 i' j' k')) := by
  refine (new_v _ _ _ _ _ _ _).trans ?_
  rw [blk1 m c t i j k i' j' k' hi hj hk,
    blk3 m c t i j k i' j' k' hi hj hk]

theorem result6 : (dats m 0 c).arrAt 6 cfg0.N = (fun y => square ((first (m ((c : Thread nD τ).loc main_arg1)) : Cube 1 2 2048) y) ((first (m ((c : Thread nD τ).loc main_arg3)) : Cube 1 2 2048) y) : Cube 1 2 2048) := by
  refine (dats m 0 c).arrAt_eq_of_covers 6 _ (by decide +kernel) fun t hf y => ?_
  blk_simp
  rw [after0_6, cube_idx y]
  refine (block6 m c t _ _ _ _ _ _ ?_ ?_ ?_).trans (congrArg (fun y => square ((first (m ((c : Thread nD τ).loc main_arg1)) : Cube 1 2 2048) y) ((first (m ((c : Thread nD τ).loc main_arg3)) : Cube 1 2 2048) y)) (cube_idx _).symm)
  · blk_simp [idx t]
  · blk_simp [idx t]
  · blk_simp [idx t]

theorem algebraic : Cert.algebraic_Kernel22Ideal_Reference22Ideal (hKernel22Ideal := Cert.Kernel22Ideal.Gen.facts)
    (hReference22Ideal := Cert.Reference22Ideal.Gen.facts) := by
  intro m ρ m' ρ' _ heq
  refine ⟨_, _, _, (θ_run _ _ _).mono (fun r h c => ⟨(h c).1.trans (result4 m c), (h c).2.1.trans (result5 m c), (h c).2.2.1.trans (result6 m c),
    (h c).2.2.2⟩) (Cert.Kernel22Ideal.Value.run_blocks m ρ), ?_⟩
  refine (θ_run _ _ _).mono (fun r h c => ⟨(h c).1.trans ?_, (h c).2.1.trans ?_, (h c).2.2.1.trans ?_, (h c).2.2.2⟩)
    (Cert.Reference22Ideal.Value.run m' ρ')
  all_goals
    obtain ⟨e0, e1, e2, e3⟩ := heq c
    simp only [e0, e1, e2, e3]
    refine cube_ext fun i j k => ?_
    unfold first
    pointwise [change, moment, square]

end Cert.Proof.AdamNorm

end
-- ==== Proof.ConvGate.lean ====
/-
  The ConvFFN's causal convolution and gate, block by block.
-/
module

public import proofs.«01_k».proof.Defs
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gates
public import proofs.«01_k».proof.Proof.Adam
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.ConvGate

open Idealize.ShloMosaic Idealize.ShloMosaic.TcCoe Idealize.ShloMosaic.Tactic Cert.Kernel23Ideal Cert.Kernel23Ideal.Gen

variable (m : (ℓ : Loc nD τ sig) → Buf (Elt Ideal) ℓ) (c : Dev nD)

/-- The rows `k` steps later, zero before the first. -/
def later {a b : ℕ} (k : ℕ) (A : Mat a b) : Mat a b := fun y =>
  if k ≤ (y 0).val then A (ix2 ⟨(y 0).val - k, Nat.lt_of_le_of_lt (Nat.sub_le _ _) (y 0).isLt⟩ (y 1)) else 0

/-- The causal convolution of each column by its three taps, the last at the row itself, and its bias. -/
def conv {a b : ℕ} (A : Mat a b) (w : Mat 3 b) (s : Fin b → EReal) : Mat a b := fun y =>
  later 2 A y * w (ix2 0 (y 1)) + later 1 A y * w (ix2 1 (y 1)) + A y * w (ix2 2 (y 1)) + s (y 1)

theorem later_zero {a b : ℕ} (A : Mat a b) (i : Fin a) (j : Fin b) : later 0 A (ix2 i j) = A (ix2 i j) := by
  unfold later
  pointwise []

/-- The convolution times its sigmoid, times the other product. -/
def gated {a b : ℕ} (A U : Mat a b) (w : Mat 3 b) (s : Fin b → EReal) : Mat a b := times (times (conv A w s) (gate (conv A w s))) U

/-- The mask of the first rows. -/
theorem sge : ∀ k r : Fin 8, IntOp.cmpi .sge (BitVec.ofNat 32 r.val) (BitVec.ofNat 32 k.val) = if k.val ≤ r.val then 1#1 else 0#1 := by decide

/-- The order in which the body adds and the reference's. -/
theorem arrange (a b c d : EReal) : c + d + b + a = a + b + c + d := by ac_rfl

/-- The block's rows rotated by `k`, with zeros in the first `k`. -/
theorem rotated (k : ℕ) (hk : k < 8) (x : FVec Ideal S4096x128 .f32) :
    concatenate S4096x128 0 [⟨S8x128, select (cmpi .sge (iota .tc S8x128 32 [0] iota_S8x128_d0_w32) (broadcast S8x128 (BitVec.ofNat 32 k)))
        (extractStridedSlice S8x128 ![0, 0] (dynamicRotate 0 (BitVec.ofNat 32 k) none x rotates_S4096x128_d0) slices_S4096x128_o0_0_S8x128)
        (broadcast S8x128 (Scalar.ofBits (F := Ideal) .f32 0x00000000#32))⟩,
      ⟨S4088x128, extractStridedSlice S4088x128 ![8, 0] (dynamicRotate 0 (BitVec.ofNat 32 k) none x rotates_S4096x128_d0) slices_S4096x128_o8_0_S4088x128⟩]
      concatenates_S8x128_S4088x128_S4096x128_d0 = later k x := by
  refine mat_ext fun i j => ?_
  have e : (BitVec.ofNat 32 k).toNat % 4096 = k := by rw [BitVec.toNat_ofNat]; omega
  unfold later
  pointwise []
  simp only [e]
  split_ifs with h h' h'
  · rw [sge ⟨k, hk⟩ ⟨i.val, h⟩, if_pos h']
    exact congrArg (fun t => x (ix2 t j)) (Fin.ext (by show (i.val + 4096 - k) % 4096 = i.val - k; omega))
  · rw [sge ⟨k, hk⟩ ⟨i.val, h⟩, if_neg h']
    rfl
  · rw [if_pos (show k ≤ i.val by omega)]
    refine congrArg (fun t => x (ix2 t j)) (Fin.ext ?_)
    show (8 + (i.val - 8) + 4096 - k) % 4096 = i.val - k
    omega
  · exact absurd rfl h'

/-- The slice at row `o` of the rows below `p` rows of zeros. -/
theorem host_later {a b n : ℕ} (p o : ℕ) (ho : o ≤ p) (A : Mat a b) :
    ∀ g h q r, (extractStridedSlice ⟨3, ![1, a, b]⟩ ![0, o, 0] (pad ⟨3, ![1, n, b]⟩ ![0, p, 0] ![0, 0, 0] ![0, 0, 0]
      (broadcastInDim ⟨3, ![1, a, b]⟩ ![1, 2] g A) (sitofp (F := Ideal) .f32 (constantI Cert.Reference23Ideal.S_ 32 0#32)) h q) r)
      = fun y => later (p - o) A (ix2 (y 1) (y 2)) := by
  intro g h q r
  refine cube_ext fun u i j => ?_
  unfold later extractStridedSlice pad
  split_ifs with h h' h'
  · refine congrArg A (funext fun d => ?_)
    match d with
    | 0 =>
      refine Fin.ext ?_
      split_ifs with h1
      · have : a = 1 := h1
        show 0 = i.val - (p - o)
        omega
      · show (o + i.val - p) / 1 = i.val - (p - o)
        omega
    | 1 =>
      refine Fin.ext ?_
      split_ifs with h1
      · have : b = 1 := h1
        show 0 = j.val
        omega
      · show (0 + j.val - 0) / 1 = j.val
        omega
  · exact absurd (show p - o ≤ i.val by have : p ≤ o + i.val := (h 1).1; omega) h'
  · refine absurd (fun d => ?_) h
    match d with
    | 0 => exact ⟨Nat.zero_le _, Nat.mod_one _, show (0 + u.val - 0) / 1 < 1 by omega⟩
    | 1 => exact ⟨show p ≤ o + i.val by have : p - o ≤ i.val := h'; omega, Nat.mod_one _, show (o + i.val - p) / 1 < a by omega⟩
    | 2 => exact ⟨Nat.zero_le _, Nat.mod_one _, show (0 + j.val - 0) / 1 < b by omega⟩
  · pointwise []
    simp [FloatOps.sitofp]

theorem convolved (x : FVec Ideal S4096x128 .bf16) (w : FVec Ideal S3x128 .f32) (s : FVec Ideal S1x128 .f32) (i : Fin 4096) (j : Fin 128) :
    k0_pay2 (F := Ideal) x w s (ix2 i j) = conv x w (fun k => s (ix2 0 k)) (ix2 i j) := by
  refine Eq.trans (b := x (ix2 i j) * w (ix2 2 j) + s (ix2 0 j) + later 1 (x : Mat 4096 128) (ix2 i j) * w (ix2 1 j) + later 2 (x : Mat 4096 128) (ix2 i j) * w (ix2 0 j)) ?_ ?_
  · unfold k0_pay2
    rw [rotated 1 (by omega), rotated 2 (by omega)]
    pointwise [later]
  · unfold conv
    exact arrange _ _ _ _

/-- What is stored, from the blocks read. -/
theorem stores (x u : FVec Ideal S4096x128 .bf16) (w : FVec Ideal S3x128 .f32) (s : FVec Ideal S1x128 .f32) (i : Fin 4096) (j : Fin 128) :
    out0_4 (F := Ideal) x u w s (ix2 i j) = gated x u w (fun k => s (ix2 0 k)) (ix2 i j) := by
  rw [show out0_4 (F := Ideal) x u w s = k0_pay1 (F := Ideal) (k0_pay2 (F := Ideal) x w s) (k0_pay3 (F := Ideal) x w s) u from by frame_out]
  refine Eq.trans ?_ (congrArg (fun v => conv x w (fun k => s (ix2 0 k)) (ix2 i j) * v * u (ix2 i j)) (sigmoid (conv x w (fun k => s (ix2 0 k)) (ix2 i j))))
  rw [← half, ← convolved]
  unfold k0_pay1 k0_pay3
  pointwise []

theorem idx : ∀ t : Fin cfg0.N, win0_0.index t = ![0, t.val] ∧ win0_1.index t = ![0, t.val] ∧ win0_2.index t = ![0, t.val]
    ∧ win0_3.index t = ![0, t.val] ∧ win0_4.index t = ![0, t.val] := (by decide +kernel : ∀ t : Fin grid0.N, _)

theorem blk0 (t : Fin cfg0.N) (i i' : Fin 4096) (j : Fin 128) (j' : Fin 5632) (hi : i'.val = i.val) (hj : j'.val = 128 * t.val + j.val) :
    (iblk m c 0 t : Vec Ideal S4096x128 .bf16) (ix2 i j) = (m ((c : Thread nD τ).loc main_arg0) : FVec Ideal S4096x5632 .f32) (ix2 i' j') := by
  refine Eq.trans (b := (V m c main_v0 : FVec Ideal S4096x5632 .bf16) (ix2 i' j')) ?_ ?_
  · blk_ext [iblk, idx t, hi, hj]
  · unfold V
    after_reads_simp
    rfl

theorem blk1 (t : Fin cfg0.N) (i i' : Fin 4096) (j : Fin 128) (j' : Fin 5632) (hi : i'.val = i.val) (hj : j'.val = 128 * t.val + j.val) :
    (iblk m c 1 t : Vec Ideal S4096x128 .bf16) (ix2 i j) = (m ((c : Thread nD τ).loc main_arg1) : FVec Ideal S4096x5632 .f32) (ix2 i' j') := by
  refine Eq.trans (b := (V m c main_v1 : FVec Ideal S4096x5632 .bf16) (ix2 i' j')) ?_ ?_
  · blk_ext [iblk, idx t, hi, hj]
  · unfold V
    after_reads_simp
    rfl

theorem blk2 (t : Fin cfg0.N) (k : Fin 3) (j : Fin 128) (j' : Fin 5632) (hj : j'.val = 128 * t.val + j.val) :
    (iblk m c 2 t : Vec Ideal S3x128 .f32) (ix2 k j) = (m ((c : Thread nD τ).loc main_arg2) : FVec Ideal S3x5632 .f32) (ix2 k j') := by
  refine Eq.trans (b := (V m c main_arg2 : FVec Ideal S3x5632 .f32) (ix2 k j')) ?_ ?_
  · blk_ext [iblk, idx t, hj]
  · rw [V_main_arg2]

theorem blk3 (t : Fin cfg0.N) (j : Fin 128) (j' : Fin 5632) (hj : j'.val = 128 * t.val + j.val) :
    (iblk m c 3 t : Vec Ideal S1x128 .f32) (ix2 0 j) = (m ((c : Thread nD τ).loc main_arg3) : FVec Ideal S5632 .f32) (ix1 j') := by
  refine Eq.trans (b := (V m c main_v2 : FVec Ideal S1x5632 .f32) (ix2 0 j')) ?_ ?_
  · blk_ext [iblk, idx t, hj]
  · unfold V
    after_reads_simp
    pointwise []

/-- Of an array with the columns of another from some column on: the convolution is that of the columns. -/
theorem conv_columns {a b n : ℕ} (A : Mat a b) (B : Mat a n) (w : Mat 3 b) (v : Mat 3 n) (s : Fin b → EReal) (r : Fin n → EReal)
    (j : Fin b) (j' : Fin n) (hA : ∀ i, A (ix2 i j) = B (ix2 i j')) (hw : ∀ k, w (ix2 k j) = v (ix2 k j')) (hs : s j = r j') (i : Fin a) :
    conv A w s (ix2 i j) = conv B v r (ix2 i j') := by
  have e : ∀ k, later k A (ix2 i j) = later k B (ix2 i j') := fun k => by
    unfold later
    exact if_congr Iff.rfl (hA _) rfl
  exact congrArg₂ (· + ·) (congrArg₂ (· + ·) (congrArg₂ (· + ·) (congrArg₂ (· * ·) (e 2) (hw 0)) (congrArg₂ (· * ·) (e 1) (hw 1)))
    (congrArg₂ (· * ·) (hA i) (hw 2))) hs

theorem block (t : Fin cfg0.N) (i i' : Fin 4096) (j : Fin 128) (j' : Fin 5632) (hi : i'.val = i.val) (hj : j'.val = t.val * 128 + j.val) :
    out0_4 (iblk m c 0 t) (iblk m c 1 t) (iblk m c 2 t) (iblk m c 3 t) (ix2 i j)
      = gated (m ((c : Thread nD τ).loc main_arg0)) (m ((c : Thread nD τ).loc main_arg1)) (m ((c : Thread nD τ).loc main_arg2))
        (fun k => m ((c : Thread nD τ).loc main_arg3) (ix1 k)) (ix2 i' j') := by
  have hj' : j'.val = 128 * t.val + j.val := by omega
  obtain rfl : i' = i := Fin.ext hi
  have e := conv_columns _ _ _ _ (fun k => (iblk m c 3 t : Vec Ideal S1x128 .f32) (ix2 0 k))
    (fun k => (m ((c : Thread nD τ).loc main_arg3) : FVec Ideal S5632 .f32) (ix1 k)) j j'
    (fun k => blk0 m c t k k j j' rfl hj') (fun k => blk2 m c t k j j' hj') (blk3 m c t j j' hj') i'
  exact (stores _ _ _ _ _ _).trans (congrArg₂ (· * ·) (congrArg₂ (· * ·) e (congrArg Ideal.logistic e)) (blk1 m c t _ _ _ _ rfl hj'))

theorem result : (dats m 0 c).arrAt 4 cfg0.N
    = gated (m ((c : Thread nD τ).loc main_arg0)) (m ((c : Thread nD τ).loc main_arg1)) (m ((c : Thread nD τ).loc main_arg2))
      (fun k => m ((c : Thread nD τ).loc main_arg3) (ix1 k)) := by
  refine (dats m 0 c).arrAt_eq_of_covers 4 _ (by decide +kernel) fun t hf y => ?_
  blk_simp
  rw [after0_4, mat_idx y]
  refine (block m c t _ _ _ _ ?_ ?_).trans (congrArg _ (mat_idx _).symm)
  · blk_simp [idx t]
  · blk_simp [idx t]

theorem algebraic : Cert.algebraic_Kernel23Ideal_Reference23Ideal (hKernel23Ideal := Cert.Kernel23Ideal.Gen.facts)
    (hReference23Ideal := Cert.Reference23Ideal.Gen.facts) := by
  intro m ρ m' ρ' _ heq
  refine ⟨fun c => gated (m ((c : Thread nD τ).loc main_arg0)) (m ((c : Thread nD τ).loc main_arg1)) (m ((c : Thread nD τ).loc main_arg2))
    (fun k => m ((c : Thread nD τ).loc main_arg3) (ix1 k)), ?_, ?_⟩
  · exact (θ_run _ _ _).mono (fun r h c => ⟨(h c).1.trans (result m c), (h c).2⟩) (Cert.Kernel23Ideal.Value.run_blocks m ρ)
  · refine (θ_run _ _ _).mono (fun r h c => ⟨(h c).1.trans ?_, (h c).2⟩) (Cert.Reference23Ideal.Value.run m' ρ')
    obtain ⟨e0, e1, e2, e3⟩ := heq c
    unfold Cert.Reference23Ideal.Value.res_main_v29
    rw [e0, e1, e2, e3, host_later 2 0 (by omega), host_later 2 1 (by omega), host_later 2 2 (by omega)]
    refine mat_ext fun i j => ?_
    pointwise [gated, times, gate, conv, later_zero]
    rfl

end Cert.Proof.ConvGate

end
-- ==== Proof.QueryKeyValue.lean ====
/-
  The DeltaNet's short convolution and the norm of queries and keys, block by block.
-/
module

public import proofs.«01_k».proof.Defs
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gates
public import proofs.«01_k».proof.Proof.ConvGate
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.QueryKeyValue

open Idealize.ShloMosaic Idealize.ShloMosaic.TcCoe Idealize.ShloMosaic.Tactic

/-- The column `k` of the head that has column `j`. -/
def headCol (j : Fin 3072) (k : Fin 128) : Fin 3072 := ⟨128 * (j.val / 128) + k.val, by omega⟩

/-- The queries' and keys' heads over the root of the sum of their squares, the values as they are. -/
def headed {a : ℕ} (S : Mat a 3072) : Mat a 3072 := fun y =>
  if (y 1).val < 2048 then
    S y * Ideal.rsqrt ((∑ k : Fin 128, S (ix2 (y 0) (headCol (y 1) k)) * S (ix2 (y 0) (headCol (y 1) k))) + Ideal.ofBits .f32 0x358637BD#32)
  else S y

section
open Cert.Reference24Ideal Cert.Reference24Ideal.Facts₀
attribute [local instance] Cert.Reference24Ideal.Gen.facts

/-- The reference's split, norms of the heads and concatenation. -/
theorem host_headed (Q : FVec Ideal S1x4096x3072 .f32) (i : Fin 4096) (j : Fin 3072) :
    (shapeCast S4096x3072 ((concatenate S1x4096x3072 2 [⟨S1x4096x1024, ((shapeCast S1x4096x1024 (mulf (shapeCast S1x4096x8x128 (extractStridedSlice S1x4096x1024 ![0, 0, 0] Q slices_S1x4096x3072_S1x4096x1024_0_0_0) shapeCasts_S1x4096x1024_S1x4096x8x128) (broadcastInDim S1x4096x8x128 ![0, 1, 2, 3] bcast_S1x4096x8x1_S1x4096x8x128_0_1_2_3 (Host.rsqrt (addf (broadcastInDim S1x4096x8x1 ![0, 1, 2] bcast_S1x4096x8_S1x4096x8x1_0_1_2 (Host.reduceAdd (mulf (shapeCast S1x4096x8x128 (extractStridedSlice S1x4096x1024 ![0, 0, 0] Q slices_S1x4096x3072_S1x4096x1024_0_0_0) shapeCasts_S1x4096x1024_S1x4096x8x128) (shapeCast S1x4096x8x128 (extractStridedSlice S1x4096x1024 ![0, 0, 0] Q slices_S1x4096x3072_S1x4096x1024_0_0_0) shapeCasts_S1x4096x1024_S1x4096x8x128)) (constant (F := Ideal) S_ .f32 0x00000000#32) reducesTo_S1x4096x8x128_S1x4096x8_d3 h_S_)) (broadcastInDim S1x4096x8x1 ![] bcast_S_S1x4096x8x1 (constant (F := Ideal) S_ .f32 0x358637BD#32)))))) shapeCasts_S1x4096x8x128_S1x4096x1024))⟩, ⟨S1x4096x1024, ((shapeCast S1x4096x1024 (mulf (shapeCast S1x4096x8x128 (extractStridedSlice S1x4096x1024 ![0, 0, 1024] Q slices_S1x4096x3072_S1x4096x1024_0_0_1024) shapeCasts_S1x4096x1024_S1x4096x8x128) (broadcastInDim S1x4096x8x128 ![0, 1, 2, 3] bcast_S1x4096x8x1_S1x4096x8x128_0_1_2_3 (Host.rsqrt (addf (broadcastInDim S1x4096x8x1 ![0, 1, 2] bcast_S1x4096x8_S1x4096x8x1_0_1_2 (Host.reduceAdd (mulf (shapeCast S1x4096x8x128 (extractStridedSlice S1x4096x1024 ![0, 0, 1024] Q slices_S1x4096x3072_S1x4096x1024_0_0_1024) shapeCasts_S1x4096x1024_S1x4096x8x128) (shapeCast S1x4096x8x128 (extractStridedSlice S1x4096x1024 ![0, 0, 1024] Q slices_S1x4096x3072_S1x4096x1024_0_0_1024) shapeCasts_S1x4096x1024_S1x4096x8x128)) (constant (F := Ideal) S_ .f32 0x00000000#32) reducesTo_S1x4096x8x128_S1x4096x8_d3 h_S_)) (broadcastInDim S1x4096x8x1 ![] bcast_S_S1x4096x8x1 (constant (F := Ideal) S_ .f32 0x358637BD#32)))))) shapeCasts_S1x4096x8x128_S1x4096x1024))⟩, ⟨S1x4096x1024, ((extractStridedSlice S1x4096x1024 ![0, 0, 2048] Q slices_S1x4096x3072_S1x4096x1024_0_0_2048))⟩] concatenates_S1x4096x1024_S1x4096x1024_S1x4096x1024_S1x4096x3072_d2)) shapeCasts_S1x4096x3072_S4096x3072) (ix2 i j) = headed (fun y : (⟨2, ![4096, 3072]⟩ : Shape).Idx => Q (ix3 0 (y 0) (y 1))) (ix2 i j) := by
  have e : ∀ a b : Fin 3072, a.val = b.val → Q (ix3 0 i a) = Q (ix3 0 i b) := fun a b h => by rw [Fin.ext h]
  unfold headed headCol
  pointwise []
  split_ifs with h g h' g g
  · refine Eq.trans ?_ (if_pos (by omega)).symm
    refine congrArg₂ (· * ·) (e _ _ ?_) (congrArg (fun s => Ideal.rsqrt (s + _)) (Finset.sum_congr rfl fun k _ => congrArg₂ (· * ·) (e _ _ ?_) (e _ _ ?_)))
    all_goals
      dsimp only
      omega
  · exact absurd rfl g
  · refine Eq.trans ?_ (if_pos (by omega)).symm
    refine congrArg₂ (· * ·) (e _ _ ?_) (congrArg (fun s => Ideal.rsqrt (s + _)) (Finset.sum_congr rfl fun k _ => congrArg₂ (· * ·) (e _ _ ?_) (e _ _ ?_)))
    all_goals
      dsimp only
      omega
  · exact absurd rfl g
  · refine (e _ _ ?_).trans (if_neg (by omega)).symm
    dsimp only
    omega
  · exact absurd rfl g

end

open Cert.Kernel24Ideal Cert.Kernel24Ideal.Gen

variable (m : (ℓ : Loc nD τ sig) → Buf (Elt Ideal) ℓ) (c : Dev nD)

/-- The causal convolution of each column by its four taps, the last at the row itself. -/
def conv {a b : ℕ} (A : Mat a b) (w : Mat 4 b) : Mat a b := fun y =>
  ConvGate.later 3 A y * w (ix2 0 (y 1)) + ConvGate.later 2 A y * w (ix2 1 (y 1)) + ConvGate.later 1 A y * w (ix2 2 (y 1)) + A y * w (ix2 3 (y 1))

/-- The convolution times its sigmoid. -/
def swish {a b : ℕ} (A : Mat a b) (w : Mat 4 b) : Mat a b := times (conv A w) (gate (conv A w))

/-- The three arrays from the combined projection and the taps. -/
def prepared (P : Mat 4096 10368) (w : Mat 4 3072) : Mat 4096 3072 := headed (swish (columns 0 (by omega) P) w)

/-- The order in which the body adds and the reference's. -/
theorem arrange (a b c d : EReal) : d + c + b + a = a + b + c + d := by ac_rfl

theorem convolved (x : FVec Ideal S4096x128 .bf16) (w : FVec Ideal S4x128 .f32) (i : Fin 4096) (j : Fin 128) :
    k0_pay2 (F := Ideal) x w (ix2 i j) = conv x w (ix2 i j) := by
  refine Eq.trans (b := x (ix2 i j) * w (ix2 3 j) + ConvGate.later 1 (x : Mat 4096 128) (ix2 i j) * w (ix2 2 j)
    + ConvGate.later 2 (x : Mat 4096 128) (ix2 i j) * w (ix2 1 j) + ConvGate.later 3 (x : Mat 4096 128) (ix2 i j) * w (ix2 0 j)) ?_ ?_
  · unfold k0_pay2
    rw [ConvGate.rotated 1 (by omega), ConvGate.rotated 2 (by omega), ConvGate.rotated 3 (by omega)]
    pointwise [ConvGate.later]
  · unfold conv
    exact arrange _ _ _ _

/-- Whether a column block is one of the queries or keys. -/
theorem slt : ∀ j : Fin 24, Scalar.cmpi .slt (BitVec.ofNat 32 j.val) 16#32 = if j.val < 16 then 1#1 else 0#1 := by decide

/-- What is stored, from the convolution. -/
theorem stores (q : Fin 24) (x : FVec Ideal S4096x128 .f32) (i : Fin 4096) (j : Fin 128) :
    k0_pay1 (F := Ideal) (BitVec.ofNat 32 q.val) x (ix2 i j)
      = if q.val < 16 then times x (gate x) (ix2 i j) * Ideal.rsqrt ((∑ k : Fin 128, times x (gate x) (ix2 i k) * times x (gate x) (ix2 i k)) + Ideal.ofBits .f32 0x358637BD#32)
        else times x (gate x) (ix2 i j) := by
  have e : ∀ k, times x (gate x) (ix2 i k) = x (ix2 i k) * (Ideal.ofBits .f32 0x3F000000#32 * Ideal.tanh (Ideal.ofBits .f32 0x3F000000#32 * x (ix2 i k)) + Ideal.ofBits .f32 0x3F000000#32) :=
    fun k => by rw [half]; exact congrArg (x (ix2 i k) * ·) (sigmoid _).symm
  simp only [e]
  unfold k0_pay1 Scalar.select
  rw [slt q]
  by_cases h : q.val < 16
  · rw [if_pos h, if_pos h]
    refine (congrFun (if_pos rfl) _).trans ?_
    pointwise []
  · rw [if_neg h, if_neg h]
    refine (congrFun (if_neg (by decide)) _).trans ?_
    pointwise []

theorem idx : ∀ t : Fin cfg0.N, win0_0.index t = ![0, t.val] ∧ win0_1.index t = ![0, t.val] ∧ win0_2.index t = ![0, t.val]
    ∧ (grid0.coords t 0).val = t.val := (by decide +kernel : ∀ t : Fin grid0.N, _)

theorem blk0 (t : Fin cfg0.N) (i : Fin 4096) (j : Fin 128) (j' : Fin 3072) (hj : j'.val = 128 * t.val + j.val) :
    (iblk m c 0 t : Vec Ideal S4096x128 .bf16) (ix2 i j) = columns 0 (by omega) (m ((c : Thread nD τ).loc main_arg0) : FVec Ideal S4096x10368 .f32) (ix2 i j') := by
  refine Eq.trans (b := (V m c main_v0 : FVec Ideal S4096x10368 .bf16) (ix2 i ⟨j'.val, by omega⟩)) ?_ ?_
  · blk_ext [iblk, idx t, hj]
  · unfold V columns
    after_reads_simp
    pointwise []

theorem blk1 (t : Fin cfg0.N) (k : Fin 4) (j : Fin 128) (j' : Fin 3072) (hj : j'.val = 128 * t.val + j.val) :
    (iblk m c 1 t : Vec Ideal S4x128 .f32) (ix2 k j) = (m ((c : Thread nD τ).loc main_arg1) : FVec Ideal S4x3072 .f32) (ix2 k j') := by
  refine Eq.trans (b := (V m c main_arg1 : FVec Ideal S4x3072 .f32) (ix2 k j')) ?_ ?_
  · blk_ext [iblk, idx t, hj]
  · rw [V_main_arg1]

/-- Of an array with the columns of another from some column on: the convolution is that of the columns. -/
theorem conv_columns {a b n : ℕ} (A : Mat a b) (B : Mat a n) (w : Mat 4 b) (v : Mat 4 n)
    (j : Fin b) (j' : Fin n) (hA : ∀ i, A (ix2 i j) = B (ix2 i j')) (hw : ∀ k, w (ix2 k j) = v (ix2 k j')) (i : Fin a) :
    conv A w (ix2 i j) = conv B v (ix2 i j') := by
  have e : ∀ k, ConvGate.later k A (ix2 i j) = ConvGate.later k B (ix2 i j') := fun k => by
    unfold ConvGate.later
    exact if_congr Iff.rfl (hA _) rfl
  exact congrArg₂ (· + ·) (congrArg₂ (· + ·) (congrArg₂ (· + ·) (congrArg₂ (· * ·) (e 3) (hw 0)) (congrArg₂ (· * ·) (e 2) (hw 1)))
    (congrArg₂ (· * ·) (e 1) (hw 2))) (congrArg₂ (· * ·) (hA i) (hw 3))

theorem block (t : Fin cfg0.N) (i i' : Fin 4096) (j : Fin 128) (j' : Fin 3072) (hi : i'.val = i.val) (hj : j'.val = t.val * 128 + j.val) :
    out0_2 (grid0.coords t) (iblk m c 0 t) (iblk m c 1 t) (ix2 i j)
      = prepared (m ((c : Thread nD τ).loc main_arg0)) (m ((c : Thread nD τ).loc main_arg1)) (ix2 i' j') := by
  obtain rfl : i' = i := Fin.ext hi
  have ht : t.val < 24 := t.isLt
  rw [show out0_2 (F := Ideal) (grid0.coords t) (iblk m c 0 t) (iblk m c 1 t)
    = k0_pay1 (F := Ideal) (BitVec.ofNat 32 (grid0.coords t 0).val) (k0_pay2 (F := Ideal) (iblk m c 0 t) (iblk m c 1 t)) from by frame_out,
    (idx t).2.2.2]
  have e : ∀ (k : Fin 128) (k' : Fin 3072), k'.val = 128 * t.val + k.val →
      times (k0_pay2 (F := Ideal) (iblk m c 0 t) (iblk m c 1 t)) (gate (k0_pay2 (F := Ideal) (iblk m c 0 t) (iblk m c 1 t))) (ix2 i' k)
        = swish (columns 0 (by omega) (m ((c : Thread nD τ).loc main_arg0))) (m ((c : Thread nD τ).loc main_arg1)) (ix2 i' k') := fun k k' hk => by
    have e := (convolved (iblk m c 0 t) (iblk m c 1 t) i' k).trans
      (conv_columns _ _ _ _ k k' (fun r => blk0 m c t r k k' hk) (fun r => blk1 m c t r k k' hk) i')
    exact congrArg₂ (· * ·) e (congrArg Ideal.logistic e)
  refine (stores ⟨t.val, ht⟩ _ i' j).trans ?_
  unfold prepared headed
  refine if_congr (by show t.val < 16 ↔ j'.val < 2048; omega) ?_ (e j j' (by omega))
  exact congrArg₂ (· * ·) (e j j' (by omega)) (congrArg (fun s => Ideal.rsqrt (s + _)) (Finset.sum_congr rfl fun k _ =>
    have hk := e k (headCol j' k) (by show 128 * (j'.val / 128) + k.val = 128 * t.val + k.val; omega)
    congrArg₂ (· * ·) hk hk))

theorem result : (dats m 0 c).arrAt 2 cfg0.N
    = prepared (m ((c : Thread nD τ).loc main_arg0)) (m ((c : Thread nD τ).loc main_arg1)) := by
  refine (dats m 0 c).arrAt_eq_of_covers 2 _ (by decide +kernel) fun t hf y => ?_
  blk_simp
  rw [after0_2, mat_idx y]
  refine (block m c t _ _ _ _ ?_ ?_).trans (congrArg _ (mat_idx _).symm)
  · blk_simp [idx t]
  · blk_simp [idx t]

/-- The reference's slice of the columns from `o` on. -/
theorem cut {a b n : ℕ} (o : ℕ) (ho : o + n ≤ b) (A : Mat a b) : ∀ h, extractStridedSlice ⟨2, ![a, n]⟩ ![0, o] A h = columns o ho A := by
  intro h
  refine mat_ext fun i j => congrArg A (funext fun d => ?_)
  match d with
  | 0 => exact Fin.ext (Nat.zero_add _)
  | 1 => rfl

theorem algebraic : Cert.algebraic_Kernel24Ideal_Reference24Ideal (hKernel24Ideal := Cert.Kernel24Ideal.Gen.facts)
    (hReference24Ideal := Cert.Reference24Ideal.Gen.facts) := by
  intro m ρ m' ρ' _ heq
  refine ⟨fun c => prepared (m ((c : Thread nD τ).loc main_arg0)) (m ((c : Thread nD τ).loc main_arg1)), ?_, ?_⟩
  · exact (θ_run _ _ _).mono (fun r h c => ⟨(h c).1.trans (result m c), (h c).2⟩) (Cert.Kernel24Ideal.Value.run_blocks m ρ)
  · refine (θ_run _ _ _).mono (fun r h c => ⟨(h c).1.trans ?_, (h c).2⟩) (Cert.Reference24Ideal.Value.run m' ρ')
    obtain ⟨e0, e1⟩ := heq c
    unfold Cert.Reference24Ideal.Value.res_main_v55
    rw [e0, e1, ConvGate.host_later 3 0 (by omega), ConvGate.host_later 3 1 (by omega), ConvGate.host_later 3 2 (by omega), ConvGate.host_later 3 3 (by omega), cut 0 (by omega)]
    refine mat_ext fun i j => (host_headed _ i j).trans (congrFun (congrArg headed (mat_ext fun i j => ?_)) _)
    unfold swish
    pointwise [times, gate, conv, ConvGate.later_zero]
    rfl

end Cert.Proof.QueryKeyValue

end
-- ==== Proof.HeadNorm.lean ====
/-
  The DeltaNet's output norm and gate, block by block.
-/
module

public import proofs.«01_k».proof.Defs
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gates
public import proofs.«01_k».proof.Proof.QueryKeyValue
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.HeadNorm

open Idealize.ShloMosaic Idealize.ShloMosaic.TcCoe Idealize.ShloMosaic.Tactic

/-- The column `k` of the head that has column `j`. -/
def headCol (j : Fin 1024) (k : Fin 128) : Fin 1024 := ⟨128 * (j.val / 128) + k.val, by omega⟩

/-- The heads over the root of their mean square, times the weight, gated. -/
def post {a : ℕ} (o z : Mat a 1024) (g : Fin 128 → EReal) : Mat a 1024 := fun y =>
  o y * Ideal.rsqrt (Ideal.div (∑ k : Fin 128, o (ix2 (y 0) (headCol (y 1) k)) * o (ix2 (y 0) (headCol (y 1) k))) (Ideal.ofBits .f32 0x43000000#32)
    + Ideal.ofBits .f32 0x358637BD#32) * g ⟨(y 1).val % 128, Nat.mod_lt _ (by decide)⟩ * (z y * Ideal.logistic (z y))

section
open Cert.Reference25Ideal Cert.Reference25Ideal.Facts₀
attribute [local instance] Cert.Reference25Ideal.Gen.facts

/-- The reference's heads side by side. -/
theorem host_flat (X : FVec Ideal S1x4096x8x128 .f32) (i : Fin 4096) (j : Fin 1024) :
    ∀ q r s, truncf .bf16 (shapeCast S4096x1024 (shapeCast S1x4096x1024 X r) q) s (ix2 i j)
      = X (ix4 0 i ⟨j.val / 128, by omega⟩ ⟨j.val % 128, by omega⟩) := by
  intro q r s
  pointwise []

/-- The reference's norm and gate of the heads. -/
theorem host_post (o z : FVec Ideal S4096x1024 .f32) (g : FVec Ideal S128 .f32) (i : Fin 4096) (h : Fin 8) (k : Fin 128) :
    (mulf (mulf (mulf (shapeCast S1x4096x8x128 o shapeCasts_S4096x1024_S1x4096x8x128) (broadcastInDim S1x4096x8x128 ![0, 1, 2, 3] bcast_S1x4096x8x1_S1x4096x8x128_0_1_2_3 (Host.rsqrt (addf (Host.divf (broadcastInDim S1x4096x8x1 ![0, 1, 2] bcast_S1x4096x8_S1x4096x8x1_0_1_2 (Host.reduceAdd (mulf (shapeCast S1x4096x8x128 o shapeCasts_S4096x1024_S1x4096x8x128) (shapeCast S1x4096x8x128 o shapeCasts_S4096x1024_S1x4096x8x128)) (constant (F := Ideal) S_ .f32 0x00000000#32) reducesTo_S1x4096x8x128_S1x4096x8_d3 h_S_)) (broadcastInDim S1x4096x8x1 ![] bcast_S_S1x4096x8x1 (constant (F := Ideal) S_ .f32 0x43000000#32))) (broadcastInDim S1x4096x8x1 ![] bcast_S_S1x4096x8x1 (constant (F := Ideal) S_ .f32 0x358637BD#32)))))) (broadcastInDim S1x4096x8x128 ![0, 1, 2, 3] bcast_S1x1x1x128_S1x4096x8x128_0_1_2_3 (broadcastInDim S1x1x1x128 ![3] bcast_S128_S1x1x1x128_3 g))) (mulf (shapeCast S1x4096x8x128 (broadcastInDim S1x4096x1024 ![1, 2] bcast_S4096x1024_S1x4096x1024_1_2 z) shapeCasts_S1x4096x1024_S1x4096x8x128) (Host.divf (broadcastInDim S1x4096x8x128 ![] bcast_S_S1x4096x8x128 (constant (F := Ideal) S_ .f32 0x3F800000#32)) (addf (broadcastInDim S1x4096x8x128 ![] bcast_S_S1x4096x8x128 (constant (F := Ideal) S_ .f32 0x3F800000#32)) (Host.exp (Host.negf (shapeCast S1x4096x8x128 (broadcastInDim S1x4096x1024 ![1, 2] bcast_S4096x1024_S1x4096x1024_1_2 z) shapeCasts_S1x4096x1024_S1x4096x8x128))))))) (ix4 0 i h k) = post o z (fun k => g (ix1 k)) (ix2 i ⟨128 * h.val + k.val, by omega⟩) := by
  generalize hr : post o z _ _ = r
  pointwise []
  subst hr
  have e : ∀ (A : FVec Ideal S4096x1024 .f32) (a b : Fin 1024), a.val = b.val → A (ix2 i a) = A (ix2 i b) := fun A a b h => by rw [Fin.ext h]
  unfold post headCol
  refine congrArg₂ (· * ·) (congrArg₂ (· * ·) (congrArg₂ (· * ·) (e o _ _ ?_) (congrArg (fun s => Ideal.rsqrt (Ideal.div s _ + _))
    (Finset.sum_congr rfl fun l _ => congrArg₂ (· * ·) (e o _ _ ?_) (e o _ _ ?_)))) (congrArg (fun t => g (ix1 t)) (Fin.ext ?_)))
    (congrArg (fun z => z * Ideal.logistic z) (e z _ _ ?_))
  · show h.val * 128 + k.val = 128 * h.val + k.val
    omega
  · show h.val * 128 + l.val = 128 * ((128 * h.val + k.val) / 128) + l.val
    omega
  · show h.val * 128 + l.val = 128 * ((128 * h.val + k.val) / 128) + l.val
    omega
  · show k.val = (128 * h.val + k.val) % 128
    omega
  · show h.val * 128 + k.val = 128 * h.val + k.val
    omega

end

open Cert.Kernel25Ideal Cert.Kernel25Ideal.Gen

variable (m : (ℓ : Loc nD τ sig) → Buf (Elt Ideal) ℓ) (c : Dev nD)

/-- One head's values, from the head's columns. -/
theorem head (o : FVec Ideal S256x128 .f32) (z : FVec Ideal S256x128 .bf16) (g : FVec Ideal S1x128 .f32) (i : Fin 256) (j : Fin 128) :
    k0_pay3 (F := Ideal) o z g (ix2 i j)
      = o (ix2 i j) * Ideal.rsqrt (Ideal.div (∑ k : Fin 128, o (ix2 i k) * o (ix2 i k)) (Ideal.ofBits .f32 0x43000000#32) + Ideal.ofBits .f32 0x358637BD#32)
        * g (ix2 0 j) * (z (ix2 i j) * Ideal.logistic (z (ix2 i j))) := by
  refine Eq.trans ?_ (congrArg (fun s => _ * (z (ix2 i j) * s)) (sigmoid (z (ix2 i j))))
  rw [← half]
  unfold k0_pay3
  pointwise []

theorem tile_in (h : ℕ) (hh : h < 8) : ∀ a, (![0, 128 * h] : Fin 2 → Nat) a + S256x128.size a ≤ S256x1024.size a := by
  intro a
  match a with
  | ⟨0, _⟩ => show 0 + 256 ≤ 256; omega
  | ⟨1, _⟩ => show 128 * h + 128 ≤ 1024; omega

section

variable (x0 : Vec Ideal S256x1024 .f32) (x1 : Vec Ideal S256x1024 .bf16) (x2 : Vec Ideal S1x128 .f32)

/-- The columns of head `h`. -/
abbrev tile (h : ℕ) (hh : h < 8) : Rect S256x1024 := Rect.unit (s := S256x1024) ![0, 128 * h] S256x128.size (tile_in h hh)

/-- The store of head `h`. -/
def piece (h : ℕ) (hh : h < 8) : View.Piece (Elt Ideal) S256x1024 .bf16 :=
  ⟨tile h hh, k0_pay3 (F := Ideal) (View.ld x0 (tile h hh)) (View.ld x1 (tile h hh)) x2⟩

/-- A point's stores, the last first. -/
def pieces : List (View.Piece (Elt Ideal) S256x1024 .bf16) :=
  [piece x0 x1 x2 7 (by decide), piece x0 x1 x2 6 (by decide), piece x0 x1 x2 5 (by decide), piece x0 x1 x2 4 (by decide),
    piece x0 x1 x2 3 (by decide), piece x0 x1 x2 2 (by decide), piece x0 x1 x2 1 (by decide), piece x0 x1 x2 0 (by decide)]

theorem ld_at {e : EltTy} (x : Vec Ideal S256x1024 e) (h : ℕ) (hh : h < 8) (i : Fin 256) (j : Fin 128) :
    (View.ld x (tile h hh) : Vec Ideal S256x128 e) (ix2 i j) = x (ix2 i ⟨128 * h + j.val, by omega⟩) :=
  View.ld_unit_apply_of _ _ _ _ _ _ fun a => by
    match a with
    | ⟨0, _⟩ => exact (Nat.zero_add _).symm
    | ⟨1, _⟩ => rfl

theorem piece_at (h : ℕ) (hh : h < 8) (i : Fin 256) (j : Fin 128) (j' : Fin 1024) (hj : j'.val = 128 * h + j.val) :
    (piece x0 x1 x2 h hh).2 (ix2 i j) = post x0 x1 (fun k => x2 (ix2 0 k)) (ix2 i j') := by
  have e : ∀ {e : EltTy} (x : Vec Ideal S256x1024 e) (k : Fin 128) (k' : Fin 1024), k'.val = 128 * h + k.val →
      (View.ld x (tile h hh) : Vec Ideal S256x128 e) (ix2 i k) = x (ix2 i k') := fun x k k' hk =>
    (ld_at x h hh i k).trans (congrArg (fun t => x (ix2 i t)) (Fin.ext hk.symm))
  refine (head _ _ _ i j).trans ?_
  exact congrArg₂ (· * ·) (congrArg₂ (· * ·) (congrArg₂ (· * ·) (e x0 j j' hj) (congrArg (fun s => Ideal.rsqrt (Ideal.div s _ + _))
    (Finset.sum_congr rfl fun k _ =>
      have hk := e x0 k (headCol j' k) (by show 128 * (j'.val / 128) + k.val = 128 * h + k.val; omega)
      congrArg₂ (· * ·) hk hk))) (congrArg (fun t => x2 (ix2 0 t)) (Fin.ext (by show j.val = j'.val % 128; omega))))
    (congrArg (fun z => z * Ideal.logistic z) (e x1 j j' hj))

theorem piece_of (h : ℕ) (hh : h < 8) (x : S256x128.Idx) :
    (piece x0 x1 x2 h hh).2 x = post x0 x1 (fun k => x2 (ix2 0 k)) ((tile h hh).emb x) := by
  have b : (x 1).val < 128 := (x 1).isLt
  have r : (tile h hh).emb x = ix2 (x 0) ⟨128 * h + (x 1).val, by omega⟩ := funext fun a => by
    match a with
    | ⟨0, _⟩ => exact Fin.ext (by show 0 + 1 * (x 0).val = (x 0).val; omega)
    | ⟨1, _⟩ => exact Fin.ext (by show 128 * h + 1 * (x 1).val = 128 * h + (x 1).val; omega)
  rw [r]
  exact (congrArg _ (mat_idx x)).trans (piece_at x0 x1 x2 h hh (x 0) (x 1) _ rfl)

theorem pieces_of : View.PiecesOf (post x0 x1 (fun k => x2 (ix2 0 k))) (pieces x0 x1 x2) := by
  unfold pieces
  refine ⟨?_, ?_, ?_, ?_, ?_, ?_, ?_, ?_, trivial⟩
  all_goals exact piece_of x0 x1 x2 _ _

theorem pieces_eq : View.canon (pieces x0 x1 x2) = post x0 x1 (fun k => x2 (ix2 0 k)) :=
  funext fun y => View.canon_apply_of_pieces _ _ (pieces_of x0 x1 x2).mem y
    (View.cover_of_tiledL (pieces x0 x1 x2) S256x128.size (by sl_kernel_rfl) y)

end

theorem stored (t : Fin cfg0.N) : outsAt0 m c t = View.canon (pieces (iblk m c 0 t) (X0_1 m c t) (iblk m c 2 t)) := by
  unfold outsAt0
  frame_open
  frame_out
  rfl

theorem idx : ∀ t : Fin cfg0.N, win0_0.index t = ![t.val, 0] ∧ win0_1.index t = ![t.val, 3] ∧ win0_2.index t = ![0, 0]
    ∧ win0_3.index t = ![t.val, 0] := (by decide +kernel : ∀ t : Fin grid0.N, _)

theorem blk0 (t : Fin cfg0.N) (i : Fin 256) (j : Fin 1024) (i' : Fin 4096) (hi : i'.val = 256 * t.val + i.val) :
    (iblk m c 0 t : Vec Ideal S256x1024 .f32) (ix2 i j) = (m ((c : Thread nD τ).loc main_arg0) : FVec Ideal S4096x1024 .f32) (ix2 i' j) := by
  refine Eq.trans (b := (V m c main_arg0 : FVec Ideal S4096x1024 .f32) (ix2 i' j)) ?_ ?_
  · blk_ext [iblk, idx t, hi]
  · rw [V_main_arg0]

theorem blk1 (t : Fin cfg0.N) (i : Fin 256) (j : Fin 1024) (i' : Fin 4096) (hi : i'.val = 256 * t.val + i.val) :
    (X0_1 m c t : Vec Ideal S256x1024 .bf16) (ix2 i j)
      = columns 3072 (by omega) (m ((c : Thread nD τ).loc main_arg1) : FVec Ideal S4096x10368 .f32) (ix2 i' j) := by
  refine Eq.trans (b := (V m c main_v0 : FVec Ideal S4096x10368 .bf16) (ix2 i' ⟨3072 + j.val, by omega⟩)) ?_ ?_
  · unfold X0_1 Pipeline.Window.fill
    rw [dif_pos (moved0_1 t _)]
    blk_ext [iblk, idx t, hi]
  · unfold V
    after_reads_simp
    rfl

theorem blk2 (t : Fin cfg0.N) (j : Fin 128) :
    (iblk m c 2 t : Vec Ideal S1x128 .f32) (ix2 0 j) = (m ((c : Thread nD τ).loc main_arg2) : FVec Ideal S128 .f32) (ix1 j) := by
  refine Eq.trans (b := (V m c main_v1 : FVec Ideal S1x128 .f32) (ix2 0 j)) ?_ ?_
  · blk_ext [iblk, idx t]
  · unfold V
    after_reads_simp
    pointwise []

theorem block (t : Fin cfg0.N) (i : Fin 256) (i' : Fin 4096) (j j' : Fin 1024) (hi : i'.val = t.val * 256 + i.val) (hj : j'.val = j.val) :
    post (iblk m c 0 t) (X0_1 m c t) (fun k => (iblk m c 2 t : Vec Ideal S1x128 .f32) (ix2 0 k)) (ix2 i j)
      = post (m ((c : Thread nD τ).loc main_arg0)) (columns 3072 (by omega) (m ((c : Thread nD τ).loc main_arg1)))
        (fun k => m ((c : Thread nD τ).loc main_arg2) (ix1 k)) (ix2 i' j') := by
  obtain rfl : j' = j := Fin.ext hj
  have hi' : i'.val = 256 * t.val + i.val := by omega
  have e := fun k => blk0 m c t i k i' hi'
  exact congrArg₂ (· * ·) (congrArg₂ (· * ·) (congrArg₂ (· * ·) (e j') (congrArg (fun s => Ideal.rsqrt (Ideal.div s _ + _))
    (Finset.sum_congr rfl fun k _ => congrArg₂ (· * ·) (e _) (e _)))) (blk2 m c t _))
    (congrArg (fun z => z * Ideal.logistic z) (blk1 m c t i j' i' hi'))

theorem result : (dats m 0 c).arrAt 3 cfg0.N
    = post (m ((c : Thread nD τ).loc main_arg0)) (columns 3072 (by omega) (m ((c : Thread nD τ).loc main_arg1)))
      (fun k => m ((c : Thread nD τ).loc main_arg2) (ix1 k)) := by
  refine (dats m 0 c).arrAt_eq_of_covers 3 _ (by decide +kernel) fun t hf y => ?_
  blk_simp
  rw [after0_3, stored, pieces_eq, mat_idx y]
  refine (block m c t _ _ _ _ ?_ ?_).trans (congrArg _ (mat_idx _).symm)
  · blk_simp [idx t]
  · blk_simp [idx t]

theorem algebraic : Cert.algebraic_Kernel25Ideal_Reference25Ideal (hKernel25Ideal := Cert.Kernel25Ideal.Gen.facts)
    (hReference25Ideal := Cert.Reference25Ideal.Gen.facts) := by
  intro m ρ m' ρ' _ heq
  refine ⟨fun c => post (m ((c : Thread nD τ).loc main_arg0)) (columns 3072 (by omega) (m ((c : Thread nD τ).loc main_arg1)))
    (fun k => m ((c : Thread nD τ).loc main_arg2) (ix1 k)), ?_, ?_⟩
  · exact (θ_run _ _ _).mono (fun r h c => ⟨(h c).1.trans (result m c), (h c).2⟩) (Cert.Kernel25Ideal.Value.run_blocks m ρ)
  · refine (θ_run _ _ _).mono (fun r h c => ⟨(h c).1.trans ?_, (h c).2⟩) (Cert.Reference25Ideal.Value.run m' ρ')
    obtain ⟨e0, e1, e2⟩ := heq c
    rw [e0, e1, e2]
    rw [QueryKeyValue.cut 3072 (by omega)]
    refine mat_ext fun i j => (host_flat _ i j _ _ _).trans ((host_post _ _ _ i _ _).trans (congrArg
      (fun t => post (m ((c : Thread nD τ).loc main_arg0)) (columns 3072 (by omega) (m ((c : Thread nD τ).loc main_arg1)))
        (fun k => m ((c : Thread nD τ).loc main_arg2) (ix1 k)) (ix2 i t)) (Fin.ext ?_)))
    show 128 * (j.val / 128) + j.val % 128 = j.val
    omega

end Cert.Proof.HeadNorm

end
-- ==== Proof.lean ====
/-
  The certificate's claims, put together.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Chain
public import proofs.«01_k».proof.Proof.Unchanged
public import proofs.«01_k».proof.Proof.Precondition
public import proofs.«01_k».proof.Proof.GradW
public import proofs.«01_k».proof.Proof.GradIn
public import proofs.«01_k».proof.Proof.GradNorm1
public import proofs.«01_k».proof.Proof.InProduct
public import proofs.«01_k».proof.Proof.FfnIn
public import proofs.«01_k».proof.Proof.GradNorm2
public import proofs.«01_k».proof.Proof.GradNorm2Add
public import proofs.«01_k».proof.Proof.GradAct
public import proofs.«01_k».proof.Proof.GradDown
public import proofs.«01_k».proof.Proof.FfnDown
public import proofs.«01_k».proof.Proof.OutProduct
public import proofs.«01_k».proof.Proof.GradMerged
public import proofs.«01_k».proof.Proof.GradOut
public import proofs.«01_k».proof.Proof.Branch
public import proofs.«01_k».proof.Proof.GradBranch
public import proofs.«01_k».proof.Proof.GradBranchW
public import proofs.«01_k».proof.Proof.GradMerge
public import proofs.«01_k».proof.Proof.Merge
public import proofs.«01_k».proof.Proof.Norm
public import proofs.«01_k».proof.Proof.AdamIn
public import proofs.«01_k».proof.Proof.AdamNorm
public import proofs.«01_k».proof.Proof.ConvGate
public import proofs.«01_k».proof.Proof.QueryKeyValue
public import proofs.«01_k».proof.Proof.HeadNorm

@[expose] public section

noncomputable section

namespace Cert.Proof

open Idealize.ShloMosaic Idealize.ShloMosaic.TcCoe Idealize.ShloMosaic.StableHlo Idealize.SL.Sem

/-- An array is the values' gradient once its rows are. -/
theorem eq_target {q k : Heads} {g b : Gate} {o : Heads} (A : FVec Ideal Cert.KernelIdeal.S4096x1024 .f32)
    (h : ∀ (t : ℕ) (_ : t < 64) (h : Fin 8) (i : Fin 64) (e : Fin 128),
      A (ix2 (pos (back t) i) (⟨128 * h.val + e.val, by omega⟩ : Fin 1024)) = DV q k g b o h t i e) : A = target q k g b o := by
  funext y
  have h0 : (y 0).val < 4096 := (y 0).isLt
  have h1 : (y 1).val < 1024 := (y 1).isLt
  refine Eq.trans (congrArg A ?_) (h (63 - (y 0).val / 64) (by omega) ⟨(y 1).val / 128, by omega⟩ ⟨(y 0).val % 64, by omega⟩
    ⟨(y 1).val % 128, by omega⟩)
  funext a
  match a with
  | ⟨0, _⟩ =>
    refine Fin.ext ?_
    show (y 0).val = 64 * (63 - (63 - (y 0).val / 64)) + (y 0).val % 64
    omega
  | ⟨1, _⟩ =>
    refine Fin.ext ?_
    show (y 1).val = 128 * ((y 1).val / 128) + (y 1).val % 128
    omega

/-- The reference's result is the values' gradient. -/
theorem reference_result (m : (ℓ : Loc Cert.ReferenceIdeal.nD Cert.ReferenceIdeal.τ Cert.ReferenceIdeal.sig) → Buf (Elt Ideal) ℓ)
    (c : Dev Cert.ReferenceIdeal.nD) (q k : Heads) (g b : Gate) (o : Heads) (R : Real q k g b o)
    (hq : launchContents m c (Proc.devRef .tc Cert.ReferenceIdeal.main_arg0) = q) (hk : launchContents m c (Proc.devRef .tc Cert.ReferenceIdeal.main_arg1) = k)
    (hg : launchContents m c (Proc.devRef .tc Cert.ReferenceIdeal.main_arg3) = g) (hb : launchContents m c (Proc.devRef .tc Cert.ReferenceIdeal.main_arg4) = b)
    (ho : launchContents m c (Proc.devRef .tc Cert.ReferenceIdeal.main_arg6) = o) :
    finalContents Cert.ReferenceIdeal.Value.condOps Cert.ReferenceIdeal.Value.preI Cert.ReferenceIdeal.Value.bodyI
      Cert.ReferenceIdeal.Value.postI 64 m c (Proc.devRef .tc Cert.ReferenceIdeal.main_v97) = target q k g b o :=
  eq_target _ fun t ht h i e => ref_at m c q k g b o R hq hk hg hb ho t ht h i e

theorem algebraic : Cert.algebraic_KernelIdeal_ReferenceIdeal_pre_finite (hKernelIdeal := Cert.KernelIdeal.Gen.facts)
    (hReferenceIdeal := Cert.ReferenceIdeal.Gen.facts) (hPre_finite := finiteFacts) := by
  intro m ρ m' ρ' hpre heq
  have R := fun c => real_of_pre _ _ _ _ _ _ _ (hpre c)
  refine ⟨fun c => target (m (c.tc.loc Cert.KernelIdeal.main_arg0)) (m (c.tc.loc Cert.KernelIdeal.main_arg1))
    (m (c.tc.loc Cert.KernelIdeal.main_arg3)) (m (c.tc.loc Cert.KernelIdeal.main_arg4)) (m (c.tc.loc Cert.KernelIdeal.main_arg6)), ?_, ?_⟩
  · refine (θ_run _ _ _).mono (fun r h c => ?_) (Cert.KernelIdeal.Value.run_blocks m ρ)
    obtain ⟨-, -, h9, -, hargs⟩ := h c
    exact ⟨h9.trans (kernel_result m c (R c) rfl rfl rfl rfl rfl), hargs⟩
  · refine (θ_run _ _ _).mono (fun r h c => ?_) (reference_run m' ρ')
    obtain ⟨hres, hargs⟩ := h.1 c
    obtain ⟨e0, e1, -, e3, e4, -, e6⟩ := heq c
    exact ⟨hres.trans (reference_result m' c _ _ _ _ _ (R c) e0 e1 e3 e4 e6), hargs⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    finiteFacts,
    fun m ρ _ => Cert.Kernel.Gen.frame m ρ, fun m ρ _ => Cert.KernelIdeal.Gen.frame m ρ, fun m ρ _ => Cert.KernelIdeal.Gen.frame m ρ,
    fun m ρ _ => (θ_run _ _ _).mono (fun _ h => ⟨fun c => (h.1 c).2, h.2⟩) (reference_run m ρ), fun m ρ _ => (θ_run _ _ _).mono (fun _ h => ⟨fun c => (h.1 c).2, h.2⟩) (reference_run m ρ),
    fun m ρ _ => Cert.Kernel2.Gen.frame m ρ, fun m ρ _ => Cert.Kernel2Ideal.Gen.frame m ρ,
    fun m ρ _ => (θ_run _ _ _).mono (fun r h => ⟨fun c => (h c).2, sem_eq_zero_of_no_sems rfl r.2⟩) (Cert.Reference2Ideal.Value.run m ρ),
    fun m ρ _ => Cert.Kernel3.Gen.frame m ρ, fun m ρ _ => Cert.Kernel3Ideal.Gen.frame m ρ,
    fun m ρ _ => (θ_run _ _ _).mono (fun r h => ⟨fun c => (h c).2, sem_eq_zero_of_no_sems rfl r.2⟩) (Cert.Reference3Ideal.Value.run m ρ),
    fun m ρ _ => Cert.Kernel4.Gen.frame m ρ, fun m ρ _ => Cert.Kernel4Ideal.Gen.frame m ρ,
    fun m ρ _ => (θ_run _ _ _).mono (fun r h => ⟨fun c => (h c).2, sem_eq_zero_of_no_sems rfl r.2⟩) (Cert.Reference4Ideal.Value.run m ρ),
    fun m ρ _ => Cert.Kernel5.Gen.frame m ρ, fun m ρ _ => Cert.Kernel5Ideal.Gen.frame m ρ,
    fun m ρ _ => (θ_run _ _ _).mono (fun r h => ⟨fun c => (h c).2, sem_eq_zero_of_no_sems rfl r.2⟩) (Cert.Reference5Ideal.Value.run m ρ),
    fun m ρ _ => Cert.Kernel6.Gen.frame m ρ, fun m ρ _ => Cert.Kernel6Ideal.Gen.frame m ρ,
    fun m ρ _ => (θ_run _ _ _).mono (fun r h => ⟨fun c => (h c).2, sem_eq_zero_of_no_sems rfl r.2⟩) (Cert.Reference6Ideal.Value.run m ρ),
    fun m ρ _ => Cert.Kernel7.Gen.frame m ρ, fun m ρ _ => Cert.Kernel7Ideal.Gen.frame m ρ,
    fun m ρ _ => (θ_run _ _ _).mono (fun r h => ⟨fun c => (h c).2, sem_eq_zero_of_no_sems rfl r.2⟩) (Cert.Reference7Ideal.Value.run m ρ),
    fun m ρ _ => Cert.Kernel8.Gen.frame m ρ, fun m ρ _ => Cert.Kernel8Ideal.Gen.frame m ρ,
    fun m ρ _ => (θ_run _ _ _).mono (fun r h => ⟨fun c => (h c).2, sem_eq_zero_of_no_sems rfl r.2⟩) (Cert.Reference8Ideal.Value.run m ρ),
    fun m ρ _ => Cert.Kernel9.Gen.frame m ρ, fun m ρ _ => Cert.Kernel9Ideal.Gen.frame m ρ,
    fun m ρ _ => (θ_run _ _ _).mono (fun r h => ⟨fun c => (h c).2, sem_eq_zero_of_no_sems rfl r.2⟩) (Cert.Reference9Ideal.Value.run m ρ),
    fun m ρ _ => Cert.Kernel10.Gen.frame m ρ, fun m ρ _ => Cert.Kernel10Ideal.Gen.frame m ρ,
    fun m ρ _ => (θ_run _ _ _).mono (fun r h => ⟨fun c => (h c).2, sem_eq_zero_of_no_sems rfl r.2⟩) (Cert.Reference10Ideal.Value.run m ρ),
    fun m ρ _ => Cert.Kernel11.Gen.frame m ρ, fun m ρ _ => Cert.Kernel11Ideal.Gen.frame m ρ,
    fun m ρ _ => (θ_run _ _ _).mono (fun r h => ⟨fun c => (h c).2, sem_eq_zero_of_no_sems rfl r.2⟩) (Cert.Reference11Ideal.Value.run m ρ),
    fun m ρ _ => Cert.Kernel12.Gen.frame m ρ, fun m ρ _ => Cert.Kernel12Ideal.Gen.frame m ρ,
    fun m ρ _ => (θ_run _ _ _).mono (fun r h => ⟨fun c => (h c).2, sem_eq_zero_of_no_sems rfl r.2⟩) (Cert.Reference12Ideal.Value.run m ρ),
    fun m ρ _ => Cert.Kernel13.Gen.frame m ρ, fun m ρ _ => Cert.Kernel13Ideal.Gen.frame m ρ,
    fun m ρ _ => (θ_run _ _ _).mono (fun r h => ⟨fun c => (h c).2, sem_eq_zero_of_no_sems rfl r.2⟩) (Cert.Reference13Ideal.Value.run m ρ),
    fun m ρ _ => Cert.Kernel14.Gen.frame m ρ, fun m ρ _ => Cert.Kernel14Ideal.Gen.frame m ρ,
    fun m ρ _ => (θ_run _ _ _).mono (fun r h => ⟨fun c => (h c).2, sem_eq_zero_of_no_sems rfl r.2⟩) (Cert.Reference14Ideal.Value.run m ρ),
    fun m ρ _ => Cert.Kernel15.Gen.frame m ρ, fun m ρ _ => Cert.Kernel15Ideal.Gen.frame m ρ,
    fun m ρ _ => (θ_run _ _ _).mono (fun r h => ⟨fun c => (h c).2, sem_eq_zero_of_no_sems rfl r.2⟩) (Cert.Reference15Ideal.Value.run m ρ),
    fun m ρ _ => Cert.Kernel16.Gen.frame m ρ, fun m ρ _ => Cert.Kernel16Ideal.Gen.frame m ρ,
    fun m ρ _ => (θ_run _ _ _).mono (fun r h => ⟨fun c => (h c).2, sem_eq_zero_of_no_sems rfl r.2⟩) (Cert.Reference16Ideal.Value.run m ρ),
    fun m ρ _ => Cert.Kernel17.Gen.frame m ρ, fun m ρ _ => Cert.Kernel17Ideal.Gen.frame m ρ,
    fun m ρ _ => (θ_run _ _ _).mono (fun r h => ⟨fun c => (h c).2, sem_eq_zero_of_no_sems rfl r.2⟩) (Cert.Reference17Ideal.Value.run m ρ),
    fun m ρ _ => Cert.Kernel18.Gen.frame m ρ, fun m ρ _ => Cert.Kernel18Ideal.Gen.frame m ρ,
    fun m ρ _ => (θ_run _ _ _).mono (fun r h => ⟨fun c => (h c).2.2.2.2, sem_eq_zero_of_no_sems rfl r.2⟩) (Cert.Reference18Ideal.Value.run m ρ),
    fun m ρ _ => Cert.Kernel19.Gen.frame m ρ, fun m ρ _ => Cert.Kernel19Ideal.Gen.frame m ρ,
    fun m ρ _ => (θ_run _ _ _).mono (fun r h => ⟨fun c => (h c).2, sem_eq_zero_of_no_sems rfl r.2⟩) (Cert.Reference19Ideal.Value.run m ρ),
    fun m ρ _ => Cert.Kernel20.Gen.frame m ρ, fun m ρ _ => Cert.Kernel20Ideal.Gen.frame m ρ,
    fun m ρ _ => (θ_run _ _ _).mono (fun r h => ⟨fun c => (h c).2, sem_eq_zero_of_no_sems rfl r.2⟩) (Cert.Reference20Ideal.Value.run m ρ),
    fun m ρ _ => Cert.Kernel21.Gen.frame m ρ, fun m ρ _ => Cert.Kernel21Ideal.Gen.frame m ρ,
    fun m ρ _ => (θ_run _ _ _).mono (fun r h => ⟨fun c => (h c).2.2.2, sem_eq_zero_of_no_sems rfl r.2⟩) (Cert.Reference21Ideal.Value.run m ρ),
    fun m ρ _ => Cert.Kernel22.Gen.frame m ρ, fun m ρ _ => Cert.Kernel22Ideal.Gen.frame m ρ,
    fun m ρ _ => (θ_run _ _ _).mono (fun r h => ⟨fun c => (h c).2.2.2, sem_eq_zero_of_no_sems rfl r.2⟩) (Cert.Reference22Ideal.Value.run m ρ),
    fun m ρ _ => Cert.Kernel23.Gen.frame m ρ, fun m ρ _ => Cert.Kernel23Ideal.Gen.frame m ρ,
    fun m ρ _ => (θ_run _ _ _).mono (fun r h => ⟨fun c => (h c).2, sem_eq_zero_of_no_sems rfl r.2⟩) (Cert.Reference23Ideal.Value.run m ρ),
    fun m ρ _ => Cert.Kernel24.Gen.frame m ρ, fun m ρ _ => Cert.Kernel24Ideal.Gen.frame m ρ,
    fun m ρ _ => (θ_run _ _ _).mono (fun r h => ⟨fun c => (h c).2, sem_eq_zero_of_no_sems rfl r.2⟩) (Cert.Reference24Ideal.Value.run m ρ),
    fun m ρ _ => Cert.Kernel25.Gen.frame m ρ, fun m ρ _ => Cert.Kernel25Ideal.Gen.frame m ρ,
    fun m ρ _ => (θ_run _ _ _).mono (fun r h => ⟨fun c => (h c).2, sem_eq_zero_of_no_sems rfl r.2⟩) (Cert.Reference25Ideal.Value.run m ρ),
    trivial, algebraic,
    trivial, GradW.algebraic,
    trivial, GradIn.algebraic,
    trivial, GradNorm1.algebraic,
    trivial, InProduct.algebraic,
    trivial, FfnIn.algebraic,
    trivial, GradNorm2.algebraic,
    trivial, GradNorm2Add.algebraic,
    trivial, GradAct.algebraic,
    trivial, GradDown.algebraic,
    trivial, FfnDown.algebraic,
    trivial, OutProduct.algebraic,
    trivial, GradMerged.algebraic,
    trivial, GradOut.algebraic,
    trivial, Branch.algebraic,
    trivial, GradBranch.algebraic,
    trivial, GradBranchW.algebraic,
    trivial, GradMerge.algebraic,
    trivial, Merge.algebraic,
    trivial, Norm.algebraic,
    trivial, AdamIn.algebraic,
    trivial, AdamNorm.algebraic,
    trivial, ConvGate.algebraic,
    trivial, QueryKeyValue.algebraic,
    trivial, HeadNorm.algebraic⟩

end Cert.Proof

end
